-- ==== Defs.lean ====
def Pre_Kernel [hPre_exchange_Kernel : Cert.Pre_exchange_Kernel.Facts] (m : (ℓ : Loc Cert.Kernel.nD Cert.Kernel.τ Cert.Kernel.sig) → Buf (Elt Bits) ℓ) : Prop :=
  ∀ c : Dev Cert.Kernel.nD,
    (Cert.Pre_exchange_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchange_Kernel : Cert.Pre_exchange_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchange_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchange_ReferenceIdeal [hPre_exchange_ReferenceIdeal : Cert.Pre_exchange_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchange_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchange_ReferenceIdeal [hReferenceIdeal : Cert.ReferenceIdeal.Facts] [hPre_exchange_ReferenceIdeal : Cert.Pre_exchange_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchange_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchange_Kernel : Cert.Pre_exchange_Kernel.Facts) (hPre_exchange_ReferenceIdeal : Cert.Pre_exchange_ReferenceIdeal.Facts),
    quiescent_Kernel (hKernel := hKernel) (hPre_exchange_Kernel := hPre_exchange_Kernel)
    ∧ quiescent_KernelIdeal (hKernelIdeal := hKernelIdeal) (hPre_exchange_Kernel := hPre_exchange_Kernel)
    ∧ quiescent_ReferenceIdeal (hReferenceIdeal := hReferenceIdeal)
    ∧ quiescent_ReferenceIdeal_pre_exchange_ReferenceIdeal (hReferenceIdeal := hReferenceIdeal) (hPre_exchange_ReferenceIdeal := hPre_exchange_ReferenceIdeal)
    ∧ preserves_Kernel_KernelIdeal
    ∧ algebraic_KernelIdeal_ReferenceIdeal (hKernelIdeal := hKernelIdeal) (hReferenceIdeal := hReferenceIdeal) (hPre_exchange_Kernel := hPre_exchange_Kernel)
-- ==== Pre_exchange_Kernel.lean ====
abbrev S1x4096x2048 : Shape := ⟨3, ![1, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_exchange_ReferenceIdeal.lean ====
abbrev S2x4096x2048 : Shape := ⟨3, ![2, 4096, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x4096x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x4096x2048 : Shape := ⟨3, ![1, 4096, 2048]⟩
abbrev S2 : Shape := ⟨1, ![2]⟩
abbrev S22x64x2048 : Shape := ⟨3, ![22, 64, 2048]⟩
abbrev S14x64x2048 : Shape := ⟨3, ![14, 64, 2048]⟩
abbrev S21x64x2048 : Shape := ⟨3, ![21, 64, 2048]⟩
abbrev S22 : Shape := ⟨1, ![22]⟩
abbrev S21 : Shape := ⟨1, ![21]⟩
abbrev S64 : Shape := ⟨1, ![64]⟩
abbrev S1 : Shape := ⟨1, ![1]⟩
abbrev S_ : Shape := ⟨0, ![]⟩
abbrev S1x64x2048 : Shape := ⟨3, ![1, 64, 2048]⟩
abbrev S64x2048 : Shape := ⟨2, ![64, 2048]⟩

abbrev nBuf : Space → Nat
  | .hbm => 3
  | .vmem => 5
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .bf16⟩
  | .local _ .vmem, ⟨0, _⟩ => ⟨S22x64x2048, .f32⟩
  | .local _ .vmem, ⟨1, _⟩ => ⟨S22x64x2048, .bf16⟩
  | .local _ .vmem, ⟨2, _⟩ => ⟨S14x64x2048, .bf16⟩
  | .local _ .vmem, ⟨3, _⟩ => ⟨S21x64x2048, .bf16⟩
  | .local _ .vmem, ⟨4, _⟩ => ⟨S21x64x2048, .bf16⟩
  | .local _ .smem, ⟨0, _⟩ => ⟨S2, .i32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 215 → Bool
  | ⟨i, _⟩ => dmaSemScopedAt i

abbrev sig : RefSig :=
  (ofTc nBuf bufTy 1 215 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v36 : Index := Scalar.indexCast v2
  ![v36.toNat]
def k0_off2 (d0 : Dev nD) : Fin 3 → Nat :=
  let c0_i32_104 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c0_i32_103 : BitVec 32 := 0#32
  let v174 : BitVec 32 := Scalar.addi v173 c0_i32_103
  let c0_i32_109 : BitVec 32 := 0#32
  ![0, v174.toNat, 0]
def k0_off3 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c64_i32 : BitVec 32 := 64#32
  let v174 : BitVec 32 := Scalar.addi v173 c64_i32
  let c0_i32_108 : BitVec 32 := 0#32
  ![0, v174.toNat, 0]
def k0_off4 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c128_i32 : BitVec 32 := 128#32
  let v174 : BitVec 32 := Scalar.addi v173 c128_i32
  let c0_i32_108 : BitVec 32 := 0#32
  ![0, v174.toNat, 0]
def k0_off5 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c192_i32 : BitVec 32 := 192#32
  let v174 : BitVec 32 := Scalar.addi v173 c192_i32
  let c0_i32_108 : BitVec 32 := 0#32
  ![0, v174.toNat, 0]
def k0_off6 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c256_i32 : BitVec 32 := 256#32
  let v174 : BitVec 32 := Scalar.addi v173 c256_i32
  let c0_i32_108 : BitVec 32 := 0#32
  ![0, v174.toNat, 0]
def k0_off7 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c320_i32 : BitVec 32 := 320#32
  let v174 : BitVec 32 := Scalar.addi v173 c320_i32
  let c0_i32_107 : BitVec 32 := 0#32
  ![0, v174.toNat, 0]
def k0_off8 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c384_i32 : BitVec 32 := 384#32
  let v174 : BitVec 32 := Scalar.addi v173 c384_i32
  let c0_i32_107 : BitVec 32 := 0#32
  ![0, v174.toNat, 0]
def k0_off9 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c448_i32 : BitVec 32 := 448#32
  let v174 : BitVec 32 := Scalar.addi v173 c448_i32
  let c0_i32_107 : BitVec 32 := 0#32
  ![0, v174.toNat, 0]
def k0_off10 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c512_i32 : BitVec 32 := 512#32
  let v174 : BitVec 32 := Scalar.addi v173 c512_i32
  let c0_i32_108 : BitVec 32 := 0#32
  ![0, v174.toNat, 0]
def k0_off11 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c576_i32 : BitVec 32 := 576#32
  let v174 : BitVec 32 := Scalar.addi v173 c576_i32
  let c0_i32_107 : BitVec 32 := 0#32
  ![0, v174.toNat, 0]
def k0_off12 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c640_i32 : BitVec 32 := 640#32
  let v174 : BitVec 32 := Scalar.addi v173 c640_i32
  let c0_i32_107 : BitVec 32 := 0#32
  ![0, v174.toNat, 0]
def k0_off13 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c704_i32 : BitVec 32 := 704#32
  let v174 : BitVec 32 := Scalar.addi v173 c704_i32
  let c0_i32_107 : BitVec 32 := 0#32
  ![0, v174.toNat, 0]
def k0_off14 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c768_i32 : BitVec 32 := 768#32
  let v174 : BitVec 32 := Scalar.addi v173 c768_i32
  let c0_i32_107 : BitVec 32 := 0#32
  ![0, v174.toNat, 0]
def k0_off15 (d0 : Dev nD) : Fin 3 → Nat :=
  let c0_i32_103 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let c832_i32 : BitVec 32 := 832#32
  let v174 : BitVec 32 := Scalar.addi v173 c832_i32
  let c0_i32_107 : BitVec 32 := 0#32
  ![0, v174.toNat, 0]
def k0_dev1 (d0 : Dev nD) : Nat :=
  let c0_i32_86 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_85 : BitVec 32 := 8#32
  let v150 : BitVec 32 := Scalar.muli v19 c8_i32_85
  let v151 : BitVec 32 := Scalar.addi c0_i32_86 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v152 : BitVec 32 := Scalar.muli v5 c4_i32_87
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v154 : BitVec 32 := Scalar.muli v8 c1_i32_88
  let v155 : BitVec 32 := Scalar.addi v153 v154
  v155.toNat
def k0_dev2 (d0 : Dev nD) : Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_90 : BitVec 32 := 8#32
  let v156 : BitVec 32 := Scalar.muli v2 c8_i32_90
  let v157 : BitVec 32 := Scalar.addi c0_i32_91 v156
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_92 : BitVec 32 := 4#32
  let v158 : BitVec 32 := Scalar.muli v20 c4_i32_92
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v160 : BitVec 32 := Scalar.muli v8 c1_i32_93
  let v161 : BitVec 32 := Scalar.addi v159 v160
  v161.toNat
def k0_dev3 (d0 : Dev nD) : Nat :=
  let c0_i32_96 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_95 : BitVec 32 := 8#32
  let v162 : BitVec 32 := Scalar.muli v2 c8_i32_95
  let v163 : BitVec 32 := Scalar.addi c0_i32_96 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_97 : BitVec 32 := 4#32
  let v164 : BitVec 32 := Scalar.muli v5 c4_i32_97
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_98 : BitVec 32 := 1#32
  let v166 : BitVec 32 := Scalar.muli v23 c1_i32_98
  let v167 : BitVec 32 := Scalar.addi v165 v166
  v167.toNat
def k0_off16 (d0 : Dev nD) (c0_i32_103 : BitVec 32) : Fin 3 → Nat :=
  let c0_i32_104 : BitVec 32 := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v24 : BitVec 32 := Scalar.muli c2_i32_11 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v25 : BitVec 32 := Scalar.addi v24 v18
  let c896_i32 : BitVec 32 := 896#32
  let v173 : BitVec 32 := Scalar.muli v25 c896_i32
  let v174 : BitVec 32 := Scalar.addi v173 c0_i32_103
  let c0_i32_109 : BitVec 32 := 0#32
  ![0, v174.toNat, 0]
def k0_dev4 (d0 : Dev nD) : Nat :=
  let c0_i32_120 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_119 : BitVec 32 := 8#32
  let v187 : BitVec 32 := Scalar.muli v19 c8_i32_119
  let v188 : BitVec 32 := Scalar.addi c0_i32_120 v187
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v189 : BitVec 32 := Scalar.muli v5 c4_i32_121
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v191 : BitVec 32 := Scalar.muli v8 c1_i32_122
  let v192 : BitVec 32 := Scalar.addi v190 v191
  v192.toNat
def k0_dev5 (d0 : Dev nD) : Nat :=
  let c0_i32_144 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_143 : BitVec 32 := 8#32
  let v215 : BitVec 32 := Scalar.muli v19 c8_i32_143
  let v216 : BitVec 32 := Scalar.addi c0_i32_144 v215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v217 : BitVec 32 := Scalar.muli v5 c4_i32_145
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v219 : BitVec 32 := Scalar.muli v8 c1_i32_146
  let v220 : BitVec 32 := Scalar.addi v218 v219
  v220.toNat
def k0_dev6 (d0 : Dev nD) : Nat :=
  let c0_i32_168 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_167 : BitVec 32 := 8#32
  let v243 : BitVec 32 := Scalar.muli v19 c8_i32_167
  let v244 : BitVec 32 := Scalar.addi c0_i32_168 v243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v245 : BitVec 32 := Scalar.muli v5 c4_i32_169
  let v246 : BitVec 32 := Scalar.addi v244 v245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v247 : BitVec 32 := Scalar.muli v8 c1_i32_170
  let v248 : BitVec 32 := Scalar.addi v246 v247
  v248.toNat
def k0_dev7 (d0 : Dev nD) : Nat :=
  let c0_i32_192 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_191 : BitVec 32 := 8#32
  let v271 : BitVec 32 := Scalar.muli v19 c8_i32_191
  let v272 : BitVec 32 := Scalar.addi c0_i32_192 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_193 : BitVec 32 := 4#32
  let v273 : BitVec 32 := Scalar.muli v5 c4_i32_193
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v275 : BitVec 32 := Scalar.muli v8 c1_i32_194
  let v276 : BitVec 32 := Scalar.addi v274 v275
  v276.toNat
def k0_dev8 (d0 : Dev nD) : Nat :=
  let c0_i32_216 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_215 : BitVec 32 := 8#32
  let v299 : BitVec 32 := Scalar.muli v19 c8_i32_215
  let v300 : BitVec 32 := Scalar.addi c0_i32_216 v299
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_217 : BitVec 32 := 4#32
  let v301 : BitVec 32 := Scalar.muli v5 c4_i32_217
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v303 : BitVec 32 := Scalar.muli v8 c1_i32_218
  let v304 : BitVec 32 := Scalar.addi v302 v303
  v304.toNat
def k0_dev9 (d0 : Dev nD) : Nat :=
  let c0_i32_239 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_238 : BitVec 32 := 8#32
  let v327 : BitVec 32 := Scalar.muli v19 c8_i32_238
  let v328 : BitVec 32 := Scalar.addi c0_i32_239 v327
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_240 : BitVec 32 := 4#32
  let v329 : BitVec 32 := Scalar.muli v5 c4_i32_240
  let v330 : BitVec 32 := Scalar.addi v328 v329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v331 : BitVec 32 := Scalar.muli v8 c1_i32_241
  let v332 : BitVec 32 := Scalar.addi v330 v331
  v332.toNat
def k0_dev10 (d0 : Dev nD) : Nat :=
  let c0_i32_262 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_261 : BitVec 32 := 8#32
  let v355 : BitVec 32 := Scalar.muli v19 c8_i32_261
  let v356 : BitVec 32 := Scalar.addi c0_i32_262 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v357 : BitVec 32 := Scalar.muli v5 c4_i32_263
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v359 : BitVec 32 := Scalar.muli v8 c1_i32_264
  let v360 : BitVec 32 := Scalar.addi v358 v359
  v360.toNat
def k0_dev11 (d0 : Dev nD) : Nat :=
  let c0_i32_285 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_284 : BitVec 32 := 8#32
  let v383 : BitVec 32 := Scalar.muli v19 c8_i32_284
  let v384 : BitVec 32 := Scalar.addi c0_i32_285 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_286 : BitVec 32 := 4#32
  let v385 : BitVec 32 := Scalar.muli v5 c4_i32_286
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v387 : BitVec 32 := Scalar.muli v8 c1_i32_287
  let v388 : BitVec 32 := Scalar.addi v386 v387
  v388.toNat
def k0_dev12 (d0 : Dev nD) : Nat :=
  let c0_i32_309 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_308 : BitVec 32 := 8#32
  let v411 : BitVec 32 := Scalar.muli v19 c8_i32_308
  let v412 : BitVec 32 := Scalar.addi c0_i32_309 v411
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_310 : BitVec 32 := 4#32
  let v413 : BitVec 32 := Scalar.muli v5 c4_i32_310
  let v414 : BitVec 32 := Scalar.addi v412 v413
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v415 : BitVec 32 := Scalar.muli v8 c1_i32_311
  let v416 : BitVec 32 := Scalar.addi v414 v415
  v416.toNat
def k0_dev13 (d0 : Dev nD) : Nat :=
  let c0_i32_332 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_331 : BitVec 32 := 8#32
  let v439 : BitVec 32 := Scalar.muli v19 c8_i32_331
  let v440 : BitVec 32 := Scalar.addi c0_i32_332 v439
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_333 : BitVec 32 := 4#32
  let v441 : BitVec 32 := Scalar.muli v5 c4_i32_333
  let v442 : BitVec 32 := Scalar.addi v440 v441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v443 : BitVec 32 := Scalar.muli v8 c1_i32_334
  let v444 : BitVec 32 := Scalar.addi v442 v443
  v444.toNat
def k0_dev14 (d0 : Dev nD) : Nat :=
  let c0_i32_355 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_354 : BitVec 32 := 8#32
  let v467 : BitVec 32 := Scalar.muli v19 c8_i32_354
  let v468 : BitVec 32 := Scalar.addi c0_i32_355 v467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v469 : BitVec 32 := Scalar.muli v5 c4_i32_356
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v471 : BitVec 32 := Scalar.muli v8 c1_i32_357
  let v472 : BitVec 32 := Scalar.addi v470 v471
  v472.toNat
def k0_dev15 (d0 : Dev nD) : Nat :=
  let c0_i32_378 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_377 : BitVec 32 := 8#32
  let v495 : BitVec 32 := Scalar.muli v19 c8_i32_377
  let v496 : BitVec 32 := Scalar.addi c0_i32_378 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_379 : BitVec 32 := 4#32
  let v497 : BitVec 32 := Scalar.muli v5 c4_i32_379
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_380 : BitVec 32 := 1#32
  let v499 : BitVec 32 := Scalar.muli v8 c1_i32_380
  let v500 : BitVec 32 := Scalar.addi v498 v499
  v500.toNat
def k0_dev16 (d0 : Dev nD) : Nat :=
  let c0_i32_401 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_400 : BitVec 32 := 8#32
  let v523 : BitVec 32 := Scalar.muli v19 c8_i32_400
  let v524 : BitVec 32 := Scalar.addi c0_i32_401 v523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_402 : BitVec 32 := 4#32
  let v525 : BitVec 32 := Scalar.muli v5 c4_i32_402
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_403 : BitVec 32 := 1#32
  let v527 : BitVec 32 := Scalar.muli v8 c1_i32_403
  let v528 : BitVec 32 := Scalar.addi v526 v527
  v528.toNat
def k0_dev17 (d0 : Dev nD) : Nat :=
  let c0_i32_424 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_423 : BitVec 32 := 8#32
  let v551 : BitVec 32 := Scalar.muli v19 c8_i32_423
  let v552 : BitVec 32 := Scalar.addi c0_i32_424 v551
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_425 : BitVec 32 := 4#32
  let v553 : BitVec 32 := Scalar.muli v5 c4_i32_425
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v555 : BitVec 32 := Scalar.muli v8 c1_i32_426
  let v556 : BitVec 32 := Scalar.addi v554 v555
  v556.toNat
def k0_dev18 (d0 : Dev nD) : Nat :=
  let c0_i32_446 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_445 : BitVec 32 := 8#32
  let v577 : BitVec 32 := Scalar.muli v19 c8_i32_445
  let v578 : BitVec 32 := Scalar.addi c0_i32_446 v577
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_447 : BitVec 32 := 4#32
  let v579 : BitVec 32 := Scalar.muli v5 c4_i32_447
  let v580 : BitVec 32 := Scalar.addi v578 v579
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v581 : BitVec 32 := Scalar.muli v8 c1_i32_448
  let v582 : BitVec 32 := Scalar.addi v580 v581
  v582.toNat
def k0_dev19 (d0 : Dev nD) : Nat :=
  let c0_i32_468 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_467 : BitVec 32 := 8#32
  let v603 : BitVec 32 := Scalar.muli v19 c8_i32_467
  let v604 : BitVec 32 := Scalar.addi c0_i32_468 v603
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_469 : BitVec 32 := 4#32
  let v605 : BitVec 32 := Scalar.muli v5 c4_i32_469
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_470 : BitVec 32 := 1#32
  let v607 : BitVec 32 := Scalar.muli v8 c1_i32_470
  let v608 : BitVec 32 := Scalar.addi v606 v607
  v608.toNat
def k0_dev20 (d0 : Dev nD) : Nat :=
  let c0_i32_490 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_489 : BitVec 32 := 8#32
  let v629 : BitVec 32 := Scalar.muli v19 c8_i32_489
  let v630 : BitVec 32 := Scalar.addi c0_i32_490 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_491 : BitVec 32 := 4#32
  let v631 : BitVec 32 := Scalar.muli v5 c4_i32_491
  let v632 : BitVec 32 := Scalar.addi v630 v631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v633 : BitVec 32 := Scalar.muli v8 c1_i32_492
  let v634 : BitVec 32 := Scalar.addi v632 v633
  v634.toNat
def k0_dev21 (d0 : Dev nD) : Nat :=
  let c0_i32_512 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_511 : BitVec 32 := 8#32
  let v655 : BitVec 32 := Scalar.muli v19 c8_i32_511
  let v656 : BitVec 32 := Scalar.addi c0_i32_512 v655
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_513 : BitVec 32 := 4#32
  let v657 : BitVec 32 := Scalar.muli v5 c4_i32_513
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_514 : BitVec 32 := 1#32
  let v659 : BitVec 32 := Scalar.muli v8 c1_i32_514
  let v660 : BitVec 32 := Scalar.addi v658 v659
  v660.toNat
def k0_dev22 (d0 : Dev nD) : Nat :=
  let c0_i32_534 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_533 : BitVec 32 := 8#32
  let v681 : BitVec 32 := Scalar.muli v19 c8_i32_533
  let v682 : BitVec 32 := Scalar.addi c0_i32_534 v681
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_535 : BitVec 32 := 4#32
  let v683 : BitVec 32 := Scalar.muli v5 c4_i32_535
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v685 : BitVec 32 := Scalar.muli v8 c1_i32_536
  let v686 : BitVec 32 := Scalar.addi v684 v685
  v686.toNat
def k0_dev23 (d0 : Dev nD) : Nat :=
  let c0_i32_556 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_555 : BitVec 32 := 8#32
  let v707 : BitVec 32 := Scalar.muli v19 c8_i32_555
  let v708 : BitVec 32 := Scalar.addi c0_i32_556 v707
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_557 : BitVec 32 := 4#32
  let v709 : BitVec 32 := Scalar.muli v5 c4_i32_557
  let v710 : BitVec 32 := Scalar.addi v708 v709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_558 : BitVec 32 := 1#32
  let v711 : BitVec 32 := Scalar.muli v8 c1_i32_558
  let v712 : BitVec 32 := Scalar.addi v710 v711
  v712.toNat
def k0_dev24 (d0 : Dev nD) : Nat :=
  let c0_i32_578 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_577 : BitVec 32 := 8#32
  let v733 : BitVec 32 := Scalar.muli v19 c8_i32_577
  let v734 : BitVec 32 := Scalar.addi c0_i32_578 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_579 : BitVec 32 := 4#32
  let v735 : BitVec 32 := Scalar.muli v5 c4_i32_579
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_580 : BitVec 32 := 1#32
  let v737 : BitVec 32 := Scalar.muli v8 c1_i32_580
  let v738 : BitVec 32 := Scalar.addi v736 v737
  v738.toNat
def k0_dev25 (d0 : Dev nD) : Nat :=
  let c0_i32_600 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_599 : BitVec 32 := 8#32
  let v759 : BitVec 32 := Scalar.muli v19 c8_i32_599
  let v760 : BitVec 32 := Scalar.addi c0_i32_600 v759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_601 : BitVec 32 := 4#32
  let v761 : BitVec 32 := Scalar.muli v5 c4_i32_601
  let v762 : BitVec 32 := Scalar.addi v760 v761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v763 : BitVec 32 := Scalar.muli v8 c1_i32_602
  let v764 : BitVec 32 := Scalar.addi v762 v763
  v764.toNat
def k0_dev26 (d0 : Dev nD) : Nat :=
  let c0_i32_624 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_623 : BitVec 32 := 8#32
  let v785 : BitVec 32 := Scalar.muli v2 c8_i32_623
  let v786 : BitVec 32 := Scalar.addi c0_i32_624 v785
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_625 : BitVec 32 := 4#32
  let v787 : BitVec 32 := Scalar.muli v20 c4_i32_625
  let v788 : BitVec 32 := Scalar.addi v786 v787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_626 : BitVec 32 := 1#32
  let v789 : BitVec 32 := Scalar.muli v8 c1_i32_626
  let v790 : BitVec 32 := Scalar.addi v788 v789
  v790.toNat
def k0_dev27 (d0 : Dev nD) : Nat :=
  let c0_i32_636 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_635 : BitVec 32 := 8#32
  let v799 : BitVec 32 := Scalar.muli v2 c8_i32_635
  let v800 : BitVec 32 := Scalar.addi c0_i32_636 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_637 : BitVec 32 := 4#32
  let v801 : BitVec 32 := Scalar.muli v5 c4_i32_637
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_638 : BitVec 32 := 1#32
  let v803 : BitVec 32 := Scalar.muli v23 c1_i32_638
  let v804 : BitVec 32 := Scalar.addi v802 v803
  v804.toNat
def k0_dev28 (d0 : Dev nD) : Nat :=
  let c0_i32_668 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_667 : BitVec 32 := 8#32
  let v833 : BitVec 32 := Scalar.muli v2 c8_i32_667
  let v834 : BitVec 32 := Scalar.addi c0_i32_668 v833
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_669 : BitVec 32 := 4#32
  let v835 : BitVec 32 := Scalar.muli v20 c4_i32_669
  let v836 : BitVec 32 := Scalar.addi v834 v835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v837 : BitVec 32 := Scalar.muli v8 c1_i32_670
  let v838 : BitVec 32 := Scalar.addi v836 v837
  v838.toNat
def k0_dev29 (d0 : Dev nD) : Nat :=
  let c0_i32_680 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_679 : BitVec 32 := 8#32
  let v847 : BitVec 32 := Scalar.muli v2 c8_i32_679
  let v848 : BitVec 32 := Scalar.addi c0_i32_680 v847
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_681 : BitVec 32 := 4#32
  let v849 : BitVec 32 := Scalar.muli v5 c4_i32_681
  let v850 : BitVec 32 := Scalar.addi v848 v849
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_682 : BitVec 32 := 1#32
  let v851 : BitVec 32 := Scalar.muli v23 c1_i32_682
  let v852 : BitVec 32 := Scalar.addi v850 v851
  v852.toNat
def k0_dev30 (d0 : Dev nD) : Nat :=
  let c0_i32_712 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_711 : BitVec 32 := 8#32
  let v881 : BitVec 32 := Scalar.muli v2 c8_i32_711
  let v882 : BitVec 32 := Scalar.addi c0_i32_712 v881
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_713 : BitVec 32 := 4#32
  let v883 : BitVec 32 := Scalar.muli v20 c4_i32_713
  let v884 : BitVec 32 := Scalar.addi v882 v883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_714 : BitVec 32 := 1#32
  let v885 : BitVec 32 := Scalar.muli v8 c1_i32_714
  let v886 : BitVec 32 := Scalar.addi v884 v885
  v886.toNat
def k0_dev31 (d0 : Dev nD) : Nat :=
  let c0_i32_724 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_723 : BitVec 32 := 8#32
  let v895 : BitVec 32 := Scalar.muli v2 c8_i32_723
  let v896 : BitVec 32 := Scalar.addi c0_i32_724 v895
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_725 : BitVec 32 := 4#32
  let v897 : BitVec 32 := Scalar.muli v5 c4_i32_725
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_726 : BitVec 32 := 1#32
  let v899 : BitVec 32 := Scalar.muli v23 c1_i32_726
  let v900 : BitVec 32 := Scalar.addi v898 v899
  v900.toNat
def k0_dev32 (d0 : Dev nD) : Nat :=
  let c0_i32_756 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_755 : BitVec 32 := 8#32
  let v929 : BitVec 32 := Scalar.muli v2 c8_i32_755
  let v930 : BitVec 32 := Scalar.addi c0_i32_756 v929
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_757 : BitVec 32 := 4#32
  let v931 : BitVec 32 := Scalar.muli v20 c4_i32_757
  let v932 : BitVec 32 := Scalar.addi v930 v931
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v933 : BitVec 32 := Scalar.muli v8 c1_i32_758
  let v934 : BitVec 32 := Scalar.addi v932 v933
  v934.toNat
def k0_dev33 (d0 : Dev nD) : Nat :=
  let c0_i32_768 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_767 : BitVec 32 := 8#32
  let v943 : BitVec 32 := Scalar.muli v2 c8_i32_767
  let v944 : BitVec 32 := Scalar.addi c0_i32_768 v943
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_769 : BitVec 32 := 4#32
  let v945 : BitVec 32 := Scalar.muli v5 c4_i32_769
  let v946 : BitVec 32 := Scalar.addi v944 v945
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_770 : BitVec 32 := 1#32
  let v947 : BitVec 32 := Scalar.muli v23 c1_i32_770
  let v948 : BitVec 32 := Scalar.addi v946 v947
  v948.toNat
def k0_dev34 (d0 : Dev nD) : Nat :=
  let c0_i32_800 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_799 : BitVec 32 := 8#32
  let v977 : BitVec 32 := Scalar.muli v2 c8_i32_799
  let v978 : BitVec 32 := Scalar.addi c0_i32_800 v977
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_801 : BitVec 32 := 4#32
  let v979 : BitVec 32 := Scalar.muli v20 c4_i32_801
  let v980 : BitVec 32 := Scalar.addi v978 v979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_802 : BitVec 32 := 1#32
  let v981 : BitVec 32 := Scalar.muli v8 c1_i32_802
  let v982 : BitVec 32 := Scalar.addi v980 v981
  v982.toNat
def k0_dev35 (d0 : Dev nD) : Nat :=
  let c0_i32_812 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_811 : BitVec 32 := 8#32
  let v991 : BitVec 32 := Scalar.muli v2 c8_i32_811
  let v992 : BitVec 32 := Scalar.addi c0_i32_812 v991
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_813 : BitVec 32 := 4#32
  let v993 : BitVec 32 := Scalar.muli v5 c4_i32_813
  let v994 : BitVec 32 := Scalar.addi v992 v993
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_814 : BitVec 32 := 1#32
  let v995 : BitVec 32 := Scalar.muli v23 c1_i32_814
  let v996 : BitVec 32 := Scalar.addi v994 v995
  v996.toNat
def k0_dev36 (d0 : Dev nD) : Nat :=
  let c0_i32_844 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_843 : BitVec 32 := 8#32
  let v1025 : BitVec 32 := Scalar.muli v2 c8_i32_843
  let v1026 : BitVec 32 := Scalar.addi c0_i32_844 v1025
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_845 : BitVec 32 := 4#32
  let v1027 : BitVec 32 := Scalar.muli v20 c4_i32_845
  let v1028 : BitVec 32 := Scalar.addi v1026 v1027
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_846 : BitVec 32 := 1#32
  let v1029 : BitVec 32 := Scalar.muli v8 c1_i32_846
  let v1030 : BitVec 32 := Scalar.addi v1028 v1029
  v1030.toNat
def k0_dev37 (d0 : Dev nD) : Nat :=
  let c0_i32_856 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_855 : BitVec 32 := 8#32
  let v1039 : BitVec 32 := Scalar.muli v2 c8_i32_855
  let v1040 : BitVec 32 := Scalar.addi c0_i32_856 v1039
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_857 : BitVec 32 := 4#32
  let v1041 : BitVec 32 := Scalar.muli v5 c4_i32_857
  let v1042 : BitVec 32 := Scalar.addi v1040 v1041
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_858 : BitVec 32 := 1#32
  let v1043 : BitVec 32 := Scalar.muli v23 c1_i32_858
  let v1044 : BitVec 32 := Scalar.addi v1042 v1043
  v1044.toNat
def k0_dev38 (d0 : Dev nD) : Nat :=
  let c0_i32_888 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_887 : BitVec 32 := 8#32
  let v1073 : BitVec 32 := Scalar.muli v2 c8_i32_887
  let v1074 : BitVec 32 := Scalar.addi c0_i32_888 v1073
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_889 : BitVec 32 := 4#32
  let v1075 : BitVec 32 := Scalar.muli v20 c4_i32_889
  let v1076 : BitVec 32 := Scalar.addi v1074 v1075
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_890 : BitVec 32 := 1#32
  let v1077 : BitVec 32 := Scalar.muli v8 c1_i32_890
  let v1078 : BitVec 32 := Scalar.addi v1076 v1077
  v1078.toNat
def k0_dev39 (d0 : Dev nD) : Nat :=
  let c0_i32_900 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_899 : BitVec 32 := 8#32
  let v1087 : BitVec 32 := Scalar.muli v2 c8_i32_899
  let v1088 : BitVec 32 := Scalar.addi c0_i32_900 v1087
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_901 : BitVec 32 := 4#32
  let v1089 : BitVec 32 := Scalar.muli v5 c4_i32_901
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_902 : BitVec 32 := 1#32
  let v1091 : BitVec 32 := Scalar.muli v23 c1_i32_902
  let v1092 : BitVec 32 := Scalar.addi v1090 v1091
  v1092.toNat
def k0_dev40 (d0 : Dev nD) : Nat :=
  let c0_i32_932 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_931 : BitVec 32 := 8#32
  let v1121 : BitVec 32 := Scalar.muli v2 c8_i32_931
  let v1122 : BitVec 32 := Scalar.addi c0_i32_932 v1121
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_933 : BitVec 32 := 4#32
  let v1123 : BitVec 32 := Scalar.muli v20 c4_i32_933
  let v1124 : BitVec 32 := Scalar.addi v1122 v1123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v1125 : BitVec 32 := Scalar.muli v8 c1_i32_934
  let v1126 : BitVec 32 := Scalar.addi v1124 v1125
  v1126.toNat
def k0_dev41 (d0 : Dev nD) : Nat :=
  let c0_i32_944 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_943 : BitVec 32 := 8#32
  let v1135 : BitVec 32 := Scalar.muli v2 c8_i32_943
  let v1136 : BitVec 32 := Scalar.addi c0_i32_944 v1135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_945 : BitVec 32 := 4#32
  let v1137 : BitVec 32 := Scalar.muli v5 c4_i32_945
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_946 : BitVec 32 := 1#32
  let v1139 : BitVec 32 := Scalar.muli v23 c1_i32_946
  let v1140 : BitVec 32 := Scalar.addi v1138 v1139
  v1140.toNat
def k0_dev42 (d0 : Dev nD) : Nat :=
  let c0_i32_976 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_975 : BitVec 32 := 8#32
  let v1169 : BitVec 32 := Scalar.muli v2 c8_i32_975
  let v1170 : BitVec 32 := Scalar.addi c0_i32_976 v1169
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_977 : BitVec 32 := 4#32
  let v1171 : BitVec 32 := Scalar.muli v20 c4_i32_977
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_978 : BitVec 32 := 1#32
  let v1173 : BitVec 32 := Scalar.muli v8 c1_i32_978
  let v1174 : BitVec 32 := Scalar.addi v1172 v1173
  v1174.toNat
def k0_dev43 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_987 : BitVec 32 := 8#32
  let v1183 : BitVec 32 := Scalar.muli v2 c8_i32_987
  let v1184 : BitVec 32 := Scalar.addi c0_i32_988 v1183
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_989 : BitVec 32 := 4#32
  let v1185 : BitVec 32 := Scalar.muli v5 c4_i32_989
  let v1186 : BitVec 32 := Scalar.addi v1184 v1185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_990 : BitVec 32 := 1#32
  let v1187 : BitVec 32 := Scalar.muli v23 c1_i32_990
  let v1188 : BitVec 32 := Scalar.addi v1186 v1187
  v1188.toNat
def k0_dev44 (d0 : Dev nD) : Nat :=
  let c0_i32_1020 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1019 : BitVec 32 := 8#32
  let v1217 : BitVec 32 := Scalar.muli v2 c8_i32_1019
  let v1218 : BitVec 32 := Scalar.addi c0_i32_1020 v1217
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1021 : BitVec 32 := 4#32
  let v1219 : BitVec 32 := Scalar.muli v20 c4_i32_1021
  let v1220 : BitVec 32 := Scalar.addi v1218 v1219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1022 : BitVec 32 := 1#32
  let v1221 : BitVec 32 := Scalar.muli v8 c1_i32_1022
  let v1222 : BitVec 32 := Scalar.addi v1220 v1221
  v1222.toNat
def k0_dev45 (d0 : Dev nD) : Nat :=
  let c0_i32_1032 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1031 : BitVec 32 := 8#32
  let v1231 : BitVec 32 := Scalar.muli v2 c8_i32_1031
  let v1232 : BitVec 32 := Scalar.addi c0_i32_1032 v1231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1033 : BitVec 32 := 4#32
  let v1233 : BitVec 32 := Scalar.muli v5 c4_i32_1033
  let v1234 : BitVec 32 := Scalar.addi v1232 v1233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1034 : BitVec 32 := 1#32
  let v1235 : BitVec 32 := Scalar.muli v23 c1_i32_1034
  let v1236 : BitVec 32 := Scalar.addi v1234 v1235
  v1236.toNat
def k0_dev46 (d0 : Dev nD) : Nat :=
  let c0_i32_1064 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1063 : BitVec 32 := 8#32
  let v1265 : BitVec 32 := Scalar.muli v2 c8_i32_1063
  let v1266 : BitVec 32 := Scalar.addi c0_i32_1064 v1265
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1065 : BitVec 32 := 4#32
  let v1267 : BitVec 32 := Scalar.muli v20 c4_i32_1065
  let v1268 : BitVec 32 := Scalar.addi v1266 v1267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1066 : BitVec 32 := 1#32
  let v1269 : BitVec 32 := Scalar.muli v8 c1_i32_1066
  let v1270 : BitVec 32 := Scalar.addi v1268 v1269
  v1270.toNat
def k0_dev47 (d0 : Dev nD) : Nat :=
  let c0_i32_1076 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1075 : BitVec 32 := 8#32
  let v1279 : BitVec 32 := Scalar.muli v2 c8_i32_1075
  let v1280 : BitVec 32 := Scalar.addi c0_i32_1076 v1279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1077 : BitVec 32 := 4#32
  let v1281 : BitVec 32 := Scalar.muli v5 c4_i32_1077
  let v1282 : BitVec 32 := Scalar.addi v1280 v1281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1078 : BitVec 32 := 1#32
  let v1283 : BitVec 32 := Scalar.muli v23 c1_i32_1078
  let v1284 : BitVec 32 := Scalar.addi v1282 v1283
  v1284.toNat
def k0_dev48 (d0 : Dev nD) : Nat :=
  let c0_i32_1108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1107 : BitVec 32 := 8#32
  let v1313 : BitVec 32 := Scalar.muli v2 c8_i32_1107
  let v1314 : BitVec 32 := Scalar.addi c0_i32_1108 v1313
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1109 : BitVec 32 := 4#32
  let v1315 : BitVec 32 := Scalar.muli v20 c4_i32_1109
  let v1316 : BitVec 32 := Scalar.addi v1314 v1315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1110 : BitVec 32 := 1#32
  let v1317 : BitVec 32 := Scalar.muli v8 c1_i32_1110
  let v1318 : BitVec 32 := Scalar.addi v1316 v1317
  v1318.toNat
def k0_dev49 (d0 : Dev nD) : Nat :=
  let c0_i32_1120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1119 : BitVec 32 := 8#32
  let v1327 : BitVec 32 := Scalar.muli v2 c8_i32_1119
  let v1328 : BitVec 32 := Scalar.addi c0_i32_1120 v1327
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1121 : BitVec 32 := 4#32
  let v1329 : BitVec 32 := Scalar.muli v5 c4_i32_1121
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1122 : BitVec 32 := 1#32
  let v1331 : BitVec 32 := Scalar.muli v23 c1_i32_1122
  let v1332 : BitVec 32 := Scalar.addi v1330 v1331
  v1332.toNat
def k0_dev50 (d0 : Dev nD) : Nat :=
  let c0_i32_1152 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1151 : BitVec 32 := 8#32
  let v1361 : BitVec 32 := Scalar.muli v2 c8_i32_1151
  let v1362 : BitVec 32 := Scalar.addi c0_i32_1152 v1361
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1153 : BitVec 32 := 4#32
  let v1363 : BitVec 32 := Scalar.muli v20 c4_i32_1153
  let v1364 : BitVec 32 := Scalar.addi v1362 v1363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1154 : BitVec 32 := 1#32
  let v1365 : BitVec 32 := Scalar.muli v8 c1_i32_1154
  let v1366 : BitVec 32 := Scalar.addi v1364 v1365
  v1366.toNat
def k0_dev51 (d0 : Dev nD) : Nat :=
  let c0_i32_1164 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1163 : BitVec 32 := 8#32
  let v1375 : BitVec 32 := Scalar.muli v2 c8_i32_1163
  let v1376 : BitVec 32 := Scalar.addi c0_i32_1164 v1375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1165 : BitVec 32 := 4#32
  let v1377 : BitVec 32 := Scalar.muli v5 c4_i32_1165
  let v1378 : BitVec 32 := Scalar.addi v1376 v1377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1166 : BitVec 32 := 1#32
  let v1379 : BitVec 32 := Scalar.muli v23 c1_i32_1166
  let v1380 : BitVec 32 := Scalar.addi v1378 v1379
  v1380.toNat
def k0_dev52 (d0 : Dev nD) : Nat :=
  let c0_i32_1196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1195 : BitVec 32 := 8#32
  let v1409 : BitVec 32 := Scalar.muli v2 c8_i32_1195
  let v1410 : BitVec 32 := Scalar.addi c0_i32_1196 v1409
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1197 : BitVec 32 := 4#32
  let v1411 : BitVec 32 := Scalar.muli v20 c4_i32_1197
  let v1412 : BitVec 32 := Scalar.addi v1410 v1411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1198 : BitVec 32 := 1#32
  let v1413 : BitVec 32 := Scalar.muli v8 c1_i32_1198
  let v1414 : BitVec 32 := Scalar.addi v1412 v1413
  v1414.toNat
def k0_dev53 (d0 : Dev nD) : Nat :=
  let c0_i32_1208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1207 : BitVec 32 := 8#32
  let v1423 : BitVec 32 := Scalar.muli v2 c8_i32_1207
  let v1424 : BitVec 32 := Scalar.addi c0_i32_1208 v1423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1209 : BitVec 32 := 4#32
  let v1425 : BitVec 32 := Scalar.muli v5 c4_i32_1209
  let v1426 : BitVec 32 := Scalar.addi v1424 v1425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1210 : BitVec 32 := 1#32
  let v1427 : BitVec 32 := Scalar.muli v23 c1_i32_1210
  let v1428 : BitVec 32 := Scalar.addi v1426 v1427
  v1428.toNat
def k0_dev54 (d0 : Dev nD) : Nat :=
  let c0_i32_1240 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1239 : BitVec 32 := 8#32
  let v1457 : BitVec 32 := Scalar.muli v2 c8_i32_1239
  let v1458 : BitVec 32 := Scalar.addi c0_i32_1240 v1457
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1241 : BitVec 32 := 4#32
  let v1459 : BitVec 32 := Scalar.muli v20 c4_i32_1241
  let v1460 : BitVec 32 := Scalar.addi v1458 v1459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1242 : BitVec 32 := 1#32
  let v1461 : BitVec 32 := Scalar.muli v8 c1_i32_1242
  let v1462 : BitVec 32 := Scalar.addi v1460 v1461
  v1462.toNat
def k0_off17 (d0 : Dev nD) (c0_i32_1248 : BitVec 32) : Fin 3 → Nat :=
  let c0_i32_1250 : BitVec 32 := 0#32
  let c2_i32_14 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v29 : BitVec 32 := Scalar.muli c2_i32_14 v5
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v30 : BitVec 32 := Scalar.subi c1_i32_15 v18
  let v31 : BitVec 32 := Scalar.addi v29 v30
  let c896_i32_1247 : BitVec 32 := 896#32
  let v1471 : BitVec 32 := Scalar.muli v31 c896_i32_1247
  let v1472 : BitVec 32 := Scalar.addi v1471 c0_i32_1248
  let c0_i32_1252 : BitVec 32 := 0#32
  ![0, v1472.toNat, 0]
def k0_dev55 (d0 : Dev nD) : Nat :=
  let c0_i32_1272 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1271 : BitVec 32 := 8#32
  let v1491 : BitVec 32 := Scalar.muli v2 c8_i32_1271
  let v1492 : BitVec 32 := Scalar.addi c0_i32_1272 v1491
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1273 : BitVec 32 := 4#32
  let v1493 : BitVec 32 := Scalar.muli v20 c4_i32_1273
  let v1494 : BitVec 32 := Scalar.addi v1492 v1493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1274 : BitVec 32 := 1#32
  let v1495 : BitVec 32 := Scalar.muli v8 c1_i32_1274
  let v1496 : BitVec 32 := Scalar.addi v1494 v1495
  v1496.toNat
def k0_dev56 (d0 : Dev nD) : Nat :=
  let c0_i32_1304 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1303 : BitVec 32 := 8#32
  let v1525 : BitVec 32 := Scalar.muli v2 c8_i32_1303
  let v1526 : BitVec 32 := Scalar.addi c0_i32_1304 v1525
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1305 : BitVec 32 := 4#32
  let v1527 : BitVec 32 := Scalar.muli v20 c4_i32_1305
  let v1528 : BitVec 32 := Scalar.addi v1526 v1527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1306 : BitVec 32 := 1#32
  let v1529 : BitVec 32 := Scalar.muli v8 c1_i32_1306
  let v1530 : BitVec 32 := Scalar.addi v1528 v1529
  v1530.toNat
def k0_dev57 (d0 : Dev nD) : Nat :=
  let c0_i32_1336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1335 : BitVec 32 := 8#32
  let v1559 : BitVec 32 := Scalar.muli v2 c8_i32_1335
  let v1560 : BitVec 32 := Scalar.addi c0_i32_1336 v1559
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1337 : BitVec 32 := 4#32
  let v1561 : BitVec 32 := Scalar.muli v20 c4_i32_1337
  let v1562 : BitVec 32 := Scalar.addi v1560 v1561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1338 : BitVec 32 := 1#32
  let v1563 : BitVec 32 := Scalar.muli v8 c1_i32_1338
  let v1564 : BitVec 32 := Scalar.addi v1562 v1563
  v1564.toNat
def k0_dev58 (d0 : Dev nD) : Nat :=
  let c0_i32_1368 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1367 : BitVec 32 := 8#32
  let v1593 : BitVec 32 := Scalar.muli v2 c8_i32_1367
  let v1594 : BitVec 32 := Scalar.addi c0_i32_1368 v1593
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1369 : BitVec 32 := 4#32
  let v1595 : BitVec 32 := Scalar.muli v20 c4_i32_1369
  let v1596 : BitVec 32 := Scalar.addi v1594 v1595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1370 : BitVec 32 := 1#32
  let v1597 : BitVec 32 := Scalar.muli v8 c1_i32_1370
  let v1598 : BitVec 32 := Scalar.addi v1596 v1597
  v1598.toNat
def k0_dev59 (d0 : Dev nD) : Nat :=
  let c0_i32_1400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1399 : BitVec 32 := 8#32
  let v1627 : BitVec 32 := Scalar.muli v2 c8_i32_1399
  let v1628 : BitVec 32 := Scalar.addi c0_i32_1400 v1627
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1401 : BitVec 32 := 4#32
  let v1629 : BitVec 32 := Scalar.muli v20 c4_i32_1401
  let v1630 : BitVec 32 := Scalar.addi v1628 v1629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1402 : BitVec 32 := 1#32
  let v1631 : BitVec 32 := Scalar.muli v8 c1_i32_1402
  let v1632 : BitVec 32 := Scalar.addi v1630 v1631
  v1632.toNat
def k0_dev60 (d0 : Dev nD) : Nat :=
  let c0_i32_1432 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1431 : BitVec 32 := 8#32
  let v1661 : BitVec 32 := Scalar.muli v2 c8_i32_1431
  let v1662 : BitVec 32 := Scalar.addi c0_i32_1432 v1661
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1433 : BitVec 32 := 4#32
  let v1663 : BitVec 32 := Scalar.muli v20 c4_i32_1433
  let v1664 : BitVec 32 := Scalar.addi v1662 v1663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1434 : BitVec 32 := 1#32
  let v1665 : BitVec 32 := Scalar.muli v8 c1_i32_1434
  let v1666 : BitVec 32 := Scalar.addi v1664 v1665
  v1666.toNat
def k0_dev61 (d0 : Dev nD) : Nat :=
  let c0_i32_1464 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1463 : BitVec 32 := 8#32
  let v1695 : BitVec 32 := Scalar.muli v2 c8_i32_1463
  let v1696 : BitVec 32 := Scalar.addi c0_i32_1464 v1695
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1465 : BitVec 32 := 4#32
  let v1697 : BitVec 32 := Scalar.muli v5 c4_i32_1465
  let v1698 : BitVec 32 := Scalar.addi v1696 v1697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1466 : BitVec 32 := 1#32
  let v1699 : BitVec 32 := Scalar.muli v23 c1_i32_1466
  let v1700 : BitVec 32 := Scalar.addi v1698 v1699
  v1700.toNat
def k0_off18 (d0 : Dev nD) (c448_i32_1472 : BitVec 32) : Fin 3 → Nat :=
  let c0_i32_1474 : BitVec 32 := 0#32
  let c2_i32_13 : BitVec 32 := 2#32
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_12 v5
  let v27 : BitVec 32 := Scalar.muli c2_i32_13 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c896_i32_1471 : BitVec 32 := 896#32
  let v1709 : BitVec 32 := Scalar.muli v28 c896_i32_1471
  let v1710 : BitVec 32 := Scalar.addi v1709 c448_i32_1472
  let c0_i32_1476 : BitVec 32 := 0#32
  ![0, v1710.toNat, 0]
def k0_dev62 (d0 : Dev nD) : Nat :=
  let c0_i32_1496 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1495 : BitVec 32 := 8#32
  let v1729 : BitVec 32 := Scalar.muli v2 c8_i32_1495
  let v1730 : BitVec 32 := Scalar.addi c0_i32_1496 v1729
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1497 : BitVec 32 := 4#32
  let v1731 : BitVec 32 := Scalar.muli v5 c4_i32_1497
  let v1732 : BitVec 32 := Scalar.addi v1730 v1731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1498 : BitVec 32 := 1#32
  let v1733 : BitVec 32 := Scalar.muli v23 c1_i32_1498
  let v1734 : BitVec 32 := Scalar.addi v1732 v1733
  v1734.toNat
def k0_dev63 (d0 : Dev nD) : Nat :=
  let c0_i32_1527 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1526 : BitVec 32 := 8#32
  let v1763 : BitVec 32 := Scalar.muli v2 c8_i32_1526
  let v1764 : BitVec 32 := Scalar.addi c0_i32_1527 v1763
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1528 : BitVec 32 := 4#32
  let v1765 : BitVec 32 := Scalar.muli v5 c4_i32_1528
  let v1766 : BitVec 32 := Scalar.addi v1764 v1765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1529 : BitVec 32 := 1#32
  let v1767 : BitVec 32 := Scalar.muli v23 c1_i32_1529
  let v1768 : BitVec 32 := Scalar.addi v1766 v1767
  v1768.toNat
def k0_dev64 (d0 : Dev nD) : Nat :=
  let c0_i32_1558 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1557 : BitVec 32 := 8#32
  let v1797 : BitVec 32 := Scalar.muli v2 c8_i32_1557
  let v1798 : BitVec 32 := Scalar.addi c0_i32_1558 v1797
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1559 : BitVec 32 := 4#32
  let v1799 : BitVec 32 := Scalar.muli v5 c4_i32_1559
  let v1800 : BitVec 32 := Scalar.addi v1798 v1799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1560 : BitVec 32 := 1#32
  let v1801 : BitVec 32 := Scalar.muli v23 c1_i32_1560
  let v1802 : BitVec 32 := Scalar.addi v1800 v1801
  v1802.toNat
def k0_dev65 (d0 : Dev nD) : Nat :=
  let c0_i32_1589 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1588 : BitVec 32 := 8#32
  let v1831 : BitVec 32 := Scalar.muli v2 c8_i32_1588
  let v1832 : BitVec 32 := Scalar.addi c0_i32_1589 v1831
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1590 : BitVec 32 := 4#32
  let v1833 : BitVec 32 := Scalar.muli v5 c4_i32_1590
  let v1834 : BitVec 32 := Scalar.addi v1832 v1833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1591 : BitVec 32 := 1#32
  let v1835 : BitVec 32 := Scalar.muli v23 c1_i32_1591
  let v1836 : BitVec 32 := Scalar.addi v1834 v1835
  v1836.toNat
def k0_dev66 (d0 : Dev nD) : Nat :=
  let c0_i32_1620 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1619 : BitVec 32 := 8#32
  let v1865 : BitVec 32 := Scalar.muli v2 c8_i32_1619
  let v1866 : BitVec 32 := Scalar.addi c0_i32_1620 v1865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1621 : BitVec 32 := 4#32
  let v1867 : BitVec 32 := Scalar.muli v5 c4_i32_1621
  let v1868 : BitVec 32 := Scalar.addi v1866 v1867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1622 : BitVec 32 := 1#32
  let v1869 : BitVec 32 := Scalar.muli v23 c1_i32_1622
  let v1870 : BitVec 32 := Scalar.addi v1868 v1869
  v1870.toNat
def k0_dev67 (d0 : Dev nD) : Nat :=
  let c0_i32_1651 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1650 : BitVec 32 := 8#32
  let v1899 : BitVec 32 := Scalar.muli v2 c8_i32_1650
  let v1900 : BitVec 32 := Scalar.addi c0_i32_1651 v1899
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1652 : BitVec 32 := 4#32
  let v1901 : BitVec 32 := Scalar.muli v5 c4_i32_1652
  let v1902 : BitVec 32 := Scalar.addi v1900 v1901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1653 : BitVec 32 := 1#32
  let v1903 : BitVec 32 := Scalar.muli v23 c1_i32_1653
  let v1904 : BitVec 32 := Scalar.addi v1902 v1903
  v1904.toNat
def k0_off19 (d0 : Dev nD) (c0_i32_1944 : BitVec 32) : Fin 3 → Nat :=
  let c0_i32_1946 : BitVec 32 := 0#32
  let c2_i32_17 : BitVec 32 := 2#32
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c896_i32_1943 : BitVec 32 := 896#32
  let v2213 : BitVec 32 := Scalar.muli v35 c896_i32_1943
  let v2214 : BitVec 32 := Scalar.addi v2213 c0_i32_1944
  let c0_i32_1947 : BitVec 32 := 0#32
  ![0, v2214.toNat, 0]
def k0_off20 (d0 : Dev nD) (c0_i32_2078 : BitVec 32) : Fin 3 → Nat :=
  let c0_i32_2080 : BitVec 32 := 0#32
  let c2_i32_17 : BitVec 32 := 2#32
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_16 v5
  let v33 : BitVec 32 := Scalar.muli c2_i32_17 v32
  let c1_i32_18 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_18 v18
  let v35 : BitVec 32 := Scalar.addi v33 v34
  let c896_i32_2076 : BitVec 32 := 896#32
  let v2353 : BitVec 32 := Scalar.muli v35 c896_i32_2076
  let c448_i32_2077 : BitVec 32 := 448#32
  let v2354 : BitVec 32 := Scalar.addi v2353 c448_i32_2077
  let v2355 : BitVec 32 := Scalar.addi v2354 c0_i32_2078
  let c0_i32_2081 : BitVec 32 := 0#32
  ![0, v2355.toNat, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | .hbm, ⟨14, _⟩ => ⟨S2x4096x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.K.Two.lean ====
/-
The kernel and its idealization are one program.
-/
module

public import proofs.«01_k».proof.Proof.Gen.Kernel
public import proofs.«01_k».proof.Proof.Gen.KernelIdeal
public import Idealize.ShloMosaic.Lib.Pipeline
public import proofs.«01_k».proof.Proof.Gen.Kernel.Launch

@[expose] public section
noncomputable section
namespace Cert.KernelProof
open Idealize.ShloMosaic Idealize.ShloMosaic.Pipeline

variable {F : FTy → Type} [FloatOps F]

set_option maxHeartbeats 2000000 in
/-- The idealization is the same program. -/
theorem main_eq : @Cert.KernelIdeal.main F _ = @Cert.Kernel.main F _ := by chain_rfl

set_option maxHeartbeats 2000000 in
/-- The idealization calls the same functions. -/
theorem defs_eq : @Cert.KernelIdeal.defs F _ _ = @Cert.Kernel.defs F _ _ := by chain_rfl

end Cert.KernelProof
end
-- ==== Proof.K.Body.lean ====
/-
The swap branch of the exchange kernel, written as loops.

The printed body is one straight line of some five hundred effects. Read by its phases it is a handful of loops: this
module writes it that way, each action taking the rest of the program as an argument, over slots and output rows named by
a number. Nothing is proved of it here beyond the in-bounds and word-exactness evidence its actions carry; that the
printed body is this program is `Equal.lean`'s.
-/
module

public import proofs.«01_k».proof.Proof.Gen.Kernel
public import proofs.«01_k».proof.Proof.Gen.Kernel.Launch
public import Idealize.ShloMosaic.Lib.Pipeline
public import Idealize.ShloMosaic.Lib.Tactic

@[expose] public section

set_option backward.proofsInPublic true

noncomputable section

namespace Cert.KernelProof

open Cert.Kernel Cert.Kernel.Gen
open Idealize.ShloMosaic Idealize.ShloMosaic.TcCoe Idealize.SL Idealize.SL.Sem

variable {F : FTy → Type} [FloatOps F]

/-- A program of the kernel's body. -/
abbrev Pr (F : FTy → Type) [FloatOps F] := Prog (TpuEff nD τ sig (Elt F) Λ₀ .tc) PUnit

/-! ## Chunks: blocks of 64 rows of a three-axis buffer -/

abbrev S3 (n r : ℕ) : Shape := ⟨3, ![n, r, 2048]⟩

section Chunk
variable {sp : Space} {e : EltTy} {n r : ℕ}

/-- The block of 64 rows of `m` at offset `o`. -/
def chunk (m : Memref sig .tc sp (S3 n r) e) (o : Fin 3 → ℕ) (h : ∀ a, o a + S1x64x2048.size a ≤ (S3 n r).size a) :
    Memref sig .tc sp S64x2048 e :=
  (m.slice (Rect.unit (s := S3 n r) o S1x64x2048.size h) (fun _ => rfl)).squeeze S64x2048 squeezes_S1x64x2048_S64x2048

/-- A block at an even row is packed rows. -/
theorem packed_of_even (o : Fin 3 → ℕ) (h : ∀ a, o a + S1x64x2048.size a ≤ (S3 n r).size a) (h2 : 2 ∣ o 1) (he : e.packing ∣ 2) :
    (Rect.unit (s := S3 n r) o S1x64x2048.size h).PackedRows e.packing :=
  .inr ⟨by show 2 ≤ 3; decide, rfl, .inl ⟨he.trans h2, he.trans (by show 2 ∣ 64; decide)⟩⟩

/-- A transfer through a block at an even row of a whole buffer is word-exact. -/
theorem chunk_exact {m : Memref sig .tc sp (S3 n r) e} (hm : m.IsWhole) (hl : Kind.statesLayout .tc sp = true) (o : Fin 3 → ℕ)
    (h : ∀ a, o a + S1x64x2048.size a ≤ (S3 n r).size a) (h2 : 2 ∣ o 1) (he : e.packing ∣ 2) : (chunk m o h).view.WordExact :=
  (hm.wordExact_slice hl _ (packed_of_even o h h2 he).wholeWords).reshape _ _

end Chunk

/-! ## The buffers -/

abbrev xM : Memref sig .tc .hbm S1x4096x2048 .f32 := Memref.whole main_arg0
abbrev oM : Memref sig .tc .hbm S1x4096x2048 .bf16 := Memref.whole main_v1
abbrev lM : Memref sig .tc .vmem S22x64x2048 .f32 := Memref.whole cc0_scratch0
abbrev sM : Memref sig .tc .vmem S22x64x2048 .bf16 := Memref.whole cc0_scratch1
abbrev aM : Memref sig .tc .vmem S14x64x2048 .bf16 := Memref.whole cc0_scratch2
abbrev yM : Memref sig .tc .vmem S21x64x2048 .bf16 := Memref.whole cc0_scratch3
abbrev zM : Memref sig .tc .vmem S21x64x2048 .bf16 := Memref.whole cc0_scratch4

/-- A slot's number, taken modulo the number of slots, names a slot inside the scratch buffer. -/
theorem slot_inb {n : ℕ} (hn : 0 < n) (i : ℕ) (a : Fin 3) : (![i % n, 0, 0] : Fin 3 → ℕ) a + S1x64x2048.size a ≤ (S3 n 64).size a := by
  have := Nat.mod_lt i hn
  fin_cases a
  · show i % n + 1 ≤ n; omega
  · show 0 + 64 ≤ 64; omega
  · show 0 + 2048 ≤ 2048; omega

/-- Row block `k < 64` lies inside the 4096 rows. -/
theorem rows_inb (k : ℕ) (hk : k < 64) (a : Fin 3) : (![0, 64 * k, 0] : Fin 3 → ℕ) a + S1x64x2048.size a ≤ S1x4096x2048.size a := by
  fin_cases a
  · show 0 + 1 ≤ 1; omega
  · show 64 * k + 64 ≤ 4096; omega
  · show 0 + 2048 ≤ 2048; omega

/-- Slot `i` of each scratch buffer (its number reduced so that every number names one). -/
def lS (i : ℕ) : Memref sig .tc .vmem S64x2048 .f32 := chunk (n := 22) (r := 64) lM ![i % 22, 0, 0] (slot_inb (by decide) i)
def sS (i : ℕ) : Memref sig .tc .vmem S64x2048 .bf16 := chunk (n := 22) (r := 64) sM ![i % 22, 0, 0] (slot_inb (by decide) i)
def aS (i : ℕ) : Memref sig .tc .vmem S64x2048 .bf16 := chunk (n := 14) (r := 64) aM ![i % 14, 0, 0] (slot_inb (by decide) i)
def yS (i : ℕ) : Memref sig .tc .vmem S64x2048 .bf16 := chunk (n := 21) (r := 64) yM ![i % 21, 0, 0] (slot_inb (by decide) i)
def zS (i : ℕ) : Memref sig .tc .vmem S64x2048 .bf16 := chunk (n := 21) (r := 64) zM ![i % 21, 0, 0] (slot_inb (by decide) i)

/-- The rectangle of slot `i` of the 22-slot buffers, as the kernel's vector loads and stores name it. -/
def slotR (i : ℕ) : Rect S22x64x2048 := Rect.unit (s := S22x64x2048) ![i % 22, 0, 0] S1x64x2048.size (slot_inb (n := 22) (by decide) i)

/-- Rows `64 * k ..` of `x` and of the output. -/
def xC (k : ℕ) : Memref sig .tc .hbm S64x2048 .f32 := chunk (n := 1) (r := 4096) xM ![0, 64 * (k % 64), 0] (rows_inb _ (Nat.mod_lt _ (by decide)))
def oC (k : ℕ) : Memref sig .tc .hbm S64x2048 .bf16 := chunk (n := 1) (r := 4096) oM ![0, 64 * (k % 64), 0] (rows_inb _ (Nat.mod_lt _ (by decide)))

/-! ## The rows as the kernel computes them -/

/-- The block's offset word, `64 * i`. -/
abbrev bw (i : ℕ) : BitVec 32 := BitVec.ofNat 32 (64 * i)

/-- Rows of `x` device `c` sends: its own share's first fourteen, then the common tail's eight. -/
def xA (c : Dev nD) (i : ℕ) : Memref sig .tc .hbm S64x2048 .f32 :=
  chunk (n := 1) (r := 4096) xM (k0_off16 c (bw (i % 14))) (k0_off16_inb c ⟨i % 14, Nat.mod_lt _ (by decide)⟩)
/-- A row block of the last 512 rows lies inside the 4096 rows. -/
theorem tail_inb (i : ℕ) (a : Fin 3) : (![0, 3584 + 64 * (i % 8), 0] : Fin 3 → ℕ) a + S1x64x2048.size a ≤ S1x4096x2048.size a := by
  have := Nat.mod_lt i (show 0 < 8 by decide)
  fin_cases a
  · show 0 + 1 ≤ 1; omega
  · show 3584 + 64 * (i % 8) + 64 ≤ 4096; omega
  · show 0 + 2048 ≤ 2048; omega
def xT (i : ℕ) : Memref sig .tc .hbm S64x2048 .f32 := chunk (n := 1) (r := 4096) xM ![0, 3584 + 64 * (i % 8), 0] (tail_inb i)
def xR (c : Dev nD) (i : ℕ) : Memref sig .tc .hbm S64x2048 .f32 := if i < 14 then xA c i else xT (i - 14)

/-- Rows of the output device `c` fills, named by where they come from: its own share; the tail; its `z` and its `y`
    neighbour's shares; and the two halves of the diagonal one's. -/
def oA (c : Dev nD) (i : ℕ) : Memref sig .tc .hbm S64x2048 .bf16 :=
  chunk (n := 1) (r := 4096) oM (k0_off16 c (bw (i % 14))) (k0_off16_inb c ⟨i % 14, Nat.mod_lt _ (by decide)⟩)
def oT (i : ℕ) : Memref sig .tc .hbm S64x2048 .bf16 := chunk (n := 1) (r := 4096) oM ![0, 3584 + 64 * (i % 8), 0] (tail_inb i)
def oZ (c : Dev nD) (i : ℕ) : Memref sig .tc .hbm S64x2048 .bf16 :=
  chunk (n := 1) (r := 4096) oM (k0_off17 c (bw (i % 14))) (k0_off17_inb c ⟨i % 14, Nat.mod_lt _ (by decide)⟩)
def oY (c : Dev nD) (i : ℕ) : Memref sig .tc .hbm S64x2048 .bf16 :=
  chunk (n := 1) (r := 4096) oM (k0_off18 c (bw (i % 14))) (k0_off18_inb c ⟨i % 14, Nat.mod_lt _ (by decide)⟩)
def oYd (c : Dev nD) (i : ℕ) : Memref sig .tc .hbm S64x2048 .bf16 :=
  chunk (n := 1) (r := 4096) oM (k0_off19 c (bw (i % 7))) (k0_off19_inb c ⟨i % 7, Nat.mod_lt _ (by decide)⟩)
def oZd (c : Dev nD) (i : ℕ) : Memref sig .tc .hbm S64x2048 .bf16 :=
  chunk (n := 1) (r := 4096) oM (k0_off20 c (bw (i % 7))) (k0_off20_inb c ⟨i % 7, Nat.mod_lt _ (by decide)⟩)

/-! ## Evidence -/

/-- A slot of the load buffer is whole words. -/
theorem lS_exact (i : ℕ) : (lS i).view.WordExact := (View.wordExact_bits rfl).reshape _ _
/-- A slot of the send buffer is whole words. -/
theorem sS_exact (i : ℕ) : (sS i).view.WordExact := chunk_exact (Memref.isWhole_whole _) rfl _ _ (show 2 ∣ 0 from dvd_zero 2) (by decide)
/-- A slot of the x link's receive buffer is whole words. -/
theorem aS_exact (i : ℕ) : (aS i).view.WordExact := chunk_exact (Memref.isWhole_whole _) rfl _ _ (show 2 ∣ 0 from dvd_zero 2) (by decide)
/-- A slot of the y link's receive buffer is whole words. -/
theorem yS_exact (i : ℕ) : (yS i).view.WordExact := chunk_exact (Memref.isWhole_whole _) rfl _ _ (show 2 ∣ 0 from dvd_zero 2) (by decide)
/-- A slot of the z link's receive buffer is whole words. -/
theorem zS_exact (i : ℕ) : (zS i).view.WordExact := chunk_exact (Memref.isWhole_whole _) rfl _ _ (show 2 ∣ 0 from dvd_zero 2) (by decide)
/-- The input's block that a device sends of its own quarter is whole words. -/
theorem xA_exact (c : Dev nD) (i : ℕ) : (xA c i).view.WordExact := (View.wordExact_bits rfl).reshape _ _
/-- The input's block of the last 512 rows is whole words. -/
theorem xT_exact (i : ℕ) : (xT i).view.WordExact := (View.wordExact_bits rfl).reshape _ _
/-- The input's `i`-th block to send, of either kind, is whole words. -/
theorem xR_exact (c : Dev nD) (i : ℕ) : (xR c i).view.WordExact := by
  unfold xR; split
  · exact xA_exact c i
  · exact xT_exact _
/-- The output's block of the last 512 rows is whole words. -/
theorem oT_exact (i : ℕ) : (oT i).view.WordExact :=
  chunk_exact (Memref.isWhole_whole _) rfl _ _ (by show 2 ∣ 3584 + 64 * (i % 8); omega) (by decide)
/-- The output's block of the device's own quarter is whole words. -/
theorem oA_exact (c : Dev nD) (i : ℕ) : (oA c i).view.WordExact :=
  ((Memref.isWhole_whole main_v1).wordExact_slice rfl _ (k0_off16_wordsbf16 c ⟨i % 14, Nat.mod_lt _ (by decide)⟩)).reshape _ _
/-- The output's block of the z neighbour's quarter is whole words. -/
theorem oZ_exact (c : Dev nD) (i : ℕ) : (oZ c i).view.WordExact :=
  ((Memref.isWhole_whole main_v1).wordExact_slice rfl _ (k0_off17_wordsbf16 c ⟨i % 14, Nat.mod_lt _ (by decide)⟩)).reshape _ _
/-- The output's block of the y neighbour's quarter is whole words. -/
theorem oY_exact (c : Dev nD) (i : ℕ) : (oY c i).view.WordExact :=
  ((Memref.isWhole_whole main_v1).wordExact_slice rfl _ (k0_off18_wordsbf16 c ⟨i % 14, Nat.mod_lt _ (by decide)⟩)).reshape _ _
/-- The output's block of the diagonal quarter that comes over y is whole words. -/
theorem oYd_exact (c : Dev nD) (i : ℕ) : (oYd c i).view.WordExact :=
  ((Memref.isWhole_whole main_v1).wordExact_slice rfl _ (k0_off19_wordsbf16 c ⟨i % 7, Nat.mod_lt _ (by decide)⟩)).reshape _ _
/-- The output's block of the diagonal quarter that comes over z is whole words. -/
theorem oZd_exact (c : Dev nD) (i : ℕ) : (oZd c i).view.WordExact :=
  ((Memref.isWhole_whole main_v1).wordExact_slice rfl _ (k0_off20_wordsbf16 c ⟨i % 7, Nat.mod_lt _ (by decide)⟩)).reshape _ _

/-! ## The semaphores and the neighbours -/

/-- The kernel's DMA semaphore number `n`. -/
def ds (n : ℕ) : DmaSem sig := ⟨n % 215, Nat.mod_lt _ (by decide)⟩
abbrev barS : Sem sig := (SemArray.scalar (sig.barrier 0 rfl) : Sems sig S_).sem

abbrev dX (c : Dev nD) : Dev nD := ⟨k0_dev4 c, k0_dev4_lt c⟩
abbrev dY (c : Dev nD) : Dev nD := ⟨k0_dev26 c, k0_dev26_lt c⟩
abbrev dZ (c : Dev nD) : Dev nD := ⟨k0_dev27 c, k0_dev27_lt c⟩

/-! ## The actions, each before the rest of the program `K` -/

section Act
variable {sps spd : Space} {e : EltTy}

/-- Wait for the transfer that counts on semaphore `n`. -/
def waitA (n : ℕ) (src : Memref sig .tc sps S64x2048 e) (dst : Memref sig .tc spd S64x2048 e) (hs : src.view.WordExact) (hd : dst.view.WordExact)
    (K : Pr F) : Pr F := .op (.waitDma2 (ds n) src dst hs hd) fun _ => K
/-- Start a transfer within the device, counting on semaphore `n`. -/
def copyA (n : ℕ) (src : Memref sig .tc sps S64x2048 e) (dst : Memref sig .tc spd S64x2048 e) (hs : src.view.WordExact) (hd : dst.view.WordExact)
    (ht : DmaTarget.Typed (nD := nD) (τ := τ) (p := .tc) sps (.dma (ds n)) (.here dst)) (K : Pr F) : Pr F := .op (.enqueueDma src (.here dst) (.dma (ds n)) hs hd ht) fun _ => K
/-- Start a transfer to device `d`, counting on semaphore `ns` here and on `nr` there. -/
def sendA (d : Dev nD) (ns nr : ℕ) (src : Memref sig .tc sps S64x2048 e) (dst : Memref sig .tc spd S64x2048 e) (hs : src.view.WordExact)
    (hd : dst.view.WordExact) (hsc : dst.view.ref.isScScratch = false)
    (ht : DmaTarget.Typed (nD := nD) (τ := τ) (p := .tc) sps (.dma (ds nr)) (.remote (Dev.tc d) dst (.dma (ds ns)) hsc)) (K : Pr F) : Pr F :=
  .op (.enqueueDma src (.remote (Dev.tc d) dst (.dma (ds ns)) hsc) (.dma (ds nr)) hs hd ht) fun _ => K
end Act

/-- One element of the rounding to bf16 that stands between a load and a store, on a slot's block. -/
def castPay (v : Vec F S1x64x2048 .f32) : FVec F S1x64x2048 .bf16 :=
  shapeCast S1x64x2048 (truncf .bf16 (shapeCast S64x2048 v shapeCasts_S1x64x2048_S64x2048 : FVec F S64x2048 .f32) bitsLt_bf16_f32) shapeCasts_S64x2048_S1x64x2048

/-- Round slot `i` of the load buffer into slot `i` of the send buffer. -/
def roundA (i : ℕ) (K : Pr F) : Pr F :=
  .op (.load lM (slotR i).toLoadRect (View.loadsAt_vmem h_S1x64x2048)) fun v =>
  .op (.load sM (slotR i).toLoadRect (View.loadsAt_vmem h_S1x64x2048)) fun _ =>
  .op (.store sM (slotR i) (castPay v) Finset.univ
    (View.stores_vmem h_S1x64x2048 ((Memref.isWhole_whole cc0_scratch1).storeExact_slice rfl _ (packed_of_even (n := 22) (r := 64) (e := .bf16) _ (slot_inb (by decide) i) (show 2 ∣ 0 from dvd_zero 2) (by decide))) (fun _ => rfl)) (.inl rfl)) fun _ => K

/-- `f a`, then `f (a + 1)`, … — `n` actions in order. -/
def loop (f : ℕ → Pr F → Pr F) : ℕ → ℕ → Pr F → Pr F
  | 0, _, K => K
  | n + 1, a, K => f a (loop f n (a + 1) K)

/-- Where a forwarded block starts from: the `x` slots, then the `z` (resp. `y`) slots. -/
def srcY (i : ℕ) : Memref sig .tc .vmem S64x2048 .bf16 := if i < 14 then aS i else zS (i - 14)
def srcZ (i : ℕ) : Memref sig .tc .vmem S64x2048 .bf16 := if i < 14 then aS i else yS (i - 7)
/-- What the `i`-th copy over y reads is whole words. -/
theorem srcY_exact (i : ℕ) : (srcY i).view.WordExact := by
  unfold srcY; split
  · exact aS_exact i
  · exact zS_exact _
/-- What the `i`-th copy over z reads is whole words. -/
theorem srcZ_exact (i : ℕ) : (srcZ i).view.WordExact := by
  unfold srcZ; split
  · exact aS_exact i
  · exact yS_exact _

/-- Read block `i` of `x`. -/
def ldA (c : Dev nD) (i : ℕ) (K : Pr F) : Pr F := copyA (1 + i) (xR c i) (lS i) (xR_exact c i) (lS_exact i) ⟨Or.inl rfl, trivial⟩ K

/-- Phase A: the block is read; round it and send it across `x`: into a slot, or (the tail) straight into the output. -/
def phA (c : Dev nD) (i : ℕ) (K : Pr F) : Pr F :=
  waitA (1 + i) (xR c i) (lS i) (xR_exact c i) (lS_exact i) <| roundA i <|
  if i < 14 then sendA (dX c) (23 + i) (45 + i) (sS i) (aS i) (sS_exact i) (aS_exact i) rfl ⟨⟨rfl, Or.inl rfl⟩, trivial⟩ K
  else sendA (dX c) (23 + i) (45 + i) (sS i) (oT (i - 14)) (sS_exact i) (oT_exact _) rfl ⟨⟨rfl, Or.inl rfl⟩, trivial⟩ K

/-- Phase B: a block is here from across `x`: send it across `y` and `z`, and store it. -/
def phB (c : Dev nD) (i : ℕ) (K : Pr F) : Pr F :=
  waitA (45 + i) (sS i) (aS i) (sS_exact i) (aS_exact i) <|
  sendA (dY c) (67 + i) (88 + i) (aS i) (yS i) (aS_exact i) (yS_exact i) rfl ⟨⟨rfl, Or.inl rfl⟩, trivial⟩ <|
  sendA (dZ c) (109 + i) (130 + i) (aS i) (zS i) (aS_exact i) (zS_exact i) rfl ⟨⟨rfl, Or.inl rfl⟩, trivial⟩ <|
  copyA (151 + i) (aS i) (oA c i) (aS_exact i) (oA_exact c i) ⟨Or.inl rfl, trivial⟩ K

/-- Phase C: one of the first seven from across `z`: send it on across `y`, and store it. -/
def phC (c : Dev nD) (i : ℕ) (K : Pr F) : Pr F :=
  waitA (130 + i) (aS i) (zS i) (aS_exact i) (zS_exact i) <|
  sendA (dY c) (67 + (14 + i)) (88 + (14 + i)) (zS i) (yS (14 + i)) (zS_exact i) (yS_exact _) rfl ⟨⟨rfl, Or.inl rfl⟩, trivial⟩ <|
  copyA (151 + (14 + i)) (zS i) (oZ c i) (zS_exact i) (oZ_exact c i) ⟨Or.inl rfl, trivial⟩ K

/-- Phase D: one of the last seven from across `y`: send it on across `z`, and store it. -/
def phD (c : Dev nD) (i : ℕ) (K : Pr F) : Pr F :=
  waitA (88 + i) (aS i) (yS i) (aS_exact i) (yS_exact i) <|
  sendA (dZ c) (109 + (7 + i)) (130 + (7 + i)) (yS i) (zS (7 + i)) (yS_exact i) (zS_exact _) rfl ⟨⟨rfl, Or.inl rfl⟩, trivial⟩ <|
  copyA (151 + (14 + i)) (yS i) (oY c i) (yS_exact i) (oY_exact c i) ⟨Or.inl rfl, trivial⟩ K

/-- Phases E to H: the remaining arrivals, each stored. -/
def phE (c : Dev nD) (i : ℕ) (K : Pr F) : Pr F :=
  waitA (88 + i) (aS i) (yS i) (aS_exact i) (yS_exact i) <|
  copyA (151 + (28 + i)) (yS i) (oY c i) (yS_exact i) (oY_exact c i) ⟨Or.inl rfl, trivial⟩ K
def phF (c : Dev nD) (i : ℕ) (K : Pr F) : Pr F :=
  waitA (130 + i) (aS i) (zS i) (aS_exact i) (zS_exact i) <|
  copyA (151 + (28 + i)) (zS i) (oZ c i) (zS_exact i) (oZ_exact c i) ⟨Or.inl rfl, trivial⟩ K
def phG (c : Dev nD) (i : ℕ) (K : Pr F) : Pr F :=
  waitA (88 + i) (zS (i - 14)) (yS i) (zS_exact _) (yS_exact i) <|
  copyA (151 + (28 + i)) (yS i) (oYd c (i - 14)) (yS_exact i) (oYd_exact c _) ⟨Or.inl rfl, trivial⟩ K
def phH (c : Dev nD) (i : ℕ) (K : Pr F) : Pr F :=
  waitA (130 + i) (yS (i - 7)) (zS i) (yS_exact _) (zS_exact i) <|
  copyA (151 + (35 + i)) (zS i) (oZd c (i - 14)) (zS_exact i) (oZd_exact c _) ⟨Or.inl rfl, trivial⟩ K

/-- Phase I: the tail is here. -/
def phI (i : ℕ) (K : Pr F) : Pr F := waitA (45 + i) (sS i) (oT (i - 14)) (sS_exact i) (oT_exact _) K

/-- The last waits: each send's, and each store's. -/
def wSx (i : ℕ) (K : Pr F) : Pr F :=
  if i < 14 then waitA (23 + i) (aS i) (sS i) (aS_exact i) (sS_exact i) K else waitA (23 + i) (oT (i - 14)) (sS i) (oT_exact _) (sS_exact i) K
def wSy (i : ℕ) (K : Pr F) : Pr F := waitA (67 + i) (yS i) (srcY i) (yS_exact i) (srcY_exact i) K
def wSz (i : ℕ) (K : Pr F) : Pr F := waitA (109 + i) (zS i) (srcZ i) (zS_exact i) (srcZ_exact i) K

def wStB (c : Dev nD) (i : ℕ) (K : Pr F) : Pr F := waitA (151 + i) (aS i) (oA c i) (aS_exact i) (oA_exact c i) K
def wStC (c : Dev nD) (i : ℕ) (K : Pr F) : Pr F := waitA (151 + (14 + i)) (zS i) (oZ c i) (zS_exact i) (oZ_exact c i) K
def wStD (c : Dev nD) (i : ℕ) (K : Pr F) : Pr F := waitA (151 + (14 + i)) (yS i) (oY c i) (yS_exact i) (oY_exact c i) K
def wStE (c : Dev nD) (i : ℕ) (K : Pr F) : Pr F := waitA (151 + (28 + i)) (yS i) (oY c i) (yS_exact i) (oY_exact c i) K
def wStF (c : Dev nD) (i : ℕ) (K : Pr F) : Pr F := waitA (151 + (28 + i)) (zS i) (oZ c i) (zS_exact i) (oZ_exact c i) K
def wStG (c : Dev nD) (i : ℕ) (K : Pr F) : Pr F := waitA (151 + (28 + i)) (yS i) (oYd c (i - 14)) (yS_exact i) (oYd_exact c _) K
def wStH (c : Dev nD) (i : ℕ) (K : Pr F) : Pr F := waitA (151 + (35 + i)) (zS i) (oZd c (i - 14)) (zS_exact i) (oZd_exact c _) K

/-- Everything after the barrier. -/
def mainA (c : Dev nD) (K : Pr F) : Pr F :=
  loop (phA c) 22 0 <| loop (phB c) 14 0 <| loop (phC c) 7 0 <| loop (phD c) 7 7 <| loop (phE c) 7 0 <| loop (phF c) 7 7 <|
  loop (phG c) 7 14 <| loop (phH c) 7 14 <| loop phI 8 14 <| loop wSx 22 0 <| loop wSy 21 0 <| loop wSz 21 0 <|
  loop (wStB c) 14 0 <| loop (wStC c) 7 0 <| loop (wStD c) 7 7 <| loop (wStE c) 7 0 <| loop (wStF c) 7 7 <| loop (wStG c) 7 14 <| loop (wStH c) 7 14 K

/-- The barrier: a unit to each neighbour, three units from them. -/
def barA (c : Dev nD) (K : Pr F) : Pr F :=
  .op (.semSignal ((⟨k0_dev1 c, k0_dev1_lt c⟩ : Dev nD), .tc) barS (BitVec.toInt 1#32)) fun _ =>
  .op (.semSignal ((⟨k0_dev2 c, k0_dev2_lt c⟩ : Dev nD), .tc) barS (BitVec.toInt 1#32)) fun _ =>
  .op (.semSignal ((⟨k0_dev3 c, k0_dev3_lt c⟩ : Dev nD), .tc) barS (BitVec.toInt 1#32)) fun _ =>
  .op (.semWait barS (BitVec.toInt 3#32)) fun _ => K

/-- The whole swap branch on device `c`. -/
def swapA (c : Dev nD) : Pr F := loop (ldA c) 22 0 <| barA c <| mainA c <| .ret ⟨⟩

end Cert.KernelProof

end
-- ==== Proof.K.Names.lean ====
/-
Who the neighbours are and which rows pass where: the exchange's arithmetic, each fact decided over the sixteen devices.
-/
module

public import proofs.«01_k».proof.Proof.K.Body

@[expose] public section

set_option backward.proofsInPublic true

noncomputable section

namespace Cert.KernelProof

open Cert.Kernel Cert.Kernel.Gen
open Idealize.ShloMosaic Idealize.ShloMosaic.TcCoe Idealize.SL Idealize.SL.Sem

/-! ## The neighbours -/

/-- The device across `x`, across `y`, and across the low bit of `z`. -/
def xn (c : Dev nD) : Dev nD := ⟨(c.val + 8) % 16, Nat.mod_lt _ (by decide)⟩
def yn (c : Dev nD) : Dev nD := ⟨(c.val / 8 * 8 + (c.val % 8 + 4) % 8) % 16, Nat.mod_lt _ (by decide)⟩
def zn (c : Dev nD) : Dev nD := ⟨(c.val / 2 * 2 + (c.val + 1) % 2) % 16, Nat.mod_lt _ (by decide)⟩

/-- The x neighbour's x neighbour is the device itself. -/
theorem xn_xn (c : Dev nD) : xn (xn c) = c := by revert c; decide
/-- The y neighbour's y neighbour is the device itself. -/
theorem yn_yn (c : Dev nD) : yn (yn c) = c := by revert c; decide
/-- The z neighbour's z neighbour is the device itself. -/
theorem zn_zn (c : Dev nD) : zn (zn c) = c := by revert c; decide

/-- The first device that the barrier signals is the x neighbour. -/
theorem dev1_eq (c : Dev nD) : (⟨k0_dev1 c, k0_dev1_lt c⟩ : Dev nD) = xn c := by revert c; decide +kernel
/-- The second device that the barrier signals is the y neighbour. -/
theorem dev2_eq (c : Dev nD) : (⟨k0_dev2 c, k0_dev2_lt c⟩ : Dev nD) = yn c := by revert c; decide +kernel
/-- The third device that the barrier signals is the z neighbour. -/
theorem dev3_eq (c : Dev nD) : (⟨k0_dev3 c, k0_dev3_lt c⟩ : Dev nD) = zn c := by revert c; decide +kernel
/-- The device that the copies over x name is the x neighbour. -/
theorem dX_eq (c : Dev nD) : dX c = xn c := by revert c; decide +kernel
/-- The device that the copies over y name is the y neighbour. -/
theorem dY_eq (c : Dev nD) : dY c = yn c := by revert c; decide +kernel
/-- The device that the copies over z name is the z neighbour. -/
theorem dZ_eq (c : Dev nD) : dZ c = zn c := by revert c; decide +kernel

/-- Each neighbour relation as an exchange of all devices. -/
def xE : Dev nD ≃ Dev nD := ⟨xn, xn, xn_xn, xn_xn⟩
def yE : Dev nD ≃ Dev nD := ⟨yn, yn, yn_yn, yn_yn⟩
def zE : Dev nD ≃ Dev nD := ⟨zn, zn, zn_zn, zn_zn⟩

/-! ## The rows -/

/-- The quarter of the first fifty-six row blocks a device carries: by its `y` and the low bit of its `z`. -/
def cls (c : Dev nD) : ℕ := 2 * (c.val / 4 % 2) + c.val % 2

/-- The row block of the `i`-th block sent across `x` (the last eight are the common tail). -/
def kx (c : Dev nD) (i : ℕ) : ℕ := if i < 14 then 14 * cls c + i else 42 + i
/-- The row block that arrives in `y` slot `i`, and in `z` slot `i`. -/
def ky (c : Dev nD) (i : ℕ) : ℕ := if i < 14 then 14 * cls (yn c) + i else 14 * cls (zn (yn c)) + (i - 14)
def kz (c : Dev nD) (i : ℕ) : ℕ := if i < 14 then 14 * cls (zn c) + i else 14 * cls (yn (zn c)) + (i - 7)
/-- The device whose `x` each of these came from. -/
def gy (c : Dev nD) (i : ℕ) : Dev nD := if i < 14 then xn (yn c) else xn (zn (yn c))
def gz (c : Dev nD) (i : ℕ) : Dev nD := if i < 14 then xn (zn c) else xn (yn (zn c))

/-- The output's row block that the `k`-th store fills, and past the stores the tail's own. -/
def ko (c : Dev nD) (k : ℕ) : ℕ :=
  if k < 14 then kx c k else if k < 21 then kz c (k - 14) else if k < 28 then ky c (k - 14) else if k < 35 then ky c (k - 28)
  else if k < 42 then kz c (k - 28) else if k < 49 then ky c (k - 28) else if k < 56 then kz c (k - 35) else k
/-- And the device whose `x` it holds in the end. -/
def go (c : Dev nD) (k : ℕ) : Dev nD :=
  if k < 14 then xn c else if k < 21 then gz c (k - 14) else if k < 28 then gy c (k - 14) else if k < 35 then gy c (k - 28)
  else if k < 42 then gz c (k - 28) else if k < 49 then gy c (k - 28) else if k < 56 then gz c (k - 35) else xn c

/-- The x neighbour sends the same row blocks. -/
theorem kx_xn (c : Dev nD) (i : ℕ) : kx (xn c) i = kx c i := by
  have h : cls (xn c) = cls c := by revert c; decide
  unfold kx; rw [h]

/-- The 22 blocks sent over x are different. -/
theorem kx_inj (c : Dev nD) : ∀ i : Fin 22, ∀ j : Fin 22, kx c i.val = kx c j.val → i = j := by revert c; decide +kernel
/-- A block sent over x is one of the 64. -/
theorem kx_lt (c : Dev nD) : ∀ i : Fin 22, kx c i.val < 64 := by revert c; decide +kernel
/-- The 64 blocks of the output are filled by different stores. -/
theorem ko_inj (c : Dev nD) : ∀ i : Fin 64, ∀ j : Fin 64, ko c i.val = ko c j.val → i = j := by revert c; decide +kernel
/-- A block that a store fills is one of the 64. -/
theorem ko_lt (c : Dev nD) : ∀ i : Fin 64, ko c i.val < 64 := by revert c; decide +kernel
/-- Every block of the output comes from the other half of the mesh. -/
theorem go_half (c : Dev nD) : ∀ k : Fin 64, (go c k.val).val / 8 = 1 - c.val / 8 := by revert c; decide +kernel

/-! ## The kernel's rows are these -/

/-- Two row blocks at the same offset are the same. -/
theorem chunk_congr {sp : Space} {e : EltTy} {n r : ℕ} (m : Memref sig .tc sp (S3 n r) e) {o o' : Fin 3 → ℕ} (ho : o = o')
    (h : ∀ a, o a + S1x64x2048.size a ≤ (S3 n r).size a) (h' : ∀ a, o' a + S1x64x2048.size a ≤ (S3 n r).size a) :
    chunk m o h = chunk m o' h' := by
  subst ho; rfl

/-- The offset of the own quarter's blocks that the kernel computes is that of the block `kx` names. -/
theorem off16_eq : ∀ c : Dev nD, ∀ i : Fin 14, k0_off16 c (bw (i.val % 14)) = ![0, 64 * (kx c i.val % 64), 0] := by decide +kernel
/-- The offset of the z neighbour's blocks that the kernel computes is that of the block `kz` names. -/
theorem off17_eq : ∀ c : Dev nD, ∀ i : Fin 14, k0_off17 c (bw (i.val % 14)) = ![0, 64 * (kz c i.val % 64), 0] := by decide +kernel
/-- The offset of the y neighbour's blocks that the kernel computes is that of the block `ky` names. -/
theorem off18_eq : ∀ c : Dev nD, ∀ i : Fin 14, k0_off18 c (bw (i.val % 14)) = ![0, 64 * (ky c i.val % 64), 0] := by decide +kernel
/-- The offset of the diagonal quarter's blocks that come over y is that of the block `ky` names. -/
theorem off19_eq : ∀ c : Dev nD, ∀ i : Fin 7, k0_off19 c (bw (i.val % 7)) = ![0, 64 * (ky c (14 + i.val) % 64), 0] := by decide +kernel
/-- The offset of the diagonal quarter's blocks that come over z is that of the block `kz` names. -/
theorem off20_eq : ∀ c : Dev nD, ∀ i : Fin 7, k0_off20 c (bw (i.val % 7)) = ![0, 64 * (kz c (14 + i.val) % 64), 0] := by decide +kernel

/-- The input's `i`-th block to send is row block `kx c i`. -/
theorem xR_eq (c : Dev nD) (i : ℕ) (h : i < 22) : xR c i = xC (kx c i) := by
  unfold xR; split
  · exact chunk_congr _ (off16_eq c ⟨i, by assumption⟩) _ _
  · refine chunk_congr _ ?_ _ _
    rw [kx, if_neg (by assumption)]
    have : 3584 + 64 * ((i - 14) % 8) = 64 * ((42 + i) % 64) := by omega
    rw [this]
/-- The own quarter's `i`-th block of the output is row block `kx c i`. -/
theorem oA_eq (c : Dev nD) (i : ℕ) (h : i < 14) : oA c i = oC (kx c i) := chunk_congr _ (off16_eq c ⟨i, h⟩) _ _
/-- The blocks of the last 512 rows of the output are row blocks `56` to `63`. -/
theorem oT_eq (i : ℕ) (h : 14 ≤ i) (h' : i < 22) : oT (i - 14) = oC (42 + i) := by
  refine chunk_congr _ ?_ _ _
  have : 3584 + 64 * ((i - 14) % 8) = 64 * ((42 + i) % 64) := by omega
  rw [this]
/-- The z neighbour's `i`-th block of the output is row block `kz c i`. -/
theorem oZ_eq (c : Dev nD) (i : ℕ) (h : i < 14) : oZ c i = oC (kz c i) := chunk_congr _ (off17_eq c ⟨i, h⟩) _ _
/-- The y neighbour's `i`-th block of the output is row block `ky c i`. -/
theorem oY_eq (c : Dev nD) (i : ℕ) (h : i < 14) : oY c i = oC (ky c i) := chunk_congr _ (off18_eq c ⟨i, h⟩) _ _
/-- The diagonal quarter's block that comes over y is row block `ky c i`. -/
theorem oYd_eq (c : Dev nD) (i : ℕ) (h : 14 ≤ i) (h' : i < 21) : oYd c (i - 14) = oC (ky c i) :=
  (chunk_congr _ (off19_eq c ⟨i - 14, by omega⟩) _ (rows_inb _ (Nat.mod_lt _ (by decide)))).trans
    (by show oC (ky c (14 + (i - 14))) = _; rw [show 14 + (i - 14) = i by omega])
/-- The diagonal quarter's block that comes over z is row block `kz c i`. -/
theorem oZd_eq (c : Dev nD) (i : ℕ) (h : 14 ≤ i) (h' : i < 21) : oZd c (i - 14) = oC (kz c i) :=
  (chunk_congr _ (off20_eq c ⟨i - 14, by omega⟩) _ (rows_inb _ (Nat.mod_lt _ (by decide)))).trans
    (by show oC (kz c (14 + (i - 14))) = _; rw [show 14 + (i - 14) = i by omega])

/-! ## Amounts -/

/-- What one block's transfer counts: an f32 block (into the load buffer), and a bf16 block. -/
abbrev NF : ℕ := (lS 0).view.dmaCredit
abbrev NB : ℕ := (sS 0).view.dmaCredit
/-- A load pays something. -/
theorem NF_pos : 0 < NF := View.dmaCredit_pos _ (by decide)
/-- A copy of a rounded block pays something. -/
theorem NB_pos : 0 < NB := View.dmaCredit_pos _ (by decide)
/-- A copy into a slot of the load buffer pays the amount of a load. -/
theorem crl (i : ℕ) : (lS i).view.dmaCredit = NF := rfl
/-- A copy of a slot of the send buffer pays the amount of a rounded block. -/
theorem crs (i : ℕ) : (sS i).view.dmaCredit = NB := rfl
/-- A copy of a slot of x's receive buffer pays the amount of a rounded block. -/
theorem cra (i : ℕ) : (aS i).view.dmaCredit = NB := rfl
/-- A copy of a slot of y's receive buffer pays the amount of a rounded block. -/
theorem cry (i : ℕ) : (yS i).view.dmaCredit = NB := rfl
/-- A copy of a slot of z's receive buffer pays the amount of a rounded block. -/
theorem crz (i : ℕ) : (zS i).view.dmaCredit = NB := rfl
/-- A copy into a block of the output's last 512 rows pays the amount of a rounded block. -/
theorem crT (k : ℕ) : (oT k).view.dmaCredit = NB := rfl

end Cert.KernelProof

end
-- ==== Proof.K.Sched.lean ====
/-
The exchange's protocol: one round on every semaphore, what each delivers, and the order of the waits.

Every semaphore of a device is named by a number: 0 the barrier, 1..22 the reads of `x`, 23..44 and 45..66 the two ends of the
transfers across `x`, 67..87 and 88..108 those across `y`, 109..129 and 130..150 those across `z`, 151..206 the stores into the
output. Each but the barrier has one duty, of one block's credit; the barrier has three, of a unit each.
-/
module

public import proofs.«01_k».proof.Proof.K.Names
public import Idealize.ShloMosaic.Lib.Pipeline.Launch
public import Idealize.ShloMosaic.Lib.Pipeline.Kit
public import Idealize.ShloMosaic.Lib.MemrefSat
public import Idealize.ShloMosaic.Lib.Ring

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Values -/

/-- Row block `k` of device `d`'s `x`, and its rounding. -/
def xv (d : Dev nD) (k : ℕ) : S64x2048.Idx → Elt F .f32 := (xC k).view.read (Elt F) (m ((d.tc : Thread nD τ).loc main_arg0))
def bv (d : Dev nD) (k : ℕ) : S64x2048.Idx → Elt F .bf16 := truncf .bf16 (xv m d k : FVec F S64x2048 .f32) bitsLt_bf16_f32

def vX (c : Dev nD) (i : ℕ) : S64x2048.Idx → Elt F .bf16 := bv m (xn c) (kx c i)
def vY (c : Dev nD) (i : ℕ) : S64x2048.Idx → Elt F .bf16 := bv m (gy c i) (ky c i)
def vZ (c : Dev nD) (i : ℕ) : S64x2048.Idx → Elt F .bf16 := bv m (gz c i) (kz c i)

/-- What the x neighbour receives over x is what this device rounds. -/
theorem vX_xn (c : Dev nD) (i : ℕ) : vX m (xn c) i = bv m c (kx c i) := by unfold vX; rw [xn_xn, kx_xn]
/-- The y neighbour's first 14 blocks over y are what this device received over x. -/
theorem vY_yn (c : Dev nD) (i : ℕ) (h : i < 14) : vY m (yn c) i = vX m c i := by
  unfold vY vX gy ky kx; rw [if_pos h, if_pos h, if_pos h, yn_yn]
/-- The z neighbour's first 14 blocks over z are what this device received over x. -/
theorem vZ_zn (c : Dev nD) (i : ℕ) (h : i < 14) : vZ m (zn c) i = vX m c i := by
  unfold vZ vX gz kz kx; rw [if_pos h, if_pos h, if_pos h, zn_zn]
/-- The y neighbour's last 7 blocks over y are what this device received over z. -/
theorem vY_yn' (c : Dev nD) (i : ℕ) (h : i < 7) : vY m (yn c) (14 + i) = vZ m c i := by
  unfold vY vZ gy ky gz kz
  rw [if_neg (by omega), if_neg (by omega), if_pos (by omega), if_pos (by omega), yn_yn, show 14 + i - 14 = i by omega]
/-- The z neighbour's last 7 blocks over z are what this device received over y. -/
theorem vZ_zn' (c : Dev nD) (i : ℕ) (h : 7 ≤ i) (h' : i < 14) : vZ m (zn c) (7 + i) = vY m c i := by
  unfold vY vZ gy ky gz kz
  rw [if_neg (by omega), if_neg (by omega), if_pos (by omega), if_pos (by omega), zn_zn, show 7 + i - 7 = i by omega]

/-! ## Ownership of blocks -/

section Own
variable {sp : Space} {e : EltTy}

/-- Device `c` holds the block at share `q` with contents `X`; -/
abbrev ow (c : Dev nD) (M : Memref sig .tc sp S64x2048 e) (q : PosShare TreeShare) (X : S64x2048.Idx → Elt F e) : sProp 𝕄 :=
  owns (c : Thread nD τ) M q X
/-- and outright, with some contents. -/
def any (c : Dev nD) (M : Memref sig .tc sp S64x2048 e) : sProp 𝕄 := iprop(∃ X, ow (F := F) c M fullShare X)
instance any_storable (c : Dev nD) (M : Memref sig .tc sp S64x2048 e) : BI.Storable (upEmb : UEmb _ 𝕄) (any (F := F) c M) := by
  unfold any; infer_instance
/-- A view held with known contents is held with some. -/
theorem any_of (c : Dev nD) (M : Memref sig .tc sp S64x2048 e) (X : S64x2048.Idx → Elt F e) : ow (F := F) c M fullShare X ⊢ any c M := by
  unfold any; iintro H; iexists X; iexact H
end Own

/-! ## The cells -/

/-- Semaphore number `n`, and the number of a semaphore (the one the pipeline stages through out of the way). -/
def sn (n : ℕ) : SemLoc sig := if n = 0 then .reg barS else .dma (ds n)
def num : SemLoc sig → ℕ
  | .reg _ => 0
  | .dma q => if q.val = 0 then 999 else q.val

/-- The counter of number `n` has number `n`. -/
theorem num_sn (n : ℕ) (h : n < 215) : num (sn n) = n := by
  unfold sn; split
  · subst n; rfl
  · show (if n % 215 = 0 then 999 else n % 215) = n
    rw [Nat.mod_eq_of_lt h, if_neg (by assumption)]

/-- Device `c`'s cell of number `n`. -/
def kc (c : Dev nD) (n : ℕ) : GSem nD τ sig := ((c : Thread nD τ), sn n)
/-- From 1 on, counter `n` is a copy counter. -/
theorem kc_dma (c : Dev nD) (n : ℕ) (h : 0 < n) : kc c n = ((c : Thread nD τ), .dma (ds n)) := by unfold kc sn; rw [if_neg (by omega)]
/-- Counter 0 is the barrier. -/
theorem kc_bar (c : Dev nD) : kc c 0 = ((c : Thread nD τ), .reg barS) := rfl

/-! ## The payloads -/

/-- Shares of an arrived block, one for each transfer that reads it. -/
abbrev qY : PosShare TreeShare := fullShare.left
abbrev qZ : PosShare TreeShare := fullShare.right.left
abbrev qS : PosShare TreeShare := fullShare.right.right
abbrev qR : PosShare TreeShare := fullShare.right

/-- Where the `i`-th block sent across `x` lands on `c`: a slot, or the output's tail. -/
def dstX (c : Dev nD) (i : ℕ) : sProp 𝕄 := if i < 14 then any (F := F) c (aS i) else any c (oC (42 + i))
def gotX (c : Dev nD) (i : ℕ) : sProp 𝕄 := if i < 14 then ow c (aS i) fullShare (vX m c i) else ow c (oC (42 + i)) fullShare (vX m c i)
/-- The shares the sends across `y` and `z` read, back. -/
def backY (c : Dev nD) (i : ℕ) : sProp 𝕄 := if i < 14 then ow c (aS i) qY (vX m c i) else ow c (zS (i - 14)) qY (vZ m c (i - 14))
def backZ (c : Dev nD) (i : ℕ) : sProp 𝕄 := if i < 14 then ow c (aS i) qZ (vX m c i) else ow c (yS (i - 7)) qY (vY m c (i - 7))
/-- The share the `k`-th store reads, back. -/
def backS (c : Dev nD) (k : ℕ) : sProp 𝕄 :=
  if k < 14 then ow c (aS k) qS (vX m c k) else if k < 21 then ow c (zS (k - 14)) qR (vZ m c (k - 14))
  else if k < 28 then ow c (yS (k - 14)) qR (vY m c (k - 14)) else if k < 35 then ow c (yS (k - 28)) fullShare (vY m c (k - 28))
  else if k < 42 then ow c (zS (k - 28)) fullShare (vZ m c (k - 28)) else if k < 49 then ow c (yS (k - 28)) fullShare (vY m c (k - 28))
  else ow c (zS (k - 35)) fullShare (vZ m c (k - 35))

/-- The barrier's three duties, by the neighbour that pays: what its peer may write there. -/
def payBar (c : Dev nD) (d : Fin 3) : sProp 𝕄 :=
  if d = 0 then bigSep (Finset.Ico 0 22) (fun i => dstX (F := F) (xn c) i)
  else if d = 1 then bigSep (Finset.Ico 0 21) (fun i => any (F := F) (yn c) (yS i))
  else bigSep (Finset.Ico 0 21) (fun i => any (F := F) (zn c) (zS i))

/-- What each semaphore's count delivers. -/
def pay (c : Dev nD) (n : ℕ) (d : Fin 3) : sProp 𝕄 :=
  if n = 0 then payBar c d
  else if n < 23 then iprop(ow c (lS (n - 1)) fullShare (xv m c (kx c (n - 1))) ∗ ow c (xC (kx c (n - 1))) fullShare (xv m c (kx c (n - 1))))
  else if n < 45 then ow c (sS (n - 23)) fullShare (bv m c (kx c (n - 23)))
  else if n < 67 then gotX m c (n - 45)
  else if n < 88 then backY m c (n - 67)
  else if n < 109 then ow c (yS (n - 88)) fullShare (vY m c (n - 88))
  else if n < 130 then backZ m c (n - 109)
  else if n < 151 then ow c (zS (n - 130)) fullShare (vZ m c (n - 130))
  else iprop(ow c (oC (ko c (n - 151))) fullShare (bv m (go c (n - 151)) (ko c (n - 151))) ∗ backS m c (n - 151))

def amtN (n : ℕ) : ℕ := if n = 0 then 1 else if n < 23 then NF else NB
def dutN (n : ℕ) : Finset (Fin 3) := if n = 0 then Finset.univ else if n < 207 then {0} else ∅

/-- The schedule: one round. -/
def Rd : Rounds.Schedule (GSem nD τ sig) (Fin 3) 𝕄 where
  duties g r := if r = 0 ∧ g.1.2 = .tc then dutN (num g.2) else ∅
  unitless _ := False
  amount g _ _ := amtN (num g.2)
  payload g _ d := pay m g.1.1 (num g.2) d
  amount_pos g _ _ _ := by
    show 0 < amtN (num g.2)
    unfold amtN; (repeat' split)
    · exact Nat.one_pos
    · exact NF_pos
    · exact NB_pos

instance dstX_storable (c : Dev nD) (i : ℕ) : BI.Storable (upEmb : UEmb _ 𝕄) (dstX (F := F) c i) := by
  unfold dstX; split <;> infer_instance
instance payBar_storable (c : Dev nD) (d : Fin 3) : BI.Storable (upEmb : UEmb _ 𝕄) (payBar (F := F) c d) := by
  unfold payBar; (repeat' split) <;> infer_instance
instance gotX_storable (c : Dev nD) (i : ℕ) : BI.Storable (upEmb : UEmb _ 𝕄) (gotX m c i) := by
  unfold gotX; split <;> infer_instance
instance backY_storable (c : Dev nD) (i : ℕ) : BI.Storable (upEmb : UEmb _ 𝕄) (backY m c i) := by
  unfold backY; split <;> infer_instance
instance backZ_storable (c : Dev nD) (i : ℕ) : BI.Storable (upEmb : UEmb _ 𝕄) (backZ m c i) := by
  unfold backZ; split <;> infer_instance
instance backS_storable (c : Dev nD) (i : ℕ) : BI.Storable (upEmb : UEmb _ 𝕄) (backS m c i) := by
  unfold backS; (repeat' split) <;> infer_instance
instance pay_storable (c : Dev nD) (n : ℕ) (d : Fin 3) : BI.Storable (upEmb : UEmb _ 𝕄) (pay m c n d) := by
  unfold pay; (repeat' split) <;> infer_instance
instance Rd_payload_storable (g : GSem nD τ sig) (r : ℕ) (d : Fin 3) : BI.Storable (upEmb : UEmb _ 𝕄) ((Rd m).payload g r d) :=
  pay_storable m g.1.1 (num g.2) d

section
variable (c : Dev nD) (n : ℕ) (h : n < 215)
include h
/-- The payments that counter `n` expects. -/
theorem duties_kc : (Rd m).duties (kc c n) 0 = dutN n := by
  show (if (0 : ℕ) = 0 ∧ (kc c n).1.2 = .tc then dutN (num (sn n)) else ∅) = _
  rw [if_pos ⟨rfl, rfl⟩, num_sn n h]
/-- The amount of a payment to counter `n`. -/
theorem amount_kc (d : Fin 3) : (Rd m).amount (kc c n) 0 d = amtN n := by
  show amtN (num (sn n)) = _; rw [num_sn n h]
/-- What a payment to counter `n` hands over. -/
theorem payload_kc (d : Fin 3) : (Rd m).payload (kc c n) 0 d = pay m c n d := by
  show pay m c (num (sn n)) d = _; rw [num_sn n h]
omit h
/-- No counter expects a payment after its first round. -/
theorem duties_later (g : GSem nD τ sig) : ∀ r, 1 ≤ r → (Rd m).duties g r = ∅ := fun r hr => if_neg fun h => by omega
/-- Counters 1 to 206 expect one payment. -/
theorem duties_one (h0 : 0 < n) (h7 : n < 207) : (Rd m).duties (kc c n) 0 = {0} := by
  rw [duties_kc m c n (by omega)]; unfold dutN; rw [if_neg (by omega), if_pos h7]
/-- Counters 207 to 214, of the stores that this branch does not make, expect none. -/
theorem duties_none (h7 : 207 ≤ n) (h' : n < 215) : ∀ r, 0 ≤ r → (Rd m).duties (kc c n) r = ∅ := fun r _ => by
  rcases Nat.eq_zero_or_pos r with rfl | hr
  · rw [duties_kc m c n h']; unfold dutN; rw [if_neg (by omega), if_neg (by omega)]
  · exact duties_later m _ r hr
/-- Counters 1 to 206 expect their one payment's amount. -/
theorem expect_one (h0 : 0 < n) (h7 : n < 207) : (Rd m).expect (kc c n) 0 = amtN n := by
  unfold Schedule.expect Schedule.amountOf; rw [duties_one m c n h0 h7, Finset.sum_singleton, amount_kc m c n (by omega)]
/-- What counters 1 to 206 hand over in all is their one payment's. -/
theorem rest_one (h0 : 0 < n) (h7 : n < 207) :
    bigSep ((Rd m).duties (kc c n) 0 \ ∅) (fun d => (Rd m).payload (kc c n) 0 d) = pay m c n 0 := by
  rw [Finset.sdiff_empty, duties_one m c n h0 h7, bigSep_singleton, payload_kc m c n (by omega)]
/-- The barrier expects three. -/
theorem expect_bar : (Rd m).expect (kc c 0) 0 = 3 := by
  unfold Schedule.expect Schedule.amountOf
  rw [duties_kc m c 0 (by omega), Finset.sum_congr rfl fun d _ => amount_kc m c 0 (by omega) d,
    show amtN 0 = 1 from if_pos rfl, show dutN 0 = Finset.univ from if_pos rfl, Finset.sum_const, Finset.card_univ, Fintype.card_fin, smul_eq_mul]
/-- What a payment to the barrier hands over. -/
theorem pay_bar (d : Fin 3) : pay m c 0 d = payBar c d := by unfold pay; exact if_pos rfl
/-- The barrier hands over, in all, what its three neighbours pay. -/
theorem rest_bar :
    bigSep ((Rd m).duties (kc c 0) 0 \ ∅) (fun d => (Rd m).payload (kc c 0) 0 d) = iprop(payBar c 0 ∗ payBar c 1 ∗ payBar c 2) := by
  rw [Finset.sdiff_empty, duties_kc m c 0 (by omega), show dutN 0 = Finset.univ from if_pos rfl,
    bigSep_congr fun d _ => (payload_kc m c 0 (by omega) d).trans (pay_bar m c d),
    bigSep_univ_eq_bigSepL [0, 1, 2] (by decide) (by decide), bigSepL_cons_cons, bigSepL_cons_cons, bigSepL_singleton]
  generalize payBar c 0 = A, payBar c 1 = B, payBar c 2 = C
  rfl
end

/-! ## The order of the waits -/

/-- The barrier first; then what comes across `x`; then what comes across `y` and `z` of it; then what those forward. -/
def lvN (n : ℕ) : ℕ :=
  if n = 0 then 1 else if n < 45 then 0 else if n < 67 then 2 else if n < 88 then 0 else if n < 102 then 3 else if n < 109 then 4
  else if n < 130 then 0 else if n < 144 then 3 else if n < 151 then 4 else 0
def L (g : GSem nD τ sig) : Finset Unit := if g.1.2 = .tc then {()} else ∅
def lv (g : GSem nD τ sig) (_ : Unit) : ℕ := lvN (num g.2)

/-- Only tensor cores' counters have a level. -/
theorem L_of_ne (g : GSem nD τ sig) (h : g.1.2 ≠ .tc) : L g = ∅ := if_neg h
/-- Every tensor core's counter has one. -/
theorem L_tc (c : Dev nD) (sm : SemLoc sig) : L ((c : Thread nD τ), sm) = {()} := if_pos rfl

abbrev Tly := CellTallies nD τ sig Unit

/-- One amount owed to device `c`'s cell `n`. -/
abbrev tl (c : Dev nD) (n k : ℕ) : Tly := tallyAt (kc c n) () k

/-- Everything owed in `O` is owed to a cell above level `b`. -/
def Ab (b : ℕ) (O : Tly) : Prop := ∀ g u, 0 < O g u → g.1.2 = .tc ∧ b < lvN (num g.2)

/-- Nothing owed is above every level. -/
theorem Ab_zero (b : ℕ) : Ab b 0 := fun g u h => absurd h (by show ¬ 0 < ((0 : Tly) g) u; simp)
/-- Two debts above a level are so together. -/
theorem Ab_add {b : ℕ} {O O' : Tly} (h : Ab b O) (h' : Ab b O') : Ab b (O + O') := fun g u hg => by
  rw [Pi.add_apply, Finsupp.add_apply] at hg
  rcases Nat.eq_zero_or_pos (O g u) with h0 | h0
  · exact h' g u (by omega)
  · exact h g u h0
/-- A debt to one counter is above every level below that counter's. -/
theorem Ab_tl {b : ℕ} (c : Dev nD) (n k : ℕ) (hn : n < 215) (h : b < lvN n) : Ab b (tl c n k) := fun g u hg => by
  rw [tallyAt_apply] at hg
  by_cases hh : g = kc c n ∧ u = ()
  · rw [hh.1]; exact ⟨rfl, by show b < lvN (num (sn n)); rw [num_sn n hn]; exact h⟩
  · rw [if_neg hh] at hg; exact absurd hg (Nat.lt_irrefl 0)
/-- A sum of debts above a level is above it. -/
theorem Ab_sum {b : ℕ} {s : Finset ℕ} {f : ℕ → Tly} (h : ∀ i ∈ s, Ab b (f i)) : Ab b (∑ i ∈ s, f i) := by
  classical
  induction s using Finset.induction_on with
  | empty => rw [Finset.sum_empty]; exact Ab_zero b
  | insert i s hi ih =>
    rw [Finset.sum_insert hi]
    exact Ab_add (h i (Finset.mem_insert_self _ _)) (ih fun j hj => h j (Finset.mem_insert_of_mem hj))

/-- A counter may be waited for where everything owed is above its level. -/
theorem mayWait_of (c : Dev nD) (sm : SemLoc sig) (O : Tly) (h : Ab (lvN (num sm)) O) :
    (levAts L lv : sProp 𝕄) ⊢ MayWait (c : Thread nD τ) sm () O :=
  MayOwe.of_cut (L := L) (lev := lv) (lvN (num sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-! ## What each device owes -/

/-- To the neighbours' receiving cells, from the `k`-th block on. -/
def oX (c : Dev nD) (k : ℕ) : Tly := ∑ i ∈ Finset.Ico k 22, tl (xn c) (45 + i) NB
def oYs (c : Dev nD) (k : ℕ) : Tly := ∑ i ∈ Finset.Ico k 21, tl (yn c) (88 + i) NB
def oZs (c : Dev nD) (k : ℕ) : Tly := ∑ i ∈ Finset.Ico k 21, tl (zn c) (130 + i) NB

/-- The first summand of a run, taken off. -/
theorem sum_peel (f : ℕ → Tly) {a b : ℕ} (h : a < b) : ∑ i ∈ Finset.Ico a b, f i = (∑ i ∈ Finset.Ico (a + 1) b, f i) + f a := by
  rw [show Finset.Ico a b = insert a (Finset.Ico (a + 1) b) by ext x; simp only [Finset.mem_Ico, Finset.mem_insert]; omega,
    Finset.sum_insert (by rw [Finset.mem_Ico]; omega), add_comm]
/-- The debt over x, its next payment taken off. -/
theorem oX_peel (c : Dev nD) (k : ℕ) (h : k < 22) : oX c k = oX c (k + 1) + tl (xn c) (45 + k) NB := by
  unfold oX; rw [sum_peel _ h]
/-- The debt over y, its next payment taken off. -/
theorem oYs_peel (c : Dev nD) (k : ℕ) (h : k < 21) : oYs c k = oYs c (k + 1) + tl (yn c) (88 + k) NB := by
  unfold oYs; rw [sum_peel _ h]
/-- The debt over z, its next payment taken off. -/
theorem oZs_peel (c : Dev nD) (k : ℕ) (h : k < 21) : oZs c k = oZs c (k + 1) + tl (zn c) (130 + k) NB := by
  unfold oZs; rw [sum_peel _ h]
/-- After 22 sends nothing is owed over x. -/
theorem oX_end (c : Dev nD) : oX c 22 = 0 := rfl
/-- After 21 sends nothing is owed over y. -/
theorem oYs_end (c : Dev nD) : oYs c 21 = 0 := rfl
/-- After 21 sends nothing is owed over z. -/
theorem oZs_end (c : Dev nD) : oZs c 21 = 0 := rfl

/-- The debt over x is above levels 0 and 1. -/
theorem Ab_oX (c : Dev nD) (k b : ℕ) (hb : b < 2) : Ab b (oX c k) := Ab_sum fun i hi => by
  have := Finset.mem_Ico.mp hi
  refine Ab_tl _ _ _ (by omega) ?_
  unfold lvN; rw [if_neg (by omega), if_neg (by omega), if_pos (by omega)]; exact hb
/-- The debt over y is above levels 0 to 2, and above level 3 once its first 14 payments are made. -/
theorem Ab_oYs (c : Dev nD) (k b : ℕ) (hb : b < 3 ∨ (b < 4 ∧ 14 ≤ k)) : Ab b (oYs c k) := Ab_sum fun i hi => by
  have := Finset.mem_Ico.mp hi
  refine Ab_tl _ _ _ (by omega) ?_
  unfold lvN; rw [if_neg (by omega), if_neg (by omega), if_neg (by omega), if_neg (by omega)]
  split
  · omega
  · rw [if_pos (by omega)]; omega
/-- The debt over z is above levels 0 to 2, and above level 3 once its first 14 payments are made. -/
theorem Ab_oZs (c : Dev nD) (k b : ℕ) (hb : b < 3 ∨ (b < 4 ∧ 14 ≤ k)) : Ab b (oZs c k) := Ab_sum fun i hi => by
  have := Finset.mem_Ico.mp hi
  refine Ab_tl _ _ _ (by omega) ?_
  unfold lvN; rw [if_neg (by omega), if_neg (by omega), if_neg (by omega), if_neg (by omega), if_neg (by omega), if_neg (by omega), if_neg (by omega)]
  split
  · omega
  · rw [if_pos (by omega)]; omega

/-- After the barrier's signals: the blocks; at launch, with a unit to each neighbour's barrier. -/
def oM0 (c : Dev nD) : Tly := oX c 0 + oYs c 0 + oZs c 0
def oB2 (c : Dev nD) : Tly := oM0 c + tl (zn c) 0 1
def oB1 (c : Dev nD) : Tly := oB2 c + tl (yn c) 0 1
def O₀ (c : Dev nD) : Tly := oB1 c + tl (xn c) 0 1

/-- All that is owed after the barrier is above the barrier's level. -/
theorem Ab_oM0 (c : Dev nD) : Ab 1 (oM0 c) := Ab_add (Ab_add (Ab_oX c 0 1 (by omega)) (Ab_oYs c 0 1 (by omega))) (Ab_oZs c 0 1 (by omega))
/-- All that is owed at the start is above level 0. -/
theorem Ab_O₀ (c : Dev nD) : Ab 0 (O₀ c) := by
  have h0 : ∀ d : Dev nD, Ab 0 (tl d 0 1) := fun d => Ab_tl d 0 1 (by omega) (by decide)
  exact Ab_add (Ab_add (Ab_add (Ab_add (Ab_add (Ab_oX c 0 0 (by omega)) (Ab_oYs c 0 0 (by omega))) (Ab_oZs c 0 0 (by omega))) (h0 _)) (h0 _)) (h0 _)

end Cert.KernelProof

end
-- ==== Proof.K.Runs.lean ====
/-
Separating conjunctions over runs of numbers: one number, two runs that meet, a run shifted.
-/
module

public import Idealize.SL.ProofMode.BigOp
public import Idealize.SL.BI.BigOpNat
public import Mathlib.Algebra.Order.Interval.Finset.Basic
public import Idealize.ShloMosaic.Lib.Rounds

@[expose] public section

namespace Cert.KernelProof

open Idealize.SL Idealize.SL.RA Idealize.SL.BI
open scoped Idealize.SL.BI
open Idealize.SL.BI.BIBase Idealize.SL.BI.Laws Idealize.SL.ProofMode

variable {M : Type} [URA M]

/-- One summand of many. -/
theorem sep_pick {I : Type} [DecidableEq I] {s : Finset I} {i : I} (h : i ∈ s) (A : I → sProp M) : (bigSep s A : sProp M) ⊢ A i := bigSep_elim h

/-- Summand by summand. -/
theorem sep_mono_each {I : Type} {s : Finset I} {A B : I → sProp M} (h : ∀ i ∈ s, A i ⊢ B i) : (bigSep s A : sProp M) ⊢ bigSep s B := bigSep_mono h

/-- A run cut in two. -/
theorem run_cut (b : ℕ) {a c : ℕ} (hab : a ≤ b) (hbc : b ≤ c) (A : ℕ → sProp M) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]
  rfl

/-- A run read `k` numbers further on. -/
theorem run_shift (k a b : ℕ) (A : ℕ → sProp M) : bigSep (Finset.Ico a b) (fun i => A (k + i)) = bigSep (Finset.Ico (k + a) (k + b)) A := by
  rw [← Finset.map_add_left_Ico a b k, bigSep_map]
  rfl

/-- A run whose summands are equal on it. -/
theorem run_congr {a b : ℕ} {A B : ℕ → sProp M} (h : ∀ i, a ≤ i → i < b → A i = B i) : bigSep (Finset.Ico a b) A = bigSep (Finset.Ico a b) B :=
  bigSep_congr fun i hi => h i (Finset.mem_Ico.mp hi).1 (Finset.mem_Ico.mp hi).2

/-- Two runs of one kind of number merged into a run of pairs. -/
theorem run_zip (s : Finset ℕ) (A B : ℕ → sProp M) : iprop(bigSep s A ∗ bigSep s B) = bigSep s (fun i => iprop(A i ∗ B i)) := (bigSep_sep' s A B).symm

/-- The run from zero is over all indices of a finite type. -/
theorem run_fin (n : ℕ) (A : ℕ → sProp M) : bigSep (Finset.univ : Finset (Fin n)) (fun i => A i.val) = bigSep (Finset.Ico 0 n) A := by
  have e : Finset.Ico 0 n = (Finset.univ : Finset (Fin n)).map ⟨fun i => i.val, Fin.val_injective⟩ := by
    ext x; simp only [Finset.mem_Ico, Finset.mem_map, Finset.mem_univ, true_and, Function.Embedding.coeFn_mk]
    exact ⟨fun h => ⟨⟨x, h.2⟩, rfl⟩, fun ⟨i, hi⟩ => by subst hi; exact ⟨Nat.zero_le _, i.isLt⟩⟩
  rw [e, bigSep_map]; rfl

end Cert.KernelProof
-- ==== Proof.K.Steps.lean ====
/-
One action at a time: what each of the body's actions takes and gives, at a symbolic number, and loops of them.
-/
module

public import proofs.«01_k».proof.Proof.K.Sched
public import proofs.«01_k».proof.Proof.K.Runs
public import Idealize.ShloMosaic.Lib.Pipeline.Value

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 215 → ℕ)

abbrev 𝒱₀ : Variants := Variants.none

/-- The rest of the body on device `c`, to `Q`. -/
abbrev W (c : Dev nD) (k : Pr F) (Q : PUnit.{1} → sProp 𝕄) : sProp 𝕄 :=
  wp frame (wpE (defs₀ (F := F)) 𝒱₀ (c : Thread nD τ) none) Set.univ k Q

/-- Copy counter `n` has number `n`. -/
theorem num_dma (n : ℕ) (h0 : 0 < n) (h : n < 215) : num (.dma (ds n)) = n := by
  have := num_sn n h
  unfold sn at this; rwa [if_neg (by omega)] at this

/-! ## What is shared: every cell's invariant, that its round is reached, and the order of the waits -/

def recs : sProp 𝕄 :=
  iprop((bigSep Finset.univ fun p : Dev nD × Fin 215 => iprop(cellInv ER (Rd m) (K p) (kc p.1 p.2.val) ∗ reached ER (kc p.1 p.2.val) 0)) ∗ levAts L lv)

instance recs_persistent : BI.Persistent (recs m K) := by unfold recs; infer_instance

/-- The record of counter `n`, taken from the records. -/
theorem recs_get (c : Dev nD) (n : ℕ) (h : n < 215) :
    recs m K ⊢ iprop(cellInv ER (Rd m) (K (c, ⟨n, h⟩)) (kc c n) ∗ reached ER (kc c n) 0) := by
  unfold recs
  iintro ⟨H, -⟩
  ihave H' := (sep_pick (Finset.mem_univ ((c, ⟨n, h⟩) : Dev nD × Fin 215)) (fun p : Dev nD × Fin 215 => iprop(cellInv ER (Rd m) (K p) (kc p.1 p.2.val) ∗ reached ER (kc p.1 p.2.val) 0))) $$ H
  iexact H'
/-- The records hold the levels. -/
theorem recs_lev : (recs m K : sProp 𝕄) ⊢ (levAts L lv : sProp 𝕄) := by unfold recs; iintro ⟨-, H⟩; iexact H

/-! ## What a device holds of a cell -/

def tk (c : Dev nD) (n : ℕ) : sProp 𝕄 := dutyTok ER (kc c n) 0 0
def cr (c : Dev nD) (n : ℕ) : sProp 𝕄 := cred (tallyAt (kc c n) () (amtN n))
def ps (c : Dev nD) (n r : ℕ) : sProp 𝕄 := atPos ER (kc c n) r ∅ 0
/-- What device `c` owes, whatever it has waited for. -/
def oo (c : Dev nD) (O : Tly) : sProp 𝕄 := iprop(∃ W, owes (c : Thread nD τ) O W)

section Steps
variable {sps spd : Space} {e : EltTy} (c : Dev nD) (Kt : Pr F)
variable {src : Memref sig .tc sps S64x2048 e} {dst : Memref sig .tc spd S64x2048 e} {hs : src.view.WordExact} {hd : dst.view.WordExact}

/-- Points whose contents read as `X` through a view are the view held with `X`. -/
theorem ow_of (q : PosShare TreeShare) (X : S64x2048.Idx → Elt F e) {f : Buf (Elt F) (src.view.loc (c : Thread nD τ))}
    (hf : src.view.read (Elt F) f = X) : (src.view.loc (c : Thread nD τ) ↦[src.view.set]{q} f : sProp 𝕄) ⊢ ow c src q X := by
  unfold ow owns
  iintro H; iexists f; isplitr
  · ipureintro; exact hf
  · iexact H
/-- Starting a transfer within the device: the source's share and the destination go into the semaphore's payload. -/
theorem step_copy (Q : PUnit.{1} → sProp 𝕄) (n : ℕ) {ht : DmaTarget.Typed (nD := nD) (τ := τ) (p := .tc) sps (.dma (ds n)) (.here dst)} (h0 : 0 < n) (h7 : n < 207) (q : PosShare TreeShare) (X : S64x2048.Idx → Elt F e)
    (hN : dst.view.dmaCredit = amtN n) (hpay : iprop(ow c dst fullShare X ∗ ow c src q X) ⊢ pay m c n 0) :
    iprop(recs m K ∗ ow c src q X ∗ any c dst ∗ tk c n) ⊢ iprop((cr c n -∗ W c Kt Q) -∗ W c (copyA n src dst hs hd ht Kt) Q) := by
  have hlt : n < 215 := by omega
  have e := kc_dma c n h0
  have h1 := duties_one m c n h0 h7
  have h2 := amount_kc m c n hlt 0
  have h3 := payload_kc m c n hlt 0
  have h4 := recs_get m K c n hlt
  rw [e] at h1 h2 h3 h4
  unfold copyA W
  unfold any tk cr ow owns
  rw [e]
  iintro ⟨#HR, ⟨%fs, %hfs, Hs⟩, ⟨%Y, ⟨%fd, %hfd, Hd⟩⟩, Ht⟩ Hk
  ihave Hg := h4 $$ HR
  icases Hg with ⟨#HI, #Hr⟩
  iapply (Rounds.wp_copy_pointsTo 𝒱₀ ER (Rd m) (c : Thread nD τ) none (κ := K (c, ⟨n, hlt⟩)) (r := 0) (d := 0) (fs := fs) (fd := fd) (q := q)
      (by rw [h1]; exact Finset.mem_singleton_self _) () (amtN n) (show dst.view.amount (.dma (ds n)) = amtN n from hN) h2
      (by
        rw [h3]
        iintro ⟨Hd, Hs⟩
        iapply hpay
        isplitl [Hd]
        · iapply (ow_of c fullShare X ((View.read_write_univ _ _).trans hfs)); iexact Hd
        · iapply (ow_of c q X hfs); iexact Hs)) $$ [Hs Hd Ht]
  · isplitr; · iexact HI
    isplitl [Hs]; · iexact Hs
    isplitl [Hd]; · iexact Hd
    isplitl [Ht]; · iexact Ht
    iexact Hr
  iintro Hc
  iapply Hk; iexact Hc

/-- Waiting for one's own semaphore: what it delivers. -/
theorem step_wait (Q : PUnit.{1} → sProp 𝕄) (n : ℕ) (h0 : 0 < n) (h7 : n < 207) (hN : dst.view.dmaCredit = amtN n) (O : Tly) (hO : Ab (lvN n) O) :
    iprop(recs m K ∗ cr c n ∗ ps c n 0 ∗ oo c O) ⊢ iprop((oo c O ∗ ps c n 1 ∗ pay m c n 0 -∗ W c Kt Q) -∗ W c (waitA n src dst hs hd Kt) Q) := by
  have hlt : n < 215 := by omega
  have e := kc_dma c n h0
  have hx := expect_one m c n h0 h7
  have hr := rest_one m c n h0 h7
  have h4 := recs_get m K c n hlt
  have hO' : Ab (lvN (num (.dma (ds n)))) O := by
    rw [num_dma n h0 hlt]; exact hO
  have h5 : (recs m K : sProp 𝕄) ⊢ MayWait (c : Thread nD τ) (.dma (ds n)) () O := (@recs_lev F _ m K).trans (mayWait_of c (.dma (ds n)) O hO')
  rw [e] at hx hr h4
  unfold waitA W cr ps oo
  rw [e, ← hN]
  iintro ⟨#HR, Hc, Hp, ⟨%V, Ho⟩⟩ Hk
  ihave Hg := h4 $$ HR
  icases Hg with ⟨#HI, -⟩
  ihave #Hlev := h5 $$ HR
  iapply (Rounds.wp_wait_rest_token 𝒱₀ ER (Rd m) (c : Thread nD τ) none (κ := K (c, ⟨n, hlt⟩))
      (wpE_waitDma2_eq 𝒱₀ (c : Thread nD τ) none Set.univ) (Set.mem_univ _) () (O := O) (W := V) (R := 0) (m := 0) (T := ∅)
      (k' := dst.view.dmaCredit) ((Nat.zero_add _).trans (hN.trans hx.symm))) $$ [Hc Ho Hp]
  · isplitr; · iexact HI
    isplitl [Hc]; · iexact Hc
    isplitl [Ho]; · iexact Ho
    isplitr
    · iexact Hlev
    iexact Hp
  iintro ⟨Ho, Hp, -, Hpay⟩
  ihave Hpay := (Entails.of_eq hr) $$ Hpay
  iapply Hk
  isplitl [Ho]; · iexists _; iexact Ho
  isplitl [Hp]; · iexact Hp
  iexact Hpay

/-- Starting a transfer to device `d`: the source's share goes into one's own semaphore's payload, the destination into the peer's, whose
    amount is no longer owed. -/
theorem step_send (Q : PUnit.{1} → sProp 𝕄) (d : Dev nD) (a b : ℕ) {hsc : dst.view.ref.isScScratch = false}
    {ht : DmaTarget.Typed (nD := nD) (τ := τ) (p := .tc) sps (.dma (ds b)) (.remote (Dev.tc d) dst (.dma (ds a)) hsc)} (ha : 23 ≤ a) (ha' : a < 207) (hb : 23 ≤ b) (hb' : b < 207)
    (q : PosShare TreeShare) (X : S64x2048.Idx → Elt F e) (O : Tly)
    (hN : dst.view.dmaCredit = NB) (hp1 : ow c src q X ⊢ pay m c a 0) (hp2 : ow d dst fullShare X ⊢ pay m d b 0) :
    iprop(recs m K ∗ ow c src q X ∗ any d dst ∗ oo c (O + tl d b NB) ∗ tk c a ∗ tk d b)
      ⊢ iprop((cr c a ∗ oo c O -∗ W c Kt Q) -∗ W c (sendA d a b src dst hs hd hsc ht Kt) Q) := by
  have hlta : a < 215 := by omega
  have hltb : b < 215 := by omega
  have am (n : ℕ) (h : 23 ≤ n) : amtN n = NB := by unfold amtN; rw [if_neg (by omega), if_neg (by omega)]
  have ea := kc_dma c a (by omega)
  have eb := kc_dma d b (by omega)
  have ha1 := duties_one m c a (by omega) ha'
  have ha2 := (amount_kc m c a hlta 0).trans (am a ha)
  have ha3 := payload_kc m c a hlta 0
  have ha4 := recs_get m K c a hlta
  have hb1 := duties_one m d b (by omega) hb'
  have hb2 := (amount_kc m d b hltb 0).trans (am b hb)
  have hb3 := payload_kc m d b hltb 0
  have hb4 := recs_get m K d b hltb
  rw [ea] at ha1 ha2 ha3 ha4
  rw [eb] at hb1 hb2 hb3 hb4
  unfold sendA W any tk cr oo tl
  rw [am a ha]
  unfold ow owns
  rw [ea, eb]
  iintro ⟨#HR, ⟨%fs, %hfs, Hs⟩, ⟨%Y, ⟨%fd, %hfd, Hd⟩⟩, ⟨%V, Ho⟩, Hta, Htb⟩ Hk
  ihave Hga := ha4 $$ HR
  icases Hga with ⟨#HIa, #Hra⟩
  ihave Hgb := hb4 $$ HR
  icases Hgb with ⟨#HIb, #Hrb⟩
  iapply (Rounds.wp_send_pointsTo 𝒱₀ ER (Rd m) (c : Thread nD τ) none (c' := (d : Thread nD τ)) (κ₁ := K (c, ⟨a, hlta⟩)) (κ₂ := K (d, ⟨b, hltb⟩))
      (r₁ := 0) (r₂ := 0) (d₁ := 0) (d₂ := 0) (fs := fs) (fd := fd) (q := q)
      (by rw [ha1]; exact Finset.mem_singleton_self _) (by rw [hb1]; exact Finset.mem_singleton_self _)
      () () NB (show dst.view.amount (.dma (ds b)) = NB from hN) ha2 hb2 O rfl (W := V)
      (by
        rw [ha3]
        iintro Hs
        iapply hp1
        iapply (ow_of c q X hfs); iexact Hs)
      (by
        rw [hb3]
        iintro Hd
        iapply hp2
        iapply (ow_of d fullShare X ((View.read_write_univ _ _).trans hfs)); iexact Hd)) $$ [Hs Hd Ho Hta Htb]
  · isplitr; · iexact HIa
    isplitr; · iexact HIb
    isplitl [Hs]; · iexact Hs
    isplitl [Hd]; · iexact Hd
    isplitl [Ho]; · iexact Ho
    isplitl [Hta]; · iexact Hta
    isplitr; · iexact Hra
    isplitl [Htb]; · iexact Htb
    iexact Hrb
  iintro ⟨Hc, Ho⟩
  iapply Hk
  isplitl [Hc]; · iexact Hc
  iexists V; iexact Ho

end Steps

/-! ## Rounding a slot -/

/-- Rounding a slot and reading it as 64 rows is reading it so and rounding. -/
theorem castPay_eq (v : Vec F S1x64x2048 .f32) (X : S64x2048.Idx → Elt F .f32)
    (h : shapeCast S64x2048 v shapeCasts_S1x64x2048_S64x2048 = X) :
    shapeCast S64x2048 (castPay v) shapeCasts_S1x64x2048_S64x2048 = truncf .bf16 (X : FVec F S64x2048 .f32) bitsLt_bf16_f32 := by
  unfold castPay
  rw [h]
  exact shapeCast_shapeCast _ _ _

/-- Rounding a slot of the load buffer into its slot of the send buffer. -/
theorem step_round (c : Dev nD) (Q : PUnit.{1} → sProp 𝕄) (Kt : Pr F) (i : ℕ) (X : S64x2048.Idx → Elt F .f32) :
    iprop(ow c (lS i) fullShare X ∗ any c (sS i))
      ⊢ iprop((ow c (lS i) fullShare X ∗ ow c (sS i) fullShare (truncf .bf16 (X : FVec F S64x2048 .f32) bitsLt_bf16_f32) -∗ W c Kt Q) -∗ W c (roundA i Kt) Q) := by
  have hl : (lM.access (slotR i)).set ⊆ (lS i).view.set := by
    rw [show (lS i).view.set = (lM.access (slotR i)).set from View.set_reshape _ _]
  have hs : (sM.access (slotR i)).set ⊆ (sS i).view.set := by
    rw [show (sS i).view.set = (sM.access (slotR i)).set from View.set_reshape _ _]
  unfold roundA W any ow owns
  iintro ⟨⟨%f, %hf, Hl⟩, ⟨%Y, ⟨%g, %hg, Hs⟩⟩⟩ Hk
  have el (f : Buf (Elt F) ((lS i).view.loc (c : Thread nD τ))) : ((lS i).view.loc (c : Thread nD τ) ↦[(lS i).view.set]{fullShare} f : sProp 𝕄)
    = ((lM.access (slotR i)).loc (c : Thread nD τ) ↦[(lS i).view.set]{fullShare} f) := rfl
  have es (f : Buf (Elt F) ((sS i).view.loc (c : Thread nD τ))) : ((sS i).view.loc (c : Thread nD τ) ↦[(sS i).view.set]{fullShare} f : sProp 𝕄)
    = ((sM.access (slotR i)).loc (c : Thread nD τ) ↦[(sS i).view.set]{fullShare} f) := rfl
  ihave Hl := (Entails.of_eq (el f)) $$ Hl
  ihave Hs := (Entails.of_eq (es g)) $$ Hs
  iapply (wp_load_rect 𝒱₀ (c : Thread nD τ) none Set.univ (m := lM) (r := slotR i) (S := (lS i).view.set) (q := fullShare) (f := f) hl) $$ Hl
  iintro Hl
  iapply (wp_load_rect 𝒱₀ (c : Thread nD τ) none Set.univ (m := sM) (r := slotR i) (S := (sS i).view.set) (q := fullShare) (f := g) hs) $$ Hs
  iintro Hs
  iapply (wp_store 𝒱₀ (c : Thread nD τ) none Set.univ (m := sM) (r := slotR i) (Mk := Finset.univ) (S := (sS i).view.set) (f := g) hs) $$ Hs
  iintro Hs
  iapply Hk
  isplitl [Hl]
  · iexists f; isplitr
    · ipureintro; exact hf
    · iexact Hl
  · iexists _; isplitr
    rotate_left
    · iexact Hs
    · ipureintro
      refine (?_ : _ = shapeCast S64x2048 (castPay ((lM.access (slotR i)).read (Elt F) f)) shapeCasts_S1x64x2048_S64x2048).trans (castPay_eq _ X hf)
      funext j
      exact congrFun (View.read_write_univ (v := sM.access (slotR i)) g _) _

/-! ## Loops -/

/-- A run of `n` steps from `a`: each step's needs laid out beforehand, each step's results collected. -/
theorem loop_run (c : Dev nD) (Q : PUnit.{1} → sProp 𝕄) (f : ℕ → Pr F → Pr F) (P R : ℕ → sProp 𝕄) (O : ℕ → Tly) (Kt : Pr F) :
    ∀ (n a : ℕ), (∀ i, a ≤ i → i < a + n → ∀ Kt : Pr F, iprop(recs m K ∗ P i ∗ oo c (O i)) ⊢ iprop((R i ∗ oo c (O (i + 1)) -∗ W c Kt Q) -∗ W c (f i Kt) Q)) →
    iprop(recs m K ∗ bigSep (Finset.Ico a (a + n)) P ∗ oo c (O a))
      ⊢ iprop((bigSep (Finset.Ico a (a + n)) R ∗ oo c (O (a + n)) -∗ W c Kt Q) -∗ W c (loop f n a Kt) Q)
  | 0, a, _ => by
    rw [Nat.add_zero, Finset.Ico_self, bigSep_empty, bigSep_empty]
    unfold loop
    iintro ⟨-, -, Ho⟩ Hk
    iapply Hk
    isplitr; · iempintro
    iexact Ho
  | n + 1, a, h => by
    have ih := loop_run c Q f P R O Kt n (a + 1) fun i h1 h2 => h i (by omega) (by omega)
    rw [show a + 1 + n = a + (n + 1) by omega] at ih
    rw [bigSep_Ico_succ_bot (show a < a + (n + 1) by omega), bigSep_Ico_succ_bot (show a < a + (n + 1) by omega)]
    unfold loop
    iintro ⟨#HR, ⟨HP, HPs⟩, Ho⟩ Hk
    iapply (h a le_rfl (by omega) _) $$ [HP Ho]
    · isplitr; · iexact HR
      isplitl [HP] <;> iassumption
    iintro ⟨HQ, Ho⟩
    iapply ih $$ [HPs Ho]
    · isplitr; · iexact HR
      isplitl [HPs] <;> iassumption
    iintro ⟨HQs, Ho⟩
    iapply Hk
    isplitl [HQ HQs]
    · isplitl [HQ] <;> iassumption
    iexact Ho

end Cert.KernelProof

end
-- ==== Proof.K.Pays.lean ====
/-
What each numbered semaphore delivers, read at the number its phase uses.
-/
module

public import proofs.«01_k».proof.Proof.K.Steps

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD) (i : ℕ)

/-- The counters of the loads expect the amount of a load. -/
theorem amt_l (h : i < 22) : NF = amtN (1 + i) := by
  unfold amtN; rw [if_neg (by omega), if_pos (by omega)]
/-- The counters from 23 on expect the amount of a rounded block. -/
theorem amt_b (n : ℕ) (h : 23 ≤ n) : NB = amtN n := by
  unfold amtN; rw [if_neg (by omega), if_neg (by omega)]

/-- A load pays the filled slot and the row block of the input it read. -/
theorem pay_l (h : i < 22) : pay m c (1 + i) 0
    = iprop(ow c (lS i) fullShare (xv m c (kx c i)) ∗ ow c (xC (kx c i)) fullShare (xv m c (kx c i))) := by
  unfold pay; rw [if_neg (by omega), if_pos (by omega), show 1 + i - 1 = i by omega]
/-- A send over x, once read, pays its slot of the send buffer back. -/
theorem pay_sx (h : i < 22) : pay m c (23 + i) 0 = ow c (sS i) fullShare (bv m c (kx c i)) := by
  unfold pay; rw [if_neg (by omega), if_neg (by omega), if_pos (by omega), show 23 + i - 23 = i by omega]
/-- An arrival over x pays the block in place. -/
theorem pay_rx (h : i < 22) : pay m c (45 + i) 0 = gotX m c i := by
  unfold pay; rw [if_neg (by omega), if_neg (by omega), if_neg (by omega), if_pos (by omega), show 45 + i - 45 = i by omega]
/-- A send over y, once read, pays the share of what it read. -/
theorem pay_sy (h : i < 21) : pay m c (67 + i) 0 = backY m c i := by
  unfold pay
  rw [if_neg (by omega), if_neg (by omega), if_neg (by omega), if_neg (by omega), if_pos (by omega), show 67 + i - 67 = i by omega]
/-- An arrival over y pays the block in its slot. -/
theorem pay_ry (h : i < 21) : pay m c (88 + i) 0 = ow c (yS i) fullShare (vY m c i) := by
  unfold pay
  rw [if_neg (by omega), if_neg (by omega), if_neg (by omega), if_neg (by omega), if_neg (by omega), if_pos (by omega), show 88 + i - 88 = i by omega]
/-- A send over z, once read, pays the share of what it read. -/
theorem pay_sz (h : i < 21) : pay m c (109 + i) 0 = backZ m c i := by
  unfold pay
  rw [if_neg (by omega), if_neg (by omega), if_neg (by omega), if_neg (by omega), if_neg (by omega), if_neg (by omega), if_pos (by omega),
    show 109 + i - 109 = i by omega]
/-- An arrival over z pays the block in its slot. -/
theorem pay_rz (h : i < 21) : pay m c (130 + i) 0 = ow c (zS i) fullShare (vZ m c i) := by
  unfold pay
  rw [if_neg (by omega), if_neg (by omega), if_neg (by omega), if_neg (by omega), if_neg (by omega), if_neg (by omega), if_neg (by omega),
    if_pos (by omega), show 130 + i - 130 = i by omega]

/-- What the `k`-th store leaves: its block of the output, and the share it read. -/
def stored (k : ℕ) : sProp 𝕄 := iprop(ow c (oC (ko c k)) fullShare (bv m (go c k) (ko c k)) ∗ backS m c k)
/-- A store pays the filled row block of the output and the share of the slot it read. -/
theorem pay_st (k : ℕ) : pay m c (151 + k) 0 = stored m c k := by
  unfold pay stored
  rw [if_neg (by omega), if_neg (by omega), if_neg (by omega), if_neg (by omega), if_neg (by omega), if_neg (by omega), if_neg (by omega),
    if_neg (by omega), show 151 + k - 151 = k by omega]

/-! ## The stores, phase by phase: the block of the output each fills, and what it leaves there -/

/-- Stores 0 to 13 fill the own quarter. -/
theorem koB (h : i < 14) : oC (ko c i) = oA c i := by rw [oA_eq c i h]; unfold ko; rw [if_pos h]
/-- Stores 14 to 20 fill the first seven blocks of the z neighbour's quarter. -/
theorem koC (h : i < 7) : oC (ko c (14 + i)) = oZ c i := by
  rw [oZ_eq c i (by omega)]; unfold ko; rw [if_neg (by omega), if_pos (by omega), show 14 + i - 14 = i by omega]
/-- Stores 21 to 27 fill the second seven blocks of the y neighbour's quarter. -/
theorem koD (h : 7 ≤ i) (h' : i < 14) : oC (ko c (14 + i)) = oY c i := by
  rw [oY_eq c i h']; unfold ko; rw [if_neg (by omega), if_neg (by omega), if_pos (by omega), show 14 + i - 14 = i by omega]
/-- Stores 28 to 34 fill the first seven blocks of the y neighbour's quarter. -/
theorem koE (h : i < 7) : oC (ko c (28 + i)) = oY c i := by
  rw [oY_eq c i (by omega)]; unfold ko
  rw [if_neg (by omega), if_neg (by omega), if_neg (by omega), if_pos (by omega), show 28 + i - 28 = i by omega]
/-- Stores 35 to 41 fill the second seven blocks of the z neighbour's quarter. -/
theorem koF (h : 7 ≤ i) (h' : i < 14) : oC (ko c (28 + i)) = oZ c i := by
  rw [oZ_eq c i h']; unfold ko
  rw [if_neg (by omega), if_neg (by omega), if_neg (by omega), if_neg (by omega), if_pos (by omega), show 28 + i - 28 = i by omega]
/-- Stores 42 to 48 fill the diagonal quarter's blocks that came over y. -/
theorem koG (h : 14 ≤ i) (h' : i < 21) : oC (ko c (28 + i)) = oYd c (i - 14) := by
  rw [oYd_eq c i h h']; unfold ko
  rw [if_neg (by omega), if_neg (by omega), if_neg (by omega), if_neg (by omega), if_neg (by omega), if_pos (by omega), show 28 + i - 28 = i by omega]
/-- Stores 49 to 55 fill the diagonal quarter's blocks that came over z. -/
theorem koH (h : 14 ≤ i) (h' : i < 21) : oC (ko c (35 + i)) = oZd c (i - 14) := by
  rw [oZd_eq c i h h']; unfold ko
  rw [if_neg (by omega), if_neg (by omega), if_neg (by omega), if_neg (by omega), if_neg (by omega), if_neg (by omega), if_pos (by omega),
    show 35 + i - 35 = i by omega]

/-- What a store of x's blocks pays. -/
theorem stB (h : i < 14) : stored m c i = iprop(ow c (oA c i) fullShare (vX m c i) ∗ ow c (aS i) qS (vX m c i)) := by
  unfold stored; rw [koB c i h]; unfold backS go ko vX; simp only [h, ↓reduceIte]
/-- What a store of z's first seven blocks pays. -/
theorem stC (h : i < 7) : stored m c (14 + i) = iprop(ow c (oZ c i) fullShare (vZ m c i) ∗ ow c (zS i) qR (vZ m c i)) := by
  have h1 : ¬ 14 + i < 14 := by omega
  have h2 : 14 + i < 21 := by omega
  have h3 : 14 + i - 14 = i := by omega
  unfold stored; rw [koC c i h]; unfold backS go ko; simp only [h1, h2, h3, ↓reduceIte]; unfold vZ; rfl
/-- What a store of y's second seven blocks pays. -/
theorem stD (h : 7 ≤ i) (h' : i < 14) : stored m c (14 + i) = iprop(ow c (oY c i) fullShare (vY m c i) ∗ ow c (yS i) qR (vY m c i)) := by
  have h1 : ¬ 14 + i < 14 := by omega
  have h2 : ¬ 14 + i < 21 := by omega
  have h4 : 14 + i < 28 := by omega
  have h3 : 14 + i - 14 = i := by omega
  unfold stored; rw [koD c i h h']; unfold backS go ko; simp only [h1, h2, h3, h4, ↓reduceIte]; unfold vY; rfl
/-- What a store of y's first seven blocks pays. -/
theorem stE (h : i < 7) : stored m c (28 + i) = iprop(ow c (oY c i) fullShare (vY m c i) ∗ ow c (yS i) fullShare (vY m c i)) := by
  have h1 : ¬ 28 + i < 14 := by omega
  have h2 : ¬ 28 + i < 21 := by omega
  have h4 : ¬ 28 + i < 28 := by omega
  have h5 : 28 + i < 35 := by omega
  have h3 : 28 + i - 28 = i := by omega
  unfold stored; rw [koE c i h]; unfold backS go ko; simp only [h1, h2, h3, h4, h5, ↓reduceIte]; unfold vY; rfl
/-- What a store of z's second seven blocks pays. -/
theorem stF (h : 7 ≤ i) (h' : i < 14) : stored m c (28 + i) = iprop(ow c (oZ c i) fullShare (vZ m c i) ∗ ow c (zS i) fullShare (vZ m c i)) := by
  have h1 : ¬ 28 + i < 14 := by omega
  have h2 : ¬ 28 + i < 21 := by omega
  have h4 : ¬ 28 + i < 28 := by omega
  have h5 : ¬ 28 + i < 35 := by omega
  have h6 : 28 + i < 42 := by omega
  have h3 : 28 + i - 28 = i := by omega
  unfold stored; rw [koF c i h h']; unfold backS go ko; simp only [h1, h2, h3, h4, h5, h6, ↓reduceIte]; unfold vZ; rfl
/-- What a store of y's last seven blocks pays. -/
theorem stG (h : 14 ≤ i) (h' : i < 21) : stored m c (28 + i) = iprop(ow c (oYd c (i - 14)) fullShare (vY m c i) ∗ ow c (yS i) fullShare (vY m c i)) := by
  have h1 : ¬ 28 + i < 14 := by omega
  have h2 : ¬ 28 + i < 21 := by omega
  have h4 : ¬ 28 + i < 28 := by omega
  have h5 : ¬ 28 + i < 35 := by omega
  have h6 : ¬ 28 + i < 42 := by omega
  have h7 : 28 + i < 49 := by omega
  have h3 : 28 + i - 28 = i := by omega
  unfold stored; rw [koG c i h h']; unfold backS go ko; simp only [h1, h2, h3, h4, h5, h6, h7, ↓reduceIte]; unfold vY; rfl
/-- What a store of z's last seven blocks pays. -/
theorem stH (h : 14 ≤ i) (h' : i < 21) : stored m c (35 + i) = iprop(ow c (oZd c (i - 14)) fullShare (vZ m c i) ∗ ow c (zS i) fullShare (vZ m c i)) := by
  have h1 : ¬ 35 + i < 14 := by omega
  have h2 : ¬ 35 + i < 21 := by omega
  have h4 : ¬ 35 + i < 28 := by omega
  have h5 : ¬ 35 + i < 35 := by omega
  have h6 : ¬ 35 + i < 42 := by omega
  have h7 : ¬ 35 + i < 49 := by omega
  have h8 : 35 + i < 56 := by omega
  have h3 : 35 + i - 35 = i := by omega
  unfold stored; rw [koH c i h h']; unfold backS go ko; simp only [h1, h2, h3, h4, h5, h6, h7, h8, ↓reduceIte]; unfold vZ; rfl

/-! ## What the transfers deliver where they arrive and where they left from -/

/-- A block of the own quarter, landed at the x neighbour, is what that device's counter is to be paid. -/
theorem toXa (h : i < 14) : ow (xn c) (aS i) fullShare (bv m c (kx c i)) = pay m (xn c) (45 + i) 0 := by
  rw [pay_rx m (xn c) i (by omega)]; unfold gotX; rw [if_pos h, vX_xn]
/-- A block of the last 512 rows, landed at the x neighbour, is what that device's counter is to be paid. -/
theorem toXt (h : 14 ≤ i) (h' : i < 22) : ow (xn c) (oT (i - 14)) fullShare (bv m c (kx c i)) = pay m (xn c) (45 + i) 0 := by
  rw [pay_rx m (xn c) i (by omega), oT_eq i h h']; unfold gotX; rw [if_neg (by omega), vX_xn]
/-- A block of x, landed at the y neighbour, is what that device's counter is to be paid. -/
theorem toYb (h : i < 14) : ow (yn c) (yS i) fullShare (vX m c i) = pay m (yn c) (88 + i) 0 := by
  rw [pay_ry m (yn c) i (by omega), vY_yn m c i h]
/-- A block of x, landed at the z neighbour, is what that device's counter is to be paid. -/
theorem toZb (h : i < 14) : ow (zn c) (zS i) fullShare (vX m c i) = pay m (zn c) (130 + i) 0 := by
  rw [pay_rz m (zn c) i (by omega), vZ_zn m c i h]
/-- A block of z, landed at the y neighbour, is what that device's counter is to be paid. -/
theorem toYc (h : i < 7) : ow (yn c) (yS (14 + i)) fullShare (vZ m c i) = pay m (yn c) (88 + (14 + i)) 0 := by
  rw [pay_ry m (yn c) (14 + i) (by omega), vY_yn' m c i h]
/-- A block of y, landed at the z neighbour, is what that device's counter is to be paid. -/
theorem toZd (h : 7 ≤ i) (h' : i < 14) : ow (zn c) (zS (7 + i)) fullShare (vY m c i) = pay m (zn c) (130 + (7 + i)) 0 := by
  rw [pay_rz m (zn c) (7 + i) (by omega), vZ_zn' m c i h h']
/-- The share that a copy of x's block over y reads is what its send counter is to be paid. -/
theorem frYb (h : i < 14) : ow c (aS i) qY (vX m c i) = pay m c (67 + i) 0 := by
  rw [pay_sy m c i (by omega)]; unfold backY; rw [if_pos h]
/-- The share that a copy of x's block over z reads is what its send counter is to be paid. -/
theorem frZb (h : i < 14) : ow c (aS i) qZ (vX m c i) = pay m c (109 + i) 0 := by
  rw [pay_sz m c i (by omega)]; unfold backZ; rw [if_pos h]
/-- The share that a copy of z's block over y reads is what its send counter is to be paid. -/
theorem frYc (h : i < 7) : ow c (zS i) qY (vZ m c i) = pay m c (67 + (14 + i)) 0 := by
  rw [pay_sy m c (14 + i) (by omega)]; unfold backY; rw [if_neg (by omega), show 14 + i - 14 = i by omega]
/-- The share that a copy of y's block over z reads is what its send counter is to be paid. -/
theorem frZd (h : 7 ≤ i) (h' : i < 14) : ow c (yS i) qY (vY m c i) = pay m c (109 + (7 + i)) 0 := by
  rw [pay_sz m c (7 + i) (by omega)]; unfold backZ; rw [if_neg (by omega), show 7 + i - 7 = i by omega]
/-- The first 14 arrivals over x pay their slots of the receive buffer. -/
theorem gotX_a (h : i < 14) : pay m c (45 + i) 0 = ow c (aS i) fullShare (vX m c i) := by
  rw [pay_rx m c i (by omega)]; unfold gotX; rw [if_pos h]

end Cert.KernelProof

end
-- ==== Proof.K.Phases.lean ====
/-
The body's phases: what one turn of each takes and gives.
-/
module

public import proofs.«01_k».proof.Proof.K.Pays

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 215 → ℕ)

/-- Two names of one view hold the same points. -/
theorem any_eq {sp : Space} {e : EltTy} (c : Dev nD) {M M' : Memref sig .tc sp S64x2048 e} (h : M = M') : any (F := F) c M = any c M' := by rw [h]

/-- A copy into the own quarter of the output pays the amount of a rounded block. -/
theorem crOA (c : Dev nD) (i : ℕ) : (oA c i).view.dmaCredit = NB := rfl
/-- A copy into the y neighbour's quarter of the output pays the amount of a rounded block. -/
theorem crOY (c : Dev nD) (i : ℕ) : (oY c i).view.dmaCredit = NB := rfl
/-- A copy into the z neighbour's quarter of the output pays the amount of a rounded block. -/
theorem crOZ (c : Dev nD) (i : ℕ) : (oZ c i).view.dmaCredit = NB := rfl
/-- A copy into the diagonal quarter's blocks from y pays the amount of a rounded block. -/
theorem crOYd (c : Dev nD) (i : ℕ) : (oYd c i).view.dmaCredit = NB := rfl
/-- A copy into the diagonal quarter's blocks from z pays the amount of a rounded block. -/
theorem crOZd (c : Dev nD) (i : ℕ) : (oZd c i).view.dmaCredit = NB := rfl
/-- What a copy over y reads is of the amount of a rounded block. -/
theorem crSY (i : ℕ) : (srcY i).view.dmaCredit = NB := by unfold srcY; split <;> rfl
/-- What a copy over z reads is of the amount of a rounded block. -/
theorem crSZ (i : ℕ) : (srcZ i).view.dmaCredit = NB := by unfold srcZ; split <;> rfl

/-- What a device is owed on semaphore `n`, and that it has not waited there. -/
def due (c : Dev nD) (n : ℕ) : sProp 𝕄 := iprop(cr c n ∗ ps c n 0)
/-- What it has waited for: the count's delivery. -/
def done (c : Dev nD) (n : ℕ) : sProp 𝕄 := iprop(ps c n 1 ∗ pay m c n 0)

/-! ## Reading `x` -/

/-- One read: a semaphore's token, the block of `x`, a slot. -/
def needL (c : Dev nD) (i : ℕ) : sProp 𝕄 :=
  iprop(tk c (1 + i) ∗ ow c (xC (kx c i)) fullShare (xv m c (kx c i)) ∗ any c (lS i))

/-- The body of the loop that starts the first loads. -/
theorem stepL (c : Dev nD) (Q : PUnit.{1} → sProp 𝕄) (Kt : Pr F) (i : ℕ) (h : i < 22) :
    iprop(recs m K ∗ needL m c i) ⊢ iprop((cr c (1 + i) -∗ W c Kt Q) -∗ W c (ldA c i Kt) Q) := by
  have hp : iprop(ow c (lS i) fullShare (xv m c (kx c i)) ∗ ow c (xR c i) fullShare (xv m c (kx c i))) ⊢ pay m c (1 + i) 0 := by
    rw [pay_l m c i h, xR_eq c i h]
  have e : ow c (xC (kx c i)) fullShare (xv m c (kx c i)) = ow c (xR c i) fullShare (xv m c (kx c i)) := by rw [xR_eq c i h]
  unfold needL ldA
  rw [e]
  iintro ⟨#HR, Ht, Hx, Hl⟩ Hk
  iapply (step_copy m K c Kt Q (1 + i) (by omega) (by omega) fullShare (xv m c (kx c i)) ((crl i).trans (amt_l i h)) hp) $$ [Ht Hx Hl]
  · isplitr; · iexact HR
    isplitl [Hx]; · iexact Hx
    isplitl [Hl]; · iexact Hl
    iexact Ht
  iexact Hk

/-! ## Phase A -/

def needA (c : Dev nD) (i : ℕ) : sProp 𝕄 :=
  iprop(due c (1 + i) ∗ any c (sS i) ∗ tk c (23 + i) ∗ tk (xn c) (45 + i) ∗ dstX (xn c) i)
def giveA (c : Dev nD) (i : ℕ) : sProp 𝕄 := iprop(done m c (1 + i) ∗ cr c (23 + i))
/-- What is still owed before phase A's turn `i`. -/
def owA (c : Dev nD) (i : ℕ) : Tly := oX c i + oYs c 0 + oZs c 0

/-- Of what is owed before the `i`-th send over x, that send pays its own part. -/
theorem owA_peel (c : Dev nD) (i : ℕ) (h : i < 22) : owA c i = owA c (i + 1) + tl (xn c) (45 + i) NB := by
  unfold owA; rw [oX_peel c i h, add_right_comm _ _ (oYs c 0), add_right_comm _ _ (oZs c 0)]

/-- The body of the loop that waits for a load, rounds it and sends it over x. -/
theorem stepA (c : Dev nD) (Q : PUnit.{1} → sProp 𝕄) (Kt : Pr F) (i : ℕ) (h : i < 22) :
    iprop(recs m K ∗ needA c i ∗ oo c (owA c i)) ⊢ iprop((giveA m c i ∗ oo c (owA c (i + 1)) -∗ W c Kt Q) -∗ W c (phA c i Kt) Q) := by
  have hO : Ab (lvN (1 + i)) (owA c (i + 1) + tl (xn c) (45 + i) NB) := by
    rw [← owA_peel c i h]
    have : lvN (1 + i) = 0 := by unfold lvN; rw [if_neg (by omega), if_pos (by omega)]
    rw [this]
    exact Ab_add (Ab_add (Ab_oX c i 0 (by omega)) (Ab_oYs c 0 0 (by omega))) (Ab_oZs c 0 0 (by omega))
  have hs : ow c (sS i) fullShare (truncf .bf16 (xv m c (kx c i) : FVec F S64x2048 .f32) bitsLt_bf16_f32) ⊢ pay m c (23 + i) 0 :=
    Entails.of_eq (pay_sx m c i h).symm
  have ha (h' : i < 14) : ow (xn c) (aS i) fullShare (truncf .bf16 (xv m c (kx c i) : FVec F S64x2048 .f32) bitsLt_bf16_f32) ⊢ pay m (xn c) (45 + i) 0 :=
    Entails.of_eq (toXa m c i h')
  have ht (h' : 14 ≤ i) : ow (xn c) (oT (i - 14)) fullShare (truncf .bf16 (xv m c (kx c i) : FVec F S64x2048 .f32) bitsLt_bf16_f32) ⊢ pay m (xn c) (45 + i) 0 :=
    Entails.of_eq (toXt m c i h' h)
  have hd : dstX (F := F) (xn c) i = if i < 14 then any (xn c) (aS i) else any (xn c) (oT (i - 14)) := by
    unfold dstX; split
    · rfl
    · rw [oT_eq i (by omega) h]
  have hpl := pay_l m c i h
  unfold needA giveA due done
  rw [owA_peel c i h, hd]
  revert hO ha ht
  rw [← dX_eq c]
  intro hO ha ht
  have hT : iprop(recs m K ∗ ow c (sS i) fullShare (truncf .bf16 (xv m c (kx c i) : FVec F S64x2048 .f32) bitsLt_bf16_f32)
        ∗ (if i < 14 then any (dX c) (aS i) else any (dX c) (oT (i - 14))) ∗ oo c (owA c (i + 1) + tl (dX c) (45 + i) NB) ∗ tk c (23 + i) ∗ tk (dX c) (45 + i))
      ⊢ iprop((cr c (23 + i) ∗ oo c (owA c (i + 1)) -∗ W c Kt Q) -∗ W c (
        if i < 14 then sendA (dX c) (23 + i) (45 + i) (sS i) (aS i) (sS_exact i) (aS_exact i) rfl ⟨⟨rfl, Or.inl rfl⟩, trivial⟩ Kt
        else sendA (dX c) (23 + i) (45 + i) (sS i) (oT (i - 14)) (sS_exact i) (oT_exact _) rfl ⟨⟨rfl, Or.inl rfl⟩, trivial⟩ Kt) Q) := by
    split
    · exact step_send m K c Kt Q (dX c) (23 + i) (45 + i) (by omega) (by omega) (by omega) (by omega) fullShare
        (truncf .bf16 (xv m c (kx c i) : FVec F S64x2048 .f32) bitsLt_bf16_f32) (owA c (i + 1)) (cra i) hs (ha (by assumption))
    · exact step_send m K c Kt Q (dX c) (23 + i) (45 + i) (by omega) (by omega) (by omega) (by omega) fullShare
        (truncf .bf16 (xv m c (kx c i) : FVec F S64x2048 .f32) bitsLt_bf16_f32) (owA c (i + 1)) (crT (i - 14)) hs (ht (by omega))
  unfold phA
  iintro ⟨#HR, ⟨⟨Hc, Hp⟩, Hs, Ht, Ht', Hd⟩, Ho⟩ Hk
  iapply (step_wait m K c _ Q (1 + i) (by omega) (by omega) ((crl i).trans (amt_l i h)) _ hO) $$ [Hc Hp Ho]
  · isplitr; · iexact HR
    isplitl [Hc]; · iexact Hc
    isplitl [Hp]; · iexact Hp
    iexact Ho
  iintro ⟨Ho, Hp, Hpay⟩
  ihave Hpay := (Entails.of_eq hpl) $$ Hpay
  icases Hpay with ⟨Hl, Hx⟩
  iapply (step_round c Q _ i (xv m c (kx c i))) $$ [Hl Hs]
  · isplitl [Hl] <;> iassumption
  iintro ⟨Hl, Hs⟩
  iapply hT $$ [Hs Hd Ho Ht Ht']
  · isplitr; · iexact HR
    isplitl [Hs]; · iexact Hs
    isplitl [Hd]; · iexact Hd
    isplitl [Ho]; · iexact Ho
    isplitl [Ht] <;> iassumption
  iintro ⟨Hc, Ho⟩
  iapply Hk
  isplitr [Ho]
  · isplitr [Hc]
    · isplitl [Hp]; · iexact Hp
      iapply (Entails.of_eq hpl.symm)
      isplitl [Hl] <;> iassumption
    iexact Hc
  iexact Ho

/-! ## Phase B -/

/-- An arrived block, a share for each transfer that reads it. -/
theorem thirds {sp : Space} {e : EltTy} (c : Dev nD) (M : Memref sig .tc sp S64x2048 e) (X : S64x2048.Idx → Elt F e) :
    ow c M fullShare X ⊢ iprop(ow c M qY X ∗ ow c M qZ X ∗ ow c M qS X) := by
  iintro H
  ihave H := (owns_halves (c : Thread nD τ) M fullShare X).1 $$ H
  icases H with ⟨H1, H2⟩
  ihave H2 := (owns_halves (c : Thread nD τ) M fullShare.right X).1 $$ H2
  isplitl [H1]; · iexact H1
  iexact H2

def needB (c : Dev nD) (i : ℕ) : sProp 𝕄 :=
  iprop(due c (45 + i) ∗ (tk c (67 + i) ∗ tk (yn c) (88 + i) ∗ any (yn c) (yS i)) ∗ (tk c (109 + i) ∗ tk (zn c) (130 + i) ∗ any (zn c) (zS i))
    ∗ tk c (151 + i) ∗ any c (oC (ko c i)))
def giveB (c : Dev nD) (i : ℕ) : sProp 𝕄 := iprop(ps c (45 + i) 1 ∗ cr c (67 + i) ∗ cr c (109 + i) ∗ cr c (151 + i))
/-- What is still owed before phase B's turn `i`. -/
def owB (c : Dev nD) (i : ℕ) : Tly := oYs c i + oZs c i

/-- The body of the loop that waits for a block of x, passes it on over y and z and stores it. -/
theorem stepB (c : Dev nD) (Q : PUnit.{1} → sProp 𝕄) (Kt : Pr F) (i : ℕ) (h : i < 14) :
    iprop(recs m K ∗ needB c i ∗ oo c (owB c i)) ⊢ iprop((giveB c i ∗ oo c (owB c (i + 1)) -∗ W c Kt Q) -∗ W c (phB c i Kt) Q) := by
  have b1 : 0 < 45 + i ∧ 45 + i < 207 ∧ 23 ≤ 45 + i := by omega
  have b2 : 23 ≤ 67 + i ∧ 67 + i < 207 := by omega
  have b3 : 23 ≤ 88 + i ∧ 88 + i < 207 := by omega
  have b4 : 23 ≤ 109 + i ∧ 109 + i < 207 := by omega
  have b5 : 23 ≤ 130 + i ∧ 130 + i < 207 := by omega
  have b6 : 0 < 151 + i ∧ 151 + i < 207 ∧ 23 ≤ 151 + i := by omega
  have hO : Ab (lvN (45 + i)) (owB c i) := by
    have : lvN (45 + i) = 2 := by unfold lvN; rw [if_neg (by omega), if_neg (by omega), if_pos (by omega)]
    rw [this]
    exact Ab_add (Ab_oYs c i 2 (by omega)) (Ab_oZs c i 2 (by omega))
  have hO1 : owB c i = (oYs c (i + 1) + oZs c i) + tl (yn c) (88 + i) NB := by
    unfold owB; rw [oYs_peel c i (by omega), add_right_comm]
  have hO2 : oYs c (i + 1) + oZs c i = owB c (i + 1) + tl (zn c) (130 + i) NB := by
    unfold owB; rw [oZs_peel c i (by omega), add_assoc]
  have hp := gotX_a m c i h
  have h1 : ow c (aS i) qY (vX m c i) ⊢ pay m c (67 + i) 0 := Entails.of_eq (frYb m c i h)
  have h2 : ow (yn c) (yS i) fullShare (vX m c i) ⊢ pay m (yn c) (88 + i) 0 := Entails.of_eq (toYb m c i h)
  have h3 : ow c (aS i) qZ (vX m c i) ⊢ pay m c (109 + i) 0 := Entails.of_eq (frZb m c i h)
  have h4 : ow (zn c) (zS i) fullShare (vX m c i) ⊢ pay m (zn c) (130 + i) 0 := Entails.of_eq (toZb m c i h)
  have h5 : iprop(ow c (oA c i) fullShare (vX m c i) ∗ ow c (aS i) qS (vX m c i)) ⊢ pay m c (151 + i) 0 := by
    rw [pay_st, stB m c i h]
  have hko := any_eq (F := F) c (koB c i h)
  unfold needB giveB due
  rw [hko]
  revert hO hO1 hO2 h2 h4
  rw [← dY_eq c, ← dZ_eq c]
  intro hO hO1 hO2 h2 h4
  unfold phB
  iintro ⟨#HR, ⟨⟨Hc, Hp⟩, ⟨Hty, Hty', Hdy⟩, ⟨Htz, Htz', Hdz⟩, Hts, Hd⟩, Ho⟩ Hk
  iapply (step_wait m K c _ Q (45 + i) b1.1 b1.2.1 ((cra i).trans (amt_b _ b1.2.2)) _ hO) $$ [Hc Hp Ho]
  · isplitr; · iexact HR
    isplitl [Hc]; · iexact Hc
    isplitl [Hp]; · iexact Hp
    iexact Ho
  iintro ⟨Ho, Hp, Hpay⟩
  ihave Hpay := (Entails.of_eq hp) $$ Hpay
  ihave Hpay := (thirds c (aS i) (vX m c i)) $$ Hpay
  icases Hpay with ⟨Hy, Hz, Hs⟩
  ihave Ho := (Entails.of_eq (congrArg (oo c) hO1)) $$ Ho
  iapply (step_send m K c _ Q (dY c) (67 + i) (88 + i) b2.1 b2.2 b3.1 b3.2 qY (vX m c i) (oYs c (i + 1) + oZs c i) (cry i) h1 h2) $$ [Hy Hdy Ho Hty Hty']
  · isplitr; · iexact HR
    isplitl [Hy]; · iexact Hy
    isplitl [Hdy]; · iexact Hdy
    isplitl [Ho]; · iexact Ho
    isplitl [Hty] <;> iassumption
  iintro ⟨Hcy, Ho⟩
  ihave Ho := (Entails.of_eq (congrArg (oo c) hO2)) $$ Ho
  iapply (step_send m K c _ Q (dZ c) (109 + i) (130 + i) b4.1 b4.2 b5.1 b5.2 qZ (vX m c i) (owB c (i + 1)) (crz i) h3 h4) $$ [Hz Hdz Ho Htz Htz']
  · isplitr; · iexact HR
    isplitl [Hz]; · iexact Hz
    isplitl [Hdz]; · iexact Hdz
    isplitl [Ho]; · iexact Ho
    isplitl [Htz] <;> iassumption
  iintro ⟨Hcz, Ho⟩
  iapply (step_copy m K c _ Q (151 + i) b6.1 b6.2.1 qS (vX m c i) ((crOA c i).trans (amt_b _ b6.2.2)) h5) $$ [Hs Hd Hts]
  · isplitr; · iexact HR
    isplitl [Hs]; · iexact Hs
    isplitl [Hd]; · iexact Hd
    iexact Hts
  iintro Hcs
  iapply Hk
  isplitr [Ho]
  · isplitl [Hp]; · iexact Hp
    isplitl [Hcy]; · iexact Hcy
    isplitl [Hcz]; · iexact Hcz
    iexact Hcs
  iexact Ho

end Cert.KernelProof

end
-- ==== Proof.K.Phases2.lean ====
/-
The body's later phases: forwarding, storing, and the last waits.
-/
module

public import proofs.«01_k».proof.Proof.K.Phases

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 215 → ℕ)

/-! ## Two shapes of turn -/

section Shapes
variable {sp0 sp1 sp2 : Space} {s0 : Memref sig .tc sp0 S64x2048 .bf16} {s1 : Memref sig .tc .vmem S64x2048 .bf16} {od : Memref sig .tc .hbm S64x2048 .bf16}
  {s2 : Memref sig .tc .vmem S64x2048 .bf16}
  {hs0 : s0.view.WordExact} {hs1 : s1.view.WordExact} {hod : od.view.WordExact} {hs2 : s2.view.WordExact}

/-- A block arrives, is sent on to `d`, and is stored: half of it read by each. -/
theorem step_fwd (c : Dev nD) (Q : PUnit.{1} → sProp 𝕄) (Kt : Pr F) (d : Dev nD) (n a b k : ℕ) {hsc : s2.view.ref.isScScratch = false}
    {ht : DmaTarget.Typed (nD := nD) (τ := τ) (p := .tc) .vmem (.dma (ds b)) (.remote (Dev.tc d) s2 (.dma (ds a)) hsc)}
    {ht' : DmaTarget.Typed (nD := nD) (τ := τ) (p := .tc) .vmem (.dma (ds k)) (.here od)}
    (hn : 23 ≤ n ∧ n < 207) (ha : 23 ≤ a ∧ a < 207) (hb : 23 ≤ b ∧ b < 207) (hk : 23 ≤ k ∧ k < 207)
    (X : S64x2048.Idx → Elt F .bf16) (O : Tly) (hO : Ab (lvN n) (O + tl d b NB))
    (e1 : s1.view.dmaCredit = NB) (e2 : s2.view.dmaCredit = NB) (e3 : od.view.dmaCredit = NB)
    (hp : pay m c n 0 = ow c s1 fullShare X) (h1 : ow c s1 qY X = pay m c a 0) (h2 : ow d s2 fullShare X = pay m d b 0)
    (h3 : pay m c k 0 = iprop(ow c od fullShare X ∗ ow c s1 qR X)) :
    iprop(recs m K ∗ due c n ∗ (tk c a ∗ tk d b ∗ any d s2) ∗ tk c k ∗ any c od ∗ oo c (O + tl d b NB))
      ⊢ iprop((ps c n 1 ∗ cr c a ∗ cr c k ∗ oo c O -∗ W c Kt Q)
        -∗ W c (waitA n s0 s1 hs0 hs1 <| sendA d a b s1 s2 hs1 hs2 hsc ht <| copyA k s1 od hs1 hod ht' Kt) Q) := by
  have n1 := Nat.lt_of_lt_of_le (show 0 < 23 by decide) hn.1
  have k1 := Nat.lt_of_lt_of_le (show 0 < 23 by decide) hk.1
  unfold due
  iintro ⟨#HR, ⟨Hc, Hp⟩, ⟨Hta, Htb, Hd⟩, Htk, Hod, Ho⟩ Hk
  iapply (step_wait m K c _ Q n n1 hn.2 (e1.trans (amt_b _ hn.1)) (O + tl d b NB) hO) $$ [Hc Hp Ho]
  · isplitr; · iexact HR
    isplitl [Hc]; · iexact Hc
    isplitl [Hp]; · iexact Hp
    iexact Ho
  iintro ⟨Ho, Hp, Hpay⟩
  ihave Hpay := (Entails.of_eq hp) $$ Hpay
  ihave Hpay := (owns_halves (c : Thread nD τ) s1 fullShare X).1 $$ Hpay
  icases Hpay with ⟨Hy, Hz⟩
  iapply (step_send m K c _ Q d a b ha.1 ha.2 hb.1 hb.2 qY X O e2 (Entails.of_eq h1) (Entails.of_eq h2)) $$ [Hy Hd Ho Hta Htb]
  · isplitr; · iexact HR
    isplitl [Hy]; · iexact Hy
    isplitl [Hd]; · iexact Hd
    isplitl [Ho]; · iexact Ho
    isplitl [Hta] <;> iassumption
  iintro ⟨Hca, Ho⟩
  iapply (step_copy m K c _ Q k k1 hk.2 qR X (e3.trans (amt_b _ hk.1)) (Entails.of_eq h3.symm)) $$ [Hz Hod Htk]
  · isplitr; · iexact HR
    isplitl [Hz]; · iexact Hz
    isplitl [Hod]; · iexact Hod
    iexact Htk
  iintro Hck
  iapply Hk
  isplitl [Hp]; · iexact Hp
  isplitl [Hca]; · iexact Hca
  isplitl [Hck]; · iexact Hck
  iexact Ho

/-- A block arrives and is stored. -/
theorem step_keep (c : Dev nD) (Q : PUnit.{1} → sProp 𝕄) (Kt : Pr F) (n k : ℕ)
    {ht' : DmaTarget.Typed (nD := nD) (τ := τ) (p := .tc) .vmem (.dma (ds k)) (.here od)}
    (hn : 23 ≤ n ∧ n < 207) (hk : 23 ≤ k ∧ k < 207)
    (X : S64x2048.Idx → Elt F .bf16)
    (e1 : s1.view.dmaCredit = NB) (e3 : od.view.dmaCredit = NB)
    (hp : pay m c n 0 = ow c s1 fullShare X)
    (h3 : pay m c k 0 = iprop(ow c od fullShare X ∗ ow c s1 fullShare X)) :
    iprop(recs m K ∗ due c n ∗ tk c k ∗ any c od ∗ oo c 0)
      ⊢ iprop((ps c n 1 ∗ cr c k ∗ oo c 0 -∗ W c Kt Q) -∗ W c (waitA n s0 s1 hs0 hs1 <| copyA k s1 od hs1 hod ht' Kt) Q) := by
  have n1 := Nat.lt_of_lt_of_le (show 0 < 23 by decide) hn.1
  have k1 := Nat.lt_of_lt_of_le (show 0 < 23 by decide) hk.1
  unfold due
  iintro ⟨#HR, ⟨Hc, Hp⟩, Htk, Hod, Ho⟩ Hk
  iapply (step_wait m K c _ Q n n1 hn.2 (e1.trans (amt_b _ hn.1)) 0 (Ab_zero _)) $$ [Hc Hp Ho]
  · isplitr; · iexact HR
    isplitl [Hc]; · iexact Hc
    isplitl [Hp]; · iexact Hp
    iexact Ho
  iintro ⟨Ho, Hp, Hpay⟩
  ihave Hpay := (Entails.of_eq hp) $$ Hpay
  iapply (step_copy m K c _ Q k k1 hk.2 fullShare X (e3.trans (amt_b _ hk.1)) (Entails.of_eq h3.symm)) $$ [Hpay Hod Htk]
  · isplitr; · iexact HR
    isplitl [Hpay]; · iexact Hpay
    isplitl [Hod]; · iexact Hod
    iexact Htk
  iintro Hck
  iapply Hk
  isplitl [Hp]; · iexact Hp
  isplitl [Hck]; · iexact Hck
  iexact Ho

end Shapes

/-- A wait owing nothing, whatever transfer it names. -/
theorem step_last {sps spd : Space} {e : EltTy} {src : Memref sig .tc sps S64x2048 e} {dst : Memref sig .tc spd S64x2048 e}
    {hs : src.view.WordExact} {hd : dst.view.WordExact} (c : Dev nD) (Q : PUnit.{1} → sProp 𝕄) (Kt : Pr F) (n : ℕ) (hn : 23 ≤ n ∧ n < 207)
    (e1 : dst.view.dmaCredit = NB) :
    iprop(recs m K ∗ due c n ∗ oo c 0) ⊢ iprop((done m c n ∗ oo c 0 -∗ W c Kt Q) -∗ W c (waitA n src dst hs hd Kt) Q) := by
  have n1 := Nat.lt_of_lt_of_le (show 0 < 23 by decide) hn.1
  unfold due done
  iintro ⟨#HR, ⟨Hc, Hp⟩, Ho⟩ Hk
  iapply (step_wait m K c _ Q n n1 hn.2 (e1.trans (amt_b _ hn.1)) 0 (Ab_zero _)) $$ [Hc Hp Ho]
  · isplitr; · iexact HR
    isplitl [Hc]; · iexact Hc
    isplitl [Hp]; · iexact Hp
    iexact Ho
  iintro ⟨Ho, Hp, Hpay⟩
  iapply Hk
  isplitr [Ho]
  · isplitl [Hp] <;> iassumption
  iexact Ho

/-! ## Phases C to H -/

/-- A forwarding turn: an arrival on `n`, a transfer across on `a` (to `b` there) into `D`, a store. -/
def needFw (c : Dev nD) (d : Dev nD) (n a b : ℕ) (D : sProp 𝕄) (k : ℕ) : sProp 𝕄 :=
  iprop(due c n ∗ (tk c a ∗ tk d b ∗ D) ∗ tk c (151 + k) ∗ any c (oC (ko c k)))
def giveFw (c : Dev nD) (n a k : ℕ) : sProp 𝕄 := iprop(ps c n 1 ∗ cr c a ∗ cr c (151 + k))
def needKp (c : Dev nD) (n k : ℕ) : sProp 𝕄 := iprop(due c n ∗ tk c (151 + k) ∗ any c (oC (ko c k)))
def giveKp (c : Dev nD) (n k : ℕ) : sProp 𝕄 := iprop(ps c n 1 ∗ cr c (151 + k))

/-- What is still owed before phase C's turn `i`, and before phase D's. -/
def owC (c : Dev nD) (i : ℕ) : Tly := oYs c (14 + i) + oZs c 14
def owD (c : Dev nD) (i : ℕ) : Tly := oZs c (7 + i)

/-- The body of the loop that waits for a block of z, passes it on over y and stores it. -/
theorem stepC (c : Dev nD) (Q : PUnit.{1} → sProp 𝕄) (Kt : Pr F) (i : ℕ) (h : i < 7) :
    iprop(recs m K ∗ needFw c (yn c) (130 + i) (67 + (14 + i)) (88 + (14 + i)) (any (yn c) (yS (14 + i))) (14 + i) ∗ oo c (owC c i))
      ⊢ iprop((giveFw c (130 + i) (67 + (14 + i)) (14 + i) ∗ oo c (owC c (i + 1)) -∗ W c Kt Q) -∗ W c (phC c i Kt) Q) := by
  have b1 : 23 ≤ 130 + i ∧ 130 + i < 207 := by omega
  have b2 : 23 ≤ 67 + (14 + i) ∧ 67 + (14 + i) < 207 := by omega
  have b3 : 23 ≤ 88 + (14 + i) ∧ 88 + (14 + i) < 207 := by omega
  have b4 : 23 ≤ 151 + (14 + i) ∧ 151 + (14 + i) < 207 := by omega
  have hp := pay_rz m c i (by omega)
  have h1 := frYc m c i h
  have h2 := toYc m c i h
  have h3 := (pay_st m c (14 + i)).trans (stC m c i h)
  have hko := any_eq (F := F) c (koC c i h)
  have hO : Ab (lvN (130 + i)) (owC c i) := by
    have : lvN (130 + i) = 3 := by
      unfold lvN
      rw [if_neg (by omega), if_neg (by omega), if_neg (by omega), if_neg (by omega), if_neg (by omega), if_neg (by omega), if_neg (by omega), if_pos (by omega)]
    rw [this]
    exact Ab_add (Ab_oYs c _ 3 (by omega)) (Ab_oZs c 14 3 (by omega))
  have hO1 : owC c i = owC c (i + 1) + tl (yn c) (88 + (14 + i)) NB := by
    unfold owC; rw [oYs_peel c (14 + i) (by omega), add_right_comm]; rfl
  unfold needFw giveFw
  rw [hko, hO1]
  rw [hO1] at hO
  revert h2 hO
  rw [← dY_eq c]
  intro h2 hO
  unfold phC
  iintro ⟨#HR, ⟨Hn, Hs, Ht, Hd⟩, Ho⟩ Hk
  iapply (step_fwd m K c Q Kt (dY c) (130 + i) (67 + (14 + i)) (88 + (14 + i)) (151 + (14 + i)) b1 b2 b3 b4 (vZ m c i) (owC c (i + 1)) hO
    (crz i) (cry (14 + i)) (crOZ c i) hp h1 h2 h3) $$ [Hn Hs Ht Hd Ho]
  · isplitr; · iexact HR
    isplitl [Hn]; · iexact Hn
    isplitl [Hs]; · iexact Hs
    isplitl [Ht]; · iexact Ht
    isplitl [Hd] <;> iassumption
  iintro ⟨H1, H2, H3, Ho⟩
  iapply Hk
  isplitr [Ho]
  · isplitl [H1]; · iexact H1
    isplitl [H2] <;> iassumption
  iexact Ho

/-- The body of the loop that waits for a block of y, passes it on over z and stores it. -/
theorem stepD (c : Dev nD) (Q : PUnit.{1} → sProp 𝕄) (Kt : Pr F) (i : ℕ) (h : 7 ≤ i) (h' : i < 14) :
    iprop(recs m K ∗ needFw c (zn c) (88 + i) (109 + (7 + i)) (130 + (7 + i)) (any (zn c) (zS (7 + i))) (14 + i) ∗ oo c (owD c i))
      ⊢ iprop((giveFw c (88 + i) (109 + (7 + i)) (14 + i) ∗ oo c (owD c (i + 1)) -∗ W c Kt Q) -∗ W c (phD c i Kt) Q) := by
  have b1 : 23 ≤ 88 + i ∧ 88 + i < 207 := by omega
  have b2 : 23 ≤ 109 + (7 + i) ∧ 109 + (7 + i) < 207 := by omega
  have b3 : 23 ≤ 130 + (7 + i) ∧ 130 + (7 + i) < 207 := by omega
  have b4 : 23 ≤ 151 + (14 + i) ∧ 151 + (14 + i) < 207 := by omega
  have hp := pay_ry m c i (by omega)
  have h1 := frZd m c i h h'
  have h2 := toZd m c i h h'
  have h3 := (pay_st m c (14 + i)).trans (stD m c i h h')
  have hko := any_eq (F := F) c (koD c i h h')
  have hO : Ab (lvN (88 + i)) (owD c i) := by
    have : lvN (88 + i) = 3 := by
      unfold lvN
      rw [if_neg (by omega), if_neg (by omega), if_neg (by omega), if_neg (by omega), if_pos (by omega)]
    rw [this]
    exact Ab_oZs c _ 3 (by omega)
  have hO1 : owD c i = owD c (i + 1) + tl (zn c) (130 + (7 + i)) NB := by
    unfold owD; rw [oZs_peel c (7 + i) (by omega)]; rfl
  unfold needFw giveFw
  rw [hko, hO1]
  rw [hO1] at hO
  revert h2 hO
  rw [← dZ_eq c]
  intro h2 hO
  unfold phD
  iintro ⟨#HR, ⟨Hn, Hs, Ht, Hd⟩, Ho⟩ Hk
  iapply (step_fwd m K c Q Kt (dZ c) (88 + i) (109 + (7 + i)) (130 + (7 + i)) (151 + (14 + i)) b1 b2 b3 b4 (vY m c i) (owD c (i + 1)) hO
    (cry i) (crz (7 + i)) (crOY c i) hp h1 h2 h3) $$ [Hn Hs Ht Hd Ho]
  · isplitr; · iexact HR
    isplitl [Hn]; · iexact Hn
    isplitl [Hs]; · iexact Hs
    isplitl [Ht]; · iexact Ht
    isplitl [Hd] <;> iassumption
  iintro ⟨H1, H2, H3, Ho⟩
  iapply Hk
  isplitr [Ho]
  · isplitl [H1]; · iexact H1
    isplitl [H2] <;> iassumption
  iexact Ho

section Keep

/-- The body of the loop that waits for y's first seven blocks and stores them. -/
theorem stepE (c : Dev nD) (Q : PUnit.{1} → sProp 𝕄) (Kt : Pr F) (i : ℕ) (h : i < 7) : iprop(recs m K ∗ needKp c (88 + i) (28 + i) ∗ oo c 0)
    ⊢ iprop((giveKp c (88 + i) (28 + i) ∗ oo c 0 -∗ W c Kt Q) -∗ W c (phE c i Kt) Q) := by
  have h3 := (pay_st m c (28 + i)).trans (stE m c i h)
  have hp := pay_ry m c i (by omega)
  have b1 : 23 ≤ 88 + i ∧ 88 + i < 207 := by omega
  have b2 : 23 ≤ 151 + (28 + i) ∧ 151 + (28 + i) < 207 := by omega
  unfold needKp giveKp phE
  rw [any_eq (F := F) c (koE c i h)]
  iintro ⟨#HR, ⟨Hn, Ht, Hd⟩, Ho⟩ Hk
  iapply (step_keep m K c Q Kt (88 + i) (151 + (28 + i)) b1 b2 (vY m c i) (cry i) (crOY c i) hp h3) $$ [Hn Ht Hd Ho]
  · isplitr; · iexact HR
    isplitl [Hn]; · iexact Hn
    isplitl [Ht]; · iexact Ht
    isplitl [Hd] <;> iassumption
  iintro ⟨H1, H2, Ho⟩
  iapply Hk
  isplitr [Ho]
  · isplitl [H1] <;> iassumption
  iexact Ho
/-- The body of the loop that waits for z's second seven blocks and stores them. -/
theorem stepF (c : Dev nD) (Q : PUnit.{1} → sProp 𝕄) (Kt : Pr F) (i : ℕ) (h : 7 ≤ i) (h' : i < 14) : iprop(recs m K ∗ needKp c (130 + i) (28 + i) ∗ oo c 0)
    ⊢ iprop((giveKp c (130 + i) (28 + i) ∗ oo c 0 -∗ W c Kt Q) -∗ W c (phF c i Kt) Q) := by
  have h3 := (pay_st m c (28 + i)).trans (stF m c i h h')
  have hp := pay_rz m c i (by omega)
  have b1 : 23 ≤ 130 + i ∧ 130 + i < 207 := by omega
  have b2 : 23 ≤ 151 + (28 + i) ∧ 151 + (28 + i) < 207 := by omega
  unfold needKp giveKp phF
  rw [any_eq (F := F) c (koF c i h h')]
  iintro ⟨#HR, ⟨Hn, Ht, Hd⟩, Ho⟩ Hk
  iapply (step_keep m K c Q Kt (130 + i) (151 + (28 + i)) b1 b2 (vZ m c i) (crz i) (crOZ c i) hp h3) $$ [Hn Ht Hd Ho]
  · isplitr; · iexact HR
    isplitl [Hn]; · iexact Hn
    isplitl [Ht]; · iexact Ht
    isplitl [Hd] <;> iassumption
  iintro ⟨H1, H2, Ho⟩
  iapply Hk
  isplitr [Ho]
  · isplitl [H1] <;> iassumption
  iexact Ho
/-- The body of the loop that waits for y's last seven blocks and stores them. -/
theorem stepG (c : Dev nD) (Q : PUnit.{1} → sProp 𝕄) (Kt : Pr F) (i : ℕ) (h : 14 ≤ i) (h' : i < 21) : iprop(recs m K ∗ needKp c (88 + i) (28 + i) ∗ oo c 0)
    ⊢ iprop((giveKp c (88 + i) (28 + i) ∗ oo c 0 -∗ W c Kt Q) -∗ W c (phG c i Kt) Q) := by
  have h3 := (pay_st m c (28 + i)).trans (stG m c i h h')
  have hp := pay_ry m c i (by omega)
  have b1 : 23 ≤ 88 + i ∧ 88 + i < 207 := by omega
  have b2 : 23 ≤ 151 + (28 + i) ∧ 151 + (28 + i) < 207 := by omega
  unfold needKp giveKp phG
  rw [any_eq (F := F) c (koG c i h h')]
  iintro ⟨#HR, ⟨Hn, Ht, Hd⟩, Ho⟩ Hk
  iapply (step_keep m K c Q Kt (88 + i) (151 + (28 + i)) b1 b2 (vY m c i) (cry i) (crOYd c (i - 14)) hp h3) $$ [Hn Ht Hd Ho]
  · isplitr; · iexact HR
    isplitl [Hn]; · iexact Hn
    isplitl [Ht]; · iexact Ht
    isplitl [Hd] <;> iassumption
  iintro ⟨H1, H2, Ho⟩
  iapply Hk
  isplitr [Ho]
  · isplitl [H1] <;> iassumption
  iexact Ho
/-- The body of the loop that waits for z's last seven blocks and stores them. -/
theorem stepH (c : Dev nD) (Q : PUnit.{1} → sProp 𝕄) (Kt : Pr F) (i : ℕ) (h : 14 ≤ i) (h' : i < 21) : iprop(recs m K ∗ needKp c (130 + i) (35 + i) ∗ oo c 0)
    ⊢ iprop((giveKp c (130 + i) (35 + i) ∗ oo c 0 -∗ W c Kt Q) -∗ W c (phH c i Kt) Q) := by
  have h3 := (pay_st m c (35 + i)).trans (stH m c i h h')
  have hp := pay_rz m c i (by omega)
  have b1 : 23 ≤ 130 + i ∧ 130 + i < 207 := by omega
  have b2 : 23 ≤ 151 + (35 + i) ∧ 151 + (35 + i) < 207 := by omega
  unfold needKp giveKp phH
  rw [any_eq (F := F) c (koH c i h h')]
  iintro ⟨#HR, ⟨Hn, Ht, Hd⟩, Ho⟩ Hk
  iapply (step_keep m K c Q Kt (130 + i) (151 + (35 + i)) b1 b2 (vZ m c i) (crz i) (crOZd c (i - 14)) hp h3) $$ [Hn Ht Hd Ho]
  · isplitr; · iexact HR
    isplitl [Hn]; · iexact Hn
    isplitl [Ht]; · iexact Ht
    isplitl [Hd] <;> iassumption
  iintro ⟨H1, H2, Ho⟩
  iapply Hk
  isplitr [Ho]
  · isplitl [H1] <;> iassumption
  iexact Ho

/-! ## The last waits -/

/-- The wait for a block of the last 512 rows. -/
theorem stepI (c : Dev nD) (Q : PUnit.{1} → sProp 𝕄) (Kt : Pr F) (i : ℕ) (h : i < 22) : iprop(recs m K ∗ due c (45 + i) ∗ oo c 0) ⊢ iprop((done m c (45 + i) ∗ oo c 0 -∗ W c Kt Q) -∗ W c (phI i Kt) Q) :=
  step_last m K c Q Kt (45 + i) (by omega) (crT (i - 14))
/-- The wait for a send over x to be read. -/
theorem stepSx (c : Dev nD) (Q : PUnit.{1} → sProp 𝕄) (Kt : Pr F) (i : ℕ) (h : i < 22) : iprop(recs m K ∗ due c (23 + i) ∗ oo c 0) ⊢ iprop((done m c (23 + i) ∗ oo c 0 -∗ W c Kt Q) -∗ W c (wSx i Kt) Q) := by
  unfold wSx; split
  · exact step_last m K c Q Kt (23 + i) (by omega) (crs i)
  · exact step_last m K c Q Kt (23 + i) (by omega) (crs i)
/-- The wait for a send over y to be read. -/
theorem stepSy (c : Dev nD) (Q : PUnit.{1} → sProp 𝕄) (Kt : Pr F) (i : ℕ) (h : i < 21) : iprop(recs m K ∗ due c (67 + i) ∗ oo c 0) ⊢ iprop((done m c (67 + i) ∗ oo c 0 -∗ W c Kt Q) -∗ W c (wSy i Kt) Q) :=
  step_last m K c Q Kt (67 + i) (by omega) (crSY i)
/-- The wait for a send over z to be read. -/
theorem stepSz (c : Dev nD) (Q : PUnit.{1} → sProp 𝕄) (Kt : Pr F) (i : ℕ) (h : i < 21) : iprop(recs m K ∗ due c (109 + i) ∗ oo c 0) ⊢ iprop((done m c (109 + i) ∗ oo c 0 -∗ W c Kt Q) -∗ W c (wSz i Kt) Q) :=
  step_last m K c Q Kt (109 + i) (by omega) (crSZ i)
/-- The wait for a store of x's blocks. -/
theorem stepWB (c : Dev nD) (Q : PUnit.{1} → sProp 𝕄) (Kt : Pr F) (i : ℕ) (h : i < 14) : iprop(recs m K ∗ due c (151 + i) ∗ oo c 0) ⊢ iprop((done m c (151 + i) ∗ oo c 0 -∗ W c Kt Q) -∗ W c (wStB c i Kt) Q) :=
  step_last m K c Q Kt (151 + i) (by omega) (crOA c i)
/-- The wait for a store of z's first seven blocks. -/
theorem stepWC (c : Dev nD) (Q : PUnit.{1} → sProp 𝕄) (Kt : Pr F) (i : ℕ) (h : i < 14) : iprop(recs m K ∗ due c (151 + (14 + i)) ∗ oo c 0) ⊢ iprop((done m c (151 + (14 + i)) ∗ oo c 0 -∗ W c Kt Q) -∗ W c (wStC c i Kt) Q) :=
  step_last m K c Q Kt (151 + (14 + i)) (by omega) (crOZ c i)
/-- The wait for a store of y's second seven blocks. -/
theorem stepWD (c : Dev nD) (Q : PUnit.{1} → sProp 𝕄) (Kt : Pr F) (i : ℕ) (h : i < 14) : iprop(recs m K ∗ due c (151 + (14 + i)) ∗ oo c 0) ⊢ iprop((done m c (151 + (14 + i)) ∗ oo c 0 -∗ W c Kt Q) -∗ W c (wStD c i Kt) Q) :=
  step_last m K c Q Kt (151 + (14 + i)) (by omega) (crOY c i)
/-- The wait for a store of y's first seven blocks. -/
theorem stepWE (c : Dev nD) (Q : PUnit.{1} → sProp 𝕄) (Kt : Pr F) (i : ℕ) (h : i < 14) : iprop(recs m K ∗ due c (151 + (28 + i)) ∗ oo c 0) ⊢ iprop((done m c (151 + (28 + i)) ∗ oo c 0 -∗ W c Kt Q) -∗ W c (wStE c i Kt) Q) :=
  step_last m K c Q Kt (151 + (28 + i)) (by omega) (crOY c i)
/-- The wait for a store of z's second seven blocks. -/
theorem stepWF (c : Dev nD) (Q : PUnit.{1} → sProp 𝕄) (Kt : Pr F) (i : ℕ) (h : i < 14) : iprop(recs m K ∗ due c (151 + (28 + i)) ∗ oo c 0) ⊢ iprop((done m c (151 + (28 + i)) ∗ oo c 0 -∗ W c Kt Q) -∗ W c (wStF c i Kt) Q) :=
  step_last m K c Q Kt (151 + (28 + i)) (by omega) (crOZ c i)
/-- The wait for a store of y's last seven blocks. -/
theorem stepWG (c : Dev nD) (Q : PUnit.{1} → sProp 𝕄) (Kt : Pr F) (i : ℕ) (h : i < 21) : iprop(recs m K ∗ due c (151 + (28 + i)) ∗ oo c 0) ⊢ iprop((done m c (151 + (28 + i)) ∗ oo c 0 -∗ W c Kt Q) -∗ W c (wStG c i Kt) Q) :=
  step_last m K c Q Kt (151 + (28 + i)) (by omega) (crOYd c (i - 14))
/-- The wait for a store of z's last seven blocks. -/
theorem stepWH (c : Dev nD) (Q : PUnit.{1} → sProp 𝕄) (Kt : Pr F) (i : ℕ) (h : i < 21) : iprop(recs m K ∗ due c (151 + (35 + i)) ∗ oo c 0) ⊢ iprop((done m c (151 + (35 + i)) ∗ oo c 0 -∗ W c Kt Q) -∗ W c (wStH c i Kt) Q) :=
  step_last m K c Q Kt (151 + (35 + i)) (by omega) (crOZd c (i - 14))

end Keep

end Cert.KernelProof

end
-- ==== Proof.K.Loops.lean ====
/-
The swap branch as a whole: what a device starts with, and what it ends with.
-/
module

public import proofs.«01_k».proof.Proof.K.Phases2

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 215 → ℕ)

/-! ## Cuts of the runs, as the phases use them -/

section Cuts
variable {M : Type} [URA M] (A : ℕ → sProp M)
/-- A run over `0..22` is its first 14 and its last 8. -/
theorem cut22 : bigSep (Finset.Ico 0 22) A = iprop(bigSep (Finset.Ico 0 14) A ∗ bigSep (Finset.Ico 14 22) A) := run_cut 14 (by decide) (by decide) A
/-- A run over `0..21` is three runs of seven. -/
theorem cut21 : bigSep (Finset.Ico 0 21) A = iprop(bigSep (Finset.Ico 0 7) A ∗ bigSep (Finset.Ico 7 14) A ∗ bigSep (Finset.Ico 14 21) A) := by
  rw [run_cut 7 (by decide) (by decide) A, run_cut (a := 7) (c := 21) 14 (by decide) (by decide) A]
/-- A run over `0..21` is its first 14 and its last 7, these counted from 0. -/
theorem cut21C : bigSep (Finset.Ico 0 21) A = iprop(bigSep (Finset.Ico 0 14) A ∗ bigSep (Finset.Ico 0 7) (fun i => A (14 + i))) := by
  rw [run_cut 14 (by decide) (by decide) A, run_shift 14 0 7 A]
/-- A run over `0..21` is its first 14 and its last 7, these counted from 7. -/
theorem cut21D : bigSep (Finset.Ico 0 21) A = iprop(bigSep (Finset.Ico 0 14) A ∗ bigSep (Finset.Ico 7 14) (fun i => A (7 + i))) := by
  rw [run_cut 14 (by decide) (by decide) A, run_shift 7 7 14 A]
/-- A run over the 56 stores is one run for each of the seven loops that start them. -/
theorem cut56 : bigSep (Finset.Ico 0 56) A = iprop(bigSep (Finset.Ico 0 14) A ∗ bigSep (Finset.Ico 0 7) (fun i => A (14 + i))
    ∗ bigSep (Finset.Ico 7 14) (fun i => A (14 + i)) ∗ bigSep (Finset.Ico 0 7) (fun i => A (28 + i)) ∗ bigSep (Finset.Ico 7 14) (fun i => A (28 + i))
    ∗ bigSep (Finset.Ico 14 21) (fun i => A (28 + i)) ∗ bigSep (Finset.Ico 14 21) (fun i => A (35 + i))) := by
  rw [run_cut 14 (by decide) (by decide) A, run_cut (a := 14) (c := 56) 21 (by decide) (by decide) A, run_cut (a := 21) (c := 56) 28 (by decide) (by decide) A,
    run_cut (a := 28) (c := 56) 35 (by decide) (by decide) A, run_cut (a := 35) (c := 56) 42 (by decide) (by decide) A,
    run_cut (a := 42) (c := 56) 49 (by decide) (by decide) A, run_shift 14 0 7 A, run_shift 14 7 14 A, run_shift 28 0 7 A, run_shift 28 7 14 A,
    run_shift 28 14 21 A, run_shift 35 14 21 A]
end Cuts

/-! ## What is owed from one phase to the next -/

/-- What is owed after the sends over x is what is owed before the x link's blocks are passed on. -/
theorem owA_end (c : Dev nD) : owA c 22 = owB c 0 := by unfold owA owB; rw [oX_end, zero_add]
/-- What is owed after the x link's blocks are passed on is what is owed before z's are. -/
theorem owB_end (c : Dev nD) : owB c 14 = owC c 0 := rfl
/-- What is owed after z's blocks are passed on is what is owed before y's are. -/
theorem owC_end (c : Dev nD) : owC c 7 = owD c 7 := by unfold owC owD; rw [show 14 + 7 = 21 from rfl, oYs_end, zero_add]
/-- After y's blocks are passed on nothing is owed. -/
theorem owD_end (c : Dev nD) : owD c 14 = 0 := oZs_end c

/-! ## The barrier -/

/-- A payment to the barrier is one. -/
theorem amt_bar : amtN 0 = 1 := rfl

/-- The barrier: a unit to each neighbour, with what it may write here; three units from them, with what may be written there. -/
theorem stepBar (c : Dev nD) (Q : PUnit.{1} → sProp 𝕄) (Kt : Pr F) :
    iprop(recs m K ∗ (cred (tl c 0 3) ∗ ps c 0 0) ∗ (dutyTok ER (kc (xn c) 0) 0 0 ∗ dutyTok ER (kc (yn c) 0) 0 1 ∗ dutyTok ER (kc (zn c) 0) 0 2)
        ∗ (bigSep (Finset.Ico 0 22) (fun i => dstX c i) ∗ bigSep (Finset.Ico 0 21) (fun i => any c (yS i)) ∗ bigSep (Finset.Ico 0 21) (fun i => any c (zS i)))
        ∗ oo c (O₀ c))
      ⊢ iprop((ps c 0 1 ∗ (bigSep (Finset.Ico 0 22) (fun i => dstX (xn c) i) ∗ bigSep (Finset.Ico 0 21) (fun i => any (yn c) (yS i)) ∗ bigSep (Finset.Ico 0 21) (fun i => any (zn c) (zS i)))
          ∗ oo c (owA c 0) -∗ W c Kt Q) -∗ W c (barA c Kt) Q) := by
  have hx := recs_get m K (xn c) 0 (by omega)
  have hy := recs_get m K (yn c) 0 (by omega)
  have hz := recs_get m K (zn c) 0 (by omega)
  have hc := recs_get m K c 0 (by omega)
  have p0 : bigSep (Finset.Ico 0 22) (fun i => dstX (F := F) c i) = (Rd m).payload (kc (xn c) 0) 0 0 := by
    rw [payload_kc m (xn c) 0 (by omega), pay_bar]; unfold payBar; rw [if_pos rfl, xn_xn]
  have p1 : bigSep (Finset.Ico 0 21) (fun i => any (F := F) c (yS i)) = (Rd m).payload (kc (yn c) 0) 0 1 := by
    rw [payload_kc m (yn c) 0 (by omega), pay_bar]; unfold payBar; rw [if_neg (by decide), if_pos rfl, yn_yn]
  have p2 : bigSep (Finset.Ico 0 21) (fun i => any (F := F) c (zS i)) = (Rd m).payload (kc (zn c) 0) 0 2 := by
    rw [payload_kc m (zn c) 0 (by omega), pay_bar]; unfold payBar; rw [if_neg (by decide), if_neg (by decide), zn_zn]
  have hrest : bigSep ((Rd m).duties (kc c 0) 0 \ ∅) (fun d => (Rd m).payload (kc c 0) 0 d)
      = iprop(bigSep (Finset.Ico 0 22) (fun i => dstX (F := F) (xn c) i) ∗ bigSep (Finset.Ico 0 21) (fun i => any (F := F) (yn c) (yS i))
        ∗ bigSep (Finset.Ico 0 21) (fun i => any (F := F) (zn c) (zS i))) := by
    rw [rest_bar m c]; unfold payBar; rw [if_pos rfl, if_neg (by decide), if_pos rfl, if_neg (by decide), if_neg (by decide)]
  have hmem (d : Dev nD) (i : Fin 3) : i ∈ (Rd m).duties (kc d 0) 0 := by
    rw [duties_kc m d 0 (by omega), show dutN 0 = Finset.univ from if_pos rfl]; exact Finset.mem_univ _
  have ham (d : Dev nD) (i : Fin 3) : (Rd m).amount (kc d 0) 0 i = 1 := by
    rw [amount_kc m d 0 (by omega), amt_bar]
  have hex : 3 = (Rd m).expect (kc c 0) 0 := (expect_bar m c).symm
  have h5 : (recs m K : sProp 𝕄) ⊢ MayWait (c : Thread nD τ) (.reg barS) () (oM0 c) :=
    (@recs_lev F _ m K).trans (mayWait_of c (.reg barS) (oM0 c) (Ab_oM0 c))
  rw [kc_bar] at hx hy hz hc p0 p1 p2 hrest hex
  simp only [kc_bar] at hmem ham
  unfold barA oo ps
  rw [kc_bar, kc_bar, kc_bar, kc_bar]
  rw [dev1_eq c, dev2_eq c, dev3_eq c]
  unfold W
  iintro ⟨#HR, ⟨Hcr, Hp⟩, ⟨Hx, Hy, Hz⟩, ⟨Hdx, Hdy, Hdz⟩, ⟨%V, Ho⟩⟩ Hk
  ihave Hg := hx $$ HR
  icases Hg with ⟨#HIx, #Hrx⟩
  ihave Hg := hy $$ HR
  icases Hg with ⟨#HIy, #Hry⟩
  ihave Hg := hz $$ HR
  icases Hg with ⟨#HIz, #Hrz⟩
  ihave Hg := hc $$ HR
  icases Hg with ⟨#HIc, -⟩
  ihave #Hlev := h5 $$ HR
  ihave Hdx := (Entails.of_eq p0) $$ Hdx
  ihave Hdy := (Entails.of_eq p1) $$ Hdy
  ihave Hdz := (Entails.of_eq p2) $$ Hdz
  iapply (Rounds.wp_signal 𝒱₀ ER (Rd m) (c : Thread nD τ) none (dst := (xn c : Thread nD τ)) (κ := K (xn c, ⟨0, by omega⟩)) (r := 0) (d := 0)
      (hmem (xn c) 0) ((ham (xn c) 0).trans (by decide)) () (oB1 c) rfl (W := V)) $$ [Ho Hx Hdx]
  · isplitr; · iexact HIx
    isplitl [Ho]; · iexact Ho
    isplitl [Hx]; · iexact Hx
    isplitl [Hdx]; · iexact Hdx
    iexact Hrx
  iintro Ho
  iapply (Rounds.wp_signal 𝒱₀ ER (Rd m) (c : Thread nD τ) none (dst := (yn c : Thread nD τ)) (κ := K (yn c, ⟨0, by omega⟩)) (r := 0) (d := 1)
      (hmem (yn c) 1) ((ham (yn c) 1).trans (by decide)) () (oB2 c) rfl (W := V)) $$ [Ho Hy Hdy]
  · isplitr; · iexact HIy
    isplitl [Ho]; · iexact Ho
    isplitl [Hy]; · iexact Hy
    isplitl [Hdy]; · iexact Hdy
    iexact Hry
  iintro Ho
  iapply (Rounds.wp_signal 𝒱₀ ER (Rd m) (c : Thread nD τ) none (dst := (zn c : Thread nD τ)) (κ := K (zn c, ⟨0, by omega⟩)) (r := 0) (d := 2)
      (hmem (zn c) 2) ((ham (zn c) 2).trans (by decide)) () (oM0 c) rfl (W := V)) $$ [Ho Hz Hdz]
  · isplitr; · iexact HIz
    isplitl [Ho]; · iexact Ho
    isplitl [Hz]; · iexact Hz
    isplitl [Hdz]; · iexact Hdz
    iexact Hrz
  iintro Ho
  iapply (Rounds.wp_wait_rest_token 𝒱₀ ER (Rd m) (c : Thread nD τ) none (κ := K (c, ⟨0, by omega⟩))
      (wpE_semWait_eq 𝒱₀ (c : Thread nD τ) none Set.univ) (Set.mem_univ _) () (O := oM0 c) (W := V) (R := 0) (m := 0) (T := ∅) (Eq.trans (by decide) hex)) $$ [Hcr Ho Hp]
  · isplitr; · iexact HIc
    isplitl [Hcr]; · iexact Hcr
    isplitl [Ho]; · iexact Ho
    isplitr; · iexact Hlev
    iexact Hp
  iintro ⟨Ho, Hp, -, Hpay⟩
  ihave Hpay := (Entails.of_eq hrest) $$ Hpay
  iapply Hk
  isplitl [Hp]; · iexact Hp
  isplitl [Hpay]; · iexact Hpay
  iexists _; iexact Ho

/-! ## The loops -/

/-- The loop that waits for each load, rounds it and sends it over x. -/
theorem runA (c : Dev nD) (Q : PUnit.{1} → sProp 𝕄) (Kt : Pr F) :
    iprop(recs m K ∗ bigSep (Finset.Ico 0 22) (needA c) ∗ oo c (owA c 0))
      ⊢ iprop((bigSep (Finset.Ico 0 22) (giveA m c) ∗ oo c (owB c 0) -∗ W c Kt Q) -∗ W c (loop (phA c) 22 0 Kt) Q) := by
  rw [← owA_end c]
  exact loop_run m K c Q (phA c) (needA c) (giveA m c) (owA c) Kt 22 0 fun i h1 h2 Kt => stepA m K c Q Kt i (by omega)
/-- The loop that waits for each block of x, passes it on over y and z and stores it. -/
theorem runB (c : Dev nD) (Q : PUnit.{1} → sProp 𝕄) (Kt : Pr F) :
    iprop(recs m K ∗ bigSep (Finset.Ico 0 14) (needB c) ∗ oo c (owB c 0))
      ⊢ iprop((bigSep (Finset.Ico 0 14) (giveB c) ∗ oo c (owC c 0) -∗ W c Kt Q) -∗ W c (loop (phB c) 14 0 Kt) Q) := by
  rw [← owB_end c]
  exact loop_run m K c Q (phB c) (needB c) (giveB c) (owB c) Kt 14 0 fun i h1 h2 Kt => stepB m K c Q Kt i (by omega)
/-- The loop that waits for the first blocks of z, passes them on over y and stores them. -/
theorem runC (c : Dev nD) (Q : PUnit.{1} → sProp 𝕄) (Kt : Pr F) :
    iprop(recs m K ∗ bigSep (Finset.Ico 0 7) (fun i => needFw c (yn c) (130 + i) (67 + (14 + i)) (88 + (14 + i)) (any (yn c) (yS (14 + i))) (14 + i)) ∗ oo c (owC c 0))
      ⊢ iprop((bigSep (Finset.Ico 0 7) (fun i => giveFw c (130 + i) (67 + (14 + i)) (14 + i)) ∗ oo c (owD c 7) -∗ W c Kt Q) -∗ W c (loop (phC c) 7 0 Kt) Q) := by
  rw [← owC_end c]
  exact loop_run m K c Q (phC c) (fun i => needFw c (yn c) (130 + i) (67 + (14 + i)) (88 + (14 + i)) (any (yn c) (yS (14 + i))) (14 + i)) (fun i => giveFw c (130 + i) (67 + (14 + i)) (14 + i)) (owC c) Kt 7 0 fun i h1 h2 Kt => stepC m K c Q Kt i (by omega)
/-- The loop that waits for the second blocks of y, passes them on over z and stores them. -/
theorem runD (c : Dev nD) (Q : PUnit.{1} → sProp 𝕄) (Kt : Pr F) :
    iprop(recs m K ∗ bigSep (Finset.Ico 7 14) (fun i => needFw c (zn c) (88 + i) (109 + (7 + i)) (130 + (7 + i)) (any (zn c) (zS (7 + i))) (14 + i)) ∗ oo c (owD c 7))
      ⊢ iprop((bigSep (Finset.Ico 7 14) (fun i => giveFw c (88 + i) (109 + (7 + i)) (14 + i)) ∗ oo c (0) -∗ W c Kt Q) -∗ W c (loop (phD c) 7 7 Kt) Q) := by
  rw [← owD_end c]
  exact loop_run m K c Q (phD c) (fun i => needFw c (zn c) (88 + i) (109 + (7 + i)) (130 + (7 + i)) (any (zn c) (zS (7 + i))) (14 + i)) (fun i => giveFw c (88 + i) (109 + (7 + i)) (14 + i)) (owD c) Kt 7 7 fun i h1 h2 Kt => stepD m K c Q Kt i (by omega) (by omega)
/-- The loop that waits for the first seven blocks of y and stores them. -/
theorem runE (c : Dev nD) (Q : PUnit.{1} → sProp 𝕄) (Kt : Pr F) :
    iprop(recs m K ∗ bigSep (Finset.Ico 0 7) (fun i => needKp c (88 + i) (28 + i)) ∗ oo c (0))
      ⊢ iprop((bigSep (Finset.Ico 0 7) (fun i => giveKp c (88 + i) (28 + i)) ∗ oo c (0) -∗ W c Kt Q) -∗ W c (loop (phE c) 7 0 Kt) Q) := by
  exact loop_run m K c Q (phE c) (fun i => needKp c (88 + i) (28 + i)) (fun i => giveKp c (88 + i) (28 + i)) (fun _ => 0) Kt 7 0 fun i h1 h2 Kt => stepE m K c Q Kt i (by omega)
/-- The loop that waits for the second seven blocks of z and stores them. -/
theorem runF (c : Dev nD) (Q : PUnit.{1} → sProp 𝕄) (Kt : Pr F) :
    iprop(recs m K ∗ bigSep (Finset.Ico 7 14) (fun i => needKp c (130 + i) (28 + i)) ∗ oo c (0))
      ⊢ iprop((bigSep (Finset.Ico 7 14) (fun i => giveKp c (130 + i) (28 + i)) ∗ oo c (0) -∗ W c Kt Q) -∗ W c (loop (phF c) 7 7 Kt) Q) := by
  exact loop_run m K c Q (phF c) (fun i => needKp c (130 + i) (28 + i)) (fun i => giveKp c (130 + i) (28 + i)) (fun _ => 0) Kt 7 7 fun i h1 h2 Kt => stepF m K c Q Kt i (by omega) (by omega)
/-- The loop that waits for the last seven blocks of y and stores them. -/
theorem runG (c : Dev nD) (Q : PUnit.{1} → sProp 𝕄) (Kt : Pr F) :
    iprop(recs m K ∗ bigSep (Finset.Ico 14 21) (fun i => needKp c (88 + i) (28 + i)) ∗ oo c (0))
      ⊢ iprop((bigSep (Finset.Ico 14 21) (fun i => giveKp c (88 + i) (28 + i)) ∗ oo c (0) -∗ W c Kt Q) -∗ W c (loop (phG c) 7 14 Kt) Q) := by
  exact loop_run m K c Q (phG c) (fun i => needKp c (88 + i) (28 + i)) (fun i => giveKp c (88 + i) (28 + i)) (fun _ => 0) Kt 7 14 fun i h1 h2 Kt => stepG m K c Q Kt i (by omega) (by omega)
/-- The loop that waits for the last seven blocks of z and stores them. -/
theorem runH (c : Dev nD) (Q : PUnit.{1} → sProp 𝕄) (Kt : Pr F) :
    iprop(recs m K ∗ bigSep (Finset.Ico 14 21) (fun i => needKp c (130 + i) (35 + i)) ∗ oo c (0))
      ⊢ iprop((bigSep (Finset.Ico 14 21) (fun i => giveKp c (130 + i) (35 + i)) ∗ oo c (0) -∗ W c Kt Q) -∗ W c (loop (phH c) 7 14 Kt) Q) := by
  exact loop_run m K c Q (phH c) (fun i => needKp c (130 + i) (35 + i)) (fun i => giveKp c (130 + i) (35 + i)) (fun _ => 0) Kt 7 14 fun i h1 h2 Kt => stepH m K c Q Kt i (by omega) (by omega)
/-- The loop that waits for the blocks of the last 512 rows. -/
theorem runI (c : Dev nD) (Q : PUnit.{1} → sProp 𝕄) (Kt : Pr F) :
    iprop(recs m K ∗ bigSep (Finset.Ico 14 22) (fun i => due c (45 + i)) ∗ oo c (0))
      ⊢ iprop((bigSep (Finset.Ico 14 22) (fun i => done m c (45 + i)) ∗ oo c (0) -∗ W c Kt Q) -∗ W c (loop phI 8 14 Kt) Q) := by
  exact loop_run m K c Q phI (fun i => due c (45 + i)) (fun i => done m c (45 + i)) (fun _ => 0) Kt 8 14 fun i h1 h2 Kt => stepI m K c Q Kt i (by omega)
/-- The loop that waits for the sends over x to be read. -/
theorem runSx (c : Dev nD) (Q : PUnit.{1} → sProp 𝕄) (Kt : Pr F) :
    iprop(recs m K ∗ bigSep (Finset.Ico 0 22) (fun i => due c (23 + i)) ∗ oo c (0))
      ⊢ iprop((bigSep (Finset.Ico 0 22) (fun i => done m c (23 + i)) ∗ oo c (0) -∗ W c Kt Q) -∗ W c (loop wSx 22 0 Kt) Q) := by
  exact loop_run m K c Q wSx (fun i => due c (23 + i)) (fun i => done m c (23 + i)) (fun _ => 0) Kt 22 0 fun i h1 h2 Kt => stepSx m K c Q Kt i (by omega)
/-- The loop that waits for the sends over y to be read. -/
theorem runSy (c : Dev nD) (Q : PUnit.{1} → sProp 𝕄) (Kt : Pr F) :
    iprop(recs m K ∗ bigSep (Finset.Ico 0 21) (fun i => due c (67 + i)) ∗ oo c (0))
      ⊢ iprop((bigSep (Finset.Ico 0 21) (fun i => done m c (67 + i)) ∗ oo c (0) -∗ W c Kt Q) -∗ W c (loop wSy 21 0 Kt) Q) := by
  exact loop_run m K c Q wSy (fun i => due c (67 + i)) (fun i => done m c (67 + i)) (fun _ => 0) Kt 21 0 fun i h1 h2 Kt => stepSy m K c Q Kt i (by omega)
/-- The loop that waits for the sends over z to be read. -/
theorem runSz (c : Dev nD) (Q : PUnit.{1} → sProp 𝕄) (Kt : Pr F) :
    iprop(recs m K ∗ bigSep (Finset.Ico 0 21) (fun i => due c (109 + i)) ∗ oo c (0))
      ⊢ iprop((bigSep (Finset.Ico 0 21) (fun i => done m c (109 + i)) ∗ oo c (0) -∗ W c Kt Q) -∗ W c (loop wSz 21 0 Kt) Q) := by
  exact loop_run m K c Q wSz (fun i => due c (109 + i)) (fun i => done m c (109 + i)) (fun _ => 0) Kt 21 0 fun i h1 h2 Kt => stepSz m K c Q Kt i (by omega)
/-- The loop that waits for the stores of the x link's blocks. -/
theorem runWB (c : Dev nD) (Q : PUnit.{1} → sProp 𝕄) (Kt : Pr F) :
    iprop(recs m K ∗ bigSep (Finset.Ico 0 14) (fun i => due c (151 + i)) ∗ oo c (0))
      ⊢ iprop((bigSep (Finset.Ico 0 14) (fun i => done m c (151 + i)) ∗ oo c (0) -∗ W c Kt Q) -∗ W c (loop (wStB c) 14 0 Kt) Q) := by
  exact loop_run m K c Q (wStB c) (fun i => due c (151 + i)) (fun i => done m c (151 + i)) (fun _ => 0) Kt 14 0 fun i h1 h2 Kt => stepWB m K c Q Kt i (by omega)
/-- The loop that waits for the stores of z's first seven blocks. -/
theorem runWC (c : Dev nD) (Q : PUnit.{1} → sProp 𝕄) (Kt : Pr F) :
    iprop(recs m K ∗ bigSep (Finset.Ico 0 7) (fun i => due c (151 + (14 + i))) ∗ oo c (0))
      ⊢ iprop((bigSep (Finset.Ico 0 7) (fun i => done m c (151 + (14 + i))) ∗ oo c (0) -∗ W c Kt Q) -∗ W c (loop (wStC c) 7 0 Kt) Q) := by
  exact loop_run m K c Q (wStC c) (fun i => due c (151 + (14 + i))) (fun i => done m c (151 + (14 + i))) (fun _ => 0) Kt 7 0 fun i h1 h2 Kt => stepWC m K c Q Kt i (by omega)
/-- The loop that waits for the stores of y's second seven blocks. -/
theorem runWD (c : Dev nD) (Q : PUnit.{1} → sProp 𝕄) (Kt : Pr F) :
    iprop(recs m K ∗ bigSep (Finset.Ico 7 14) (fun i => due c (151 + (14 + i))) ∗ oo c (0))
      ⊢ iprop((bigSep (Finset.Ico 7 14) (fun i => done m c (151 + (14 + i))) ∗ oo c (0) -∗ W c Kt Q) -∗ W c (loop (wStD c) 7 7 Kt) Q) := by
  exact loop_run m K c Q (wStD c) (fun i => due c (151 + (14 + i))) (fun i => done m c (151 + (14 + i))) (fun _ => 0) Kt 7 7 fun i h1 h2 Kt => stepWD m K c Q Kt i (by omega)
/-- The loop that waits for the stores of y's first seven blocks. -/
theorem runWE (c : Dev nD) (Q : PUnit.{1} → sProp 𝕄) (Kt : Pr F) :
    iprop(recs m K ∗ bigSep (Finset.Ico 0 7) (fun i => due c (151 + (28 + i))) ∗ oo c (0))
      ⊢ iprop((bigSep (Finset.Ico 0 7) (fun i => done m c (151 + (28 + i))) ∗ oo c (0) -∗ W c Kt Q) -∗ W c (loop (wStE c) 7 0 Kt) Q) := by
  exact loop_run m K c Q (wStE c) (fun i => due c (151 + (28 + i))) (fun i => done m c (151 + (28 + i))) (fun _ => 0) Kt 7 0 fun i h1 h2 Kt => stepWE m K c Q Kt i (by omega)
/-- The loop that waits for the stores of z's second seven blocks. -/
theorem runWF (c : Dev nD) (Q : PUnit.{1} → sProp 𝕄) (Kt : Pr F) :
    iprop(recs m K ∗ bigSep (Finset.Ico 7 14) (fun i => due c (151 + (28 + i))) ∗ oo c (0))
      ⊢ iprop((bigSep (Finset.Ico 7 14) (fun i => done m c (151 + (28 + i))) ∗ oo c (0) -∗ W c Kt Q) -∗ W c (loop (wStF c) 7 7 Kt) Q) := by
  exact loop_run m K c Q (wStF c) (fun i => due c (151 + (28 + i))) (fun i => done m c (151 + (28 + i))) (fun _ => 0) Kt 7 7 fun i h1 h2 Kt => stepWF m K c Q Kt i (by omega)
/-- The loop that waits for the stores of y's last seven blocks. -/
theorem runWG (c : Dev nD) (Q : PUnit.{1} → sProp 𝕄) (Kt : Pr F) :
    iprop(recs m K ∗ bigSep (Finset.Ico 14 21) (fun i => due c (151 + (28 + i))) ∗ oo c (0))
      ⊢ iprop((bigSep (Finset.Ico 14 21) (fun i => done m c (151 + (28 + i))) ∗ oo c (0) -∗ W c Kt Q) -∗ W c (loop (wStG c) 7 14 Kt) Q) := by
  exact loop_run m K c Q (wStG c) (fun i => due c (151 + (28 + i))) (fun i => done m c (151 + (28 + i))) (fun _ => 0) Kt 7 14 fun i h1 h2 Kt => stepWG m K c Q Kt i (by omega)
/-- The loop that waits for the stores of z's last seven blocks. -/
theorem runWH (c : Dev nD) (Q : PUnit.{1} → sProp 𝕄) (Kt : Pr F) :
    iprop(recs m K ∗ bigSep (Finset.Ico 14 21) (fun i => due c (151 + (35 + i))) ∗ oo c (0))
      ⊢ iprop((bigSep (Finset.Ico 14 21) (fun i => done m c (151 + (35 + i))) ∗ oo c (0) -∗ W c Kt Q) -∗ W c (loop (wStH c) 7 14 Kt) Q) := by
  exact loop_run m K c Q (wStH c) (fun i => due c (151 + (35 + i))) (fun i => done m c (151 + (35 + i))) (fun _ => 0) Kt 7 14 fun i h1 h2 Kt => stepWH m K c Q Kt i (by omega)
/-- The loop that starts the first loads. -/
theorem runL (c : Dev nD) (Q : PUnit.{1} → sProp 𝕄) (Kt : Pr F) (O : Tly) :
    iprop(recs m K ∗ bigSep (Finset.Ico 0 22) (needL m c) ∗ oo c O)
      ⊢ iprop((bigSep (Finset.Ico 0 22) (fun i => cr c (1 + i)) ∗ oo c O -∗ W c Kt Q) -∗ W c (loop (ldA c) 22 0 Kt) Q) := by
  refine loop_run m K c Q (ldA c) (needL m c) (fun i => cr c (1 + i)) (fun _ => O) Kt 22 0 fun i h1 h2 Kt => ?_
  iintro ⟨#HR, HP, Ho⟩ Hk
  iapply (stepL m K c Q Kt i (by omega)) $$ [HP]
  · isplitr; · iexact HR
    iexact HP
  iintro Hc
  iapply Hk
  isplitl [Hc] <;> iassumption

end Cert.KernelProof

end
-- ==== Proof.K.Compose.lean ====
/-
The swap branch as a whole: what a device starts with, what it ends with, and the run between.
-/
module

public import proofs.«01_k».proof.Proof.K.Loops

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 215 → ℕ)

/-- What a device starts the swap branch with, besides what it owes. -/
def start (c : Dev nD) : sProp 𝕄 :=
  iprop(bigSep (Finset.Ico 0 22) (fun i => tk c (1 + i))
    ∗ bigSep (Finset.Ico 0 22) (fun i => ow c (xC (kx c i)) fullShare (xv m c (kx c i)))
    ∗ bigSep (Finset.Ico 0 22) (fun i => any c (lS i))
    ∗ bigSep (Finset.Ico 0 22) (fun i => ps c (1 + i) 0)
    ∗ bigSep (Finset.Ico 0 22) (fun i => any c (sS i))
    ∗ bigSep (Finset.Ico 0 22) (fun i => tk c (23 + i))
    ∗ bigSep (Finset.Ico 0 22) (fun i => tk (xn c) (45 + i))
    ∗ bigSep (Finset.Ico 0 22) (fun i => due c (45 + i))
    ∗ bigSep (Finset.Ico 0 21) (fun i => tk c (67 + i))
    ∗ bigSep (Finset.Ico 0 21) (fun i => tk (yn c) (88 + i))
    ∗ bigSep (Finset.Ico 0 21) (fun i => tk c (109 + i))
    ∗ bigSep (Finset.Ico 0 21) (fun i => tk (zn c) (130 + i))
    ∗ bigSep (Finset.Ico 0 21) (fun i => due c (88 + i))
    ∗ bigSep (Finset.Ico 0 21) (fun i => due c (130 + i))
    ∗ bigSep (Finset.Ico 0 56) (fun i => tk c (151 + i))
    ∗ bigSep (Finset.Ico 0 56) (fun i => any c (oC (ko c i)))
    ∗ bigSep (Finset.Ico 0 22) (fun i => ps c (23 + i) 0)
    ∗ bigSep (Finset.Ico 0 21) (fun i => ps c (67 + i) 0)
    ∗ bigSep (Finset.Ico 0 21) (fun i => ps c (109 + i) 0)
    ∗ bigSep (Finset.Ico 0 56) (fun i => ps c (151 + i) 0)
    ∗ (cred (tl c 0 3) ∗ ps c 0 0)
    ∗ (dutyTok ER (kc (xn c) 0) 0 0 ∗ dutyTok ER (kc (yn c) 0) 0 1 ∗ dutyTok ER (kc (zn c) 0) 0 2)
    ∗ (bigSep (Finset.Ico 0 22) (fun i => dstX c i) ∗ bigSep (Finset.Ico 0 21) (fun i => any c (yS i)) ∗ bigSep (Finset.Ico 0 21) (fun i => any c (zS i))))
/-- What it ends with. -/
def finish (c : Dev nD) : sProp 𝕄 :=
  iprop(ps c 0 1
    ∗ bigSep (Finset.Ico 0 22) (fun i => done m c (1 + i))
    ∗ bigSep (Finset.Ico 0 22) (fun i => done m c (23 + i))
    ∗ bigSep (Finset.Ico 0 14) (fun i => ps c (45 + i) 1)
    ∗ bigSep (Finset.Ico 14 22) (fun i => done m c (45 + i))
    ∗ bigSep (Finset.Ico 0 21) (fun i => done m c (67 + i))
    ∗ bigSep (Finset.Ico 0 21) (fun i => ps c (88 + i) 1)
    ∗ bigSep (Finset.Ico 0 21) (fun i => done m c (109 + i))
    ∗ bigSep (Finset.Ico 0 21) (fun i => ps c (130 + i) 1)
    ∗ bigSep (Finset.Ico 0 56) (fun i => done m c (151 + i)))

/-! ## Needs put together, results taken apart -/

/-- What the first loop needs, kind by kind: tokens, row blocks of the input, slots of the load buffer. -/
theorem zipL (c : Dev nD) : (bigSep (Finset.Ico 0 22) (needL m c) : sProp 𝕄)
    = iprop(bigSep (Finset.Ico 0 22) (fun i => tk c (1 + i))
      ∗ bigSep (Finset.Ico 0 22) (fun i => ow c (xC (kx c i)) fullShare (xv m c (kx c i)))
      ∗ bigSep (Finset.Ico 0 22) (fun i => any c (lS i))) := by
  rw [run_zip, run_zip] <;> rfl
/-- What the loop of loading, rounding and sending needs, kind by kind. -/
theorem zipA (c : Dev nD) : (bigSep (Finset.Ico 0 22) (needA c) : sProp 𝕄)
    = iprop((bigSep (Finset.Ico 0 22) (fun i => cr c (1 + i)) ∗ bigSep (Finset.Ico 0 22) (fun i => ps c (1 + i) 0))
      ∗ bigSep (Finset.Ico 0 22) (fun i => any c (sS i))
      ∗ bigSep (Finset.Ico 0 22) (fun i => tk c (23 + i))
      ∗ bigSep (Finset.Ico 0 22) (fun i => tk (xn c) (45 + i))
      ∗ bigSep (Finset.Ico 0 22) (fun i => dstX (xn c) i)) := by
  rw [run_zip, run_zip, run_zip, run_zip, run_zip] <;> rfl
/-- What the loop of loading, rounding and sending leaves, kind by kind. -/
theorem unA (c : Dev nD) : (bigSep (Finset.Ico 0 22) (giveA m c) : sProp 𝕄)
    = iprop(bigSep (Finset.Ico 0 22) (fun i => done m c (1 + i))
      ∗ bigSep (Finset.Ico 0 22) (fun i => cr c (23 + i))) := by
  rw [run_zip] <;> rfl
/-- What the loop that passes on the x link's blocks needs, kind by kind. -/
theorem zipB (c : Dev nD) : (bigSep (Finset.Ico 0 14) (needB c) : sProp 𝕄)
    = iprop(bigSep (Finset.Ico 0 14) (fun i => due c (45 + i))
      ∗ (bigSep (Finset.Ico 0 14) (fun i => tk c (67 + i)) ∗ bigSep (Finset.Ico 0 14) (fun i => tk (yn c) (88 + i)) ∗ bigSep (Finset.Ico 0 14) (fun i => any (yn c) (yS i)))
      ∗ (bigSep (Finset.Ico 0 14) (fun i => tk c (109 + i)) ∗ bigSep (Finset.Ico 0 14) (fun i => tk (zn c) (130 + i)) ∗ bigSep (Finset.Ico 0 14) (fun i => any (zn c) (zS i)))
      ∗ bigSep (Finset.Ico 0 14) (fun i => tk c (151 + i))
      ∗ bigSep (Finset.Ico 0 14) (fun i => any c (oC (ko c i)))) := by
  rw [run_zip, run_zip, run_zip, run_zip, run_zip, run_zip, run_zip, run_zip] <;> rfl
/-- What the loop that passes on the x link's blocks leaves, kind by kind. -/
theorem unB (c : Dev nD) : (bigSep (Finset.Ico 0 14) (giveB c) : sProp 𝕄)
    = iprop(bigSep (Finset.Ico 0 14) (fun i => ps c (45 + i) 1)
      ∗ bigSep (Finset.Ico 0 14) (fun i => cr c (67 + i))
      ∗ bigSep (Finset.Ico 0 14) (fun i => cr c (109 + i))
      ∗ bigSep (Finset.Ico 0 14) (fun i => cr c (151 + i))) := by
  rw [run_zip, run_zip, run_zip] <;> rfl
/-- What the loop that passes blocks from z to y needs, kind by kind. -/
theorem zipC (c : Dev nD) : (bigSep (Finset.Ico 0 7) (fun i => needFw c (yn c) (130 + i) (67 + (14 + i)) (88 + (14 + i)) (any (yn c) (yS (14 + i))) (14 + i)) : sProp 𝕄)
    = iprop(bigSep (Finset.Ico 0 7) (fun i => due c (130 + i))
      ∗ (bigSep (Finset.Ico 0 7) (fun i => tk c (67 + (14 + i))) ∗ bigSep (Finset.Ico 0 7) (fun i => tk (yn c) (88 + (14 + i))) ∗ bigSep (Finset.Ico 0 7) (fun i => any (yn c) (yS (14 + i))))
      ∗ bigSep (Finset.Ico 0 7) (fun i => tk c (151 + (14 + i)))
      ∗ bigSep (Finset.Ico 0 7) (fun i => any c (oC (ko c (14 + i))))) := by
  rw [run_zip, run_zip, run_zip, run_zip, run_zip] <;> rfl
/-- What the loop that passes blocks from z to y leaves, kind by kind. -/
theorem unC (c : Dev nD) : (bigSep (Finset.Ico 0 7) (fun i => giveFw c (130 + i) (67 + (14 + i)) (14 + i)) : sProp 𝕄)
    = iprop(bigSep (Finset.Ico 0 7) (fun i => ps c (130 + i) 1)
      ∗ bigSep (Finset.Ico 0 7) (fun i => cr c (67 + (14 + i)))
      ∗ bigSep (Finset.Ico 0 7) (fun i => cr c (151 + (14 + i)))) := by
  rw [run_zip, run_zip] <;> rfl
/-- What the loop that passes blocks from y to z needs, kind by kind. -/
theorem zipD (c : Dev nD) : (bigSep (Finset.Ico 7 14) (fun i => needFw c (zn c) (88 + i) (109 + (7 + i)) (130 + (7 + i)) (any (zn c) (zS (7 + i))) (14 + i)) : sProp 𝕄)
    = iprop(bigSep (Finset.Ico 7 14) (fun i => due c (88 + i))
      ∗ (bigSep (Finset.Ico 7 14) (fun i => tk c (109 + (7 + i))) ∗ bigSep (Finset.Ico 7 14) (fun i => tk (zn c) (130 + (7 + i))) ∗ bigSep (Finset.Ico 7 14) (fun i => any (zn c) (zS (7 + i))))
      ∗ bigSep (Finset.Ico 7 14) (fun i => tk c (151 + (14 + i)))
      ∗ bigSep (Finset.Ico 7 14) (fun i => any c (oC (ko c (14 + i))))) := by
  rw [run_zip, run_zip, run_zip, run_zip, run_zip] <;> rfl
/-- What the loop that passes blocks from y to z leaves, kind by kind. -/
theorem unD (c : Dev nD) : (bigSep (Finset.Ico 7 14) (fun i => giveFw c (88 + i) (109 + (7 + i)) (14 + i)) : sProp 𝕄)
    = iprop(bigSep (Finset.Ico 7 14) (fun i => ps c (88 + i) 1)
      ∗ bigSep (Finset.Ico 7 14) (fun i => cr c (109 + (7 + i)))
      ∗ bigSep (Finset.Ico 7 14) (fun i => cr c (151 + (14 + i)))) := by
  rw [run_zip, run_zip] <;> rfl
/-- What the loop that stores the first seven blocks of y needs, kind by kind. -/
theorem zipE (c : Dev nD) : (bigSep (Finset.Ico 0 7) (fun i => needKp c (88 + i) (28 + i)) : sProp 𝕄)
    = iprop(bigSep (Finset.Ico 0 7) (fun i => due c (88 + i))
      ∗ bigSep (Finset.Ico 0 7) (fun i => tk c (151 + (28 + i)))
      ∗ bigSep (Finset.Ico 0 7) (fun i => any c (oC (ko c (28 + i))))) := by
  rw [run_zip, run_zip] <;> rfl
/-- What the loop that stores the first seven blocks of y leaves, kind by kind. -/
theorem unE (c : Dev nD) : (bigSep (Finset.Ico 0 7) (fun i => giveKp c (88 + i) (28 + i)) : sProp 𝕄)
    = iprop(bigSep (Finset.Ico 0 7) (fun i => ps c (88 + i) 1)
      ∗ bigSep (Finset.Ico 0 7) (fun i => cr c (151 + (28 + i)))) := by
  rw [run_zip] <;> rfl
/-- What the loop that stores the second seven blocks of z needs, kind by kind. -/
theorem zipF (c : Dev nD) : (bigSep (Finset.Ico 7 14) (fun i => needKp c (130 + i) (28 + i)) : sProp 𝕄)
    = iprop(bigSep (Finset.Ico 7 14) (fun i => due c (130 + i))
      ∗ bigSep (Finset.Ico 7 14) (fun i => tk c (151 + (28 + i)))
      ∗ bigSep (Finset.Ico 7 14) (fun i => any c (oC (ko c (28 + i))))) := by
  rw [run_zip, run_zip] <;> rfl
/-- What the loop that stores the second seven blocks of z leaves, kind by kind. -/
theorem unF (c : Dev nD) : (bigSep (Finset.Ico 7 14) (fun i => giveKp c (130 + i) (28 + i)) : sProp 𝕄)
    = iprop(bigSep (Finset.Ico 7 14) (fun i => ps c (130 + i) 1)
      ∗ bigSep (Finset.Ico 7 14) (fun i => cr c (151 + (28 + i)))) := by
  rw [run_zip] <;> rfl
/-- What the loop that stores the last seven blocks of y needs, kind by kind. -/
theorem zipG (c : Dev nD) : (bigSep (Finset.Ico 14 21) (fun i => needKp c (88 + i) (28 + i)) : sProp 𝕄)
    = iprop(bigSep (Finset.Ico 14 21) (fun i => due c (88 + i))
      ∗ bigSep (Finset.Ico 14 21) (fun i => tk c (151 + (28 + i)))
      ∗ bigSep (Finset.Ico 14 21) (fun i => any c (oC (ko c (28 + i))))) := by
  rw [run_zip, run_zip] <;> rfl
/-- What the loop that stores the last seven blocks of y leaves, kind by kind. -/
theorem unG (c : Dev nD) : (bigSep (Finset.Ico 14 21) (fun i => giveKp c (88 + i) (28 + i)) : sProp 𝕄)
    = iprop(bigSep (Finset.Ico 14 21) (fun i => ps c (88 + i) 1)
      ∗ bigSep (Finset.Ico 14 21) (fun i => cr c (151 + (28 + i)))) := by
  rw [run_zip] <;> rfl
/-- What the loop that stores the last seven blocks of z needs, kind by kind. -/
theorem zipH (c : Dev nD) : (bigSep (Finset.Ico 14 21) (fun i => needKp c (130 + i) (35 + i)) : sProp 𝕄)
    = iprop(bigSep (Finset.Ico 14 21) (fun i => due c (130 + i))
      ∗ bigSep (Finset.Ico 14 21) (fun i => tk c (151 + (35 + i)))
      ∗ bigSep (Finset.Ico 14 21) (fun i => any c (oC (ko c (35 + i))))) := by
  rw [run_zip, run_zip] <;> rfl
/-- What the loop that stores the last seven blocks of z leaves, kind by kind. -/
theorem unH (c : Dev nD) : (bigSep (Finset.Ico 14 21) (fun i => giveKp c (130 + i) (35 + i)) : sProp 𝕄)
    = iprop(bigSep (Finset.Ico 14 21) (fun i => ps c (130 + i) 1)
      ∗ bigSep (Finset.Ico 14 21) (fun i => cr c (151 + (35 + i)))) := by
  rw [run_zip] <;> rfl
/-- A run of payments to wait for is a run of credits and a run of positions. -/
theorem zipDue (c : Dev nD) (a b : ℕ) (f : ℕ → ℕ) : (bigSep (Finset.Ico a b) (fun i => due c (f i)) : sProp 𝕄)
    = iprop(bigSep (Finset.Ico a b) (fun i => cr c (f i)) ∗ bigSep (Finset.Ico a b) (fun i => ps c (f i) 0)) := by
  rw [run_zip] <;> rfl

/-- The swap branch on device `c`, from `start` to `finish`, everything owed being paid. -/
theorem swap_run (c : Dev nD) (Q : PUnit.{1} → sProp 𝕄) (Kt : Pr F) :
    iprop(recs m K ∗ start m c ∗ oo c (O₀ c))
      ⊢ iprop((finish m c ∗ oo c 0 -∗ W c Kt Q) -∗ W c (loop (ldA c) 22 0 <| barA c <| mainA c Kt) Q) := by
  have cY := cut21C (fun i => tk c (67 + i) : ℕ → sProp 𝕄)
  beta_reduce at cY
  have cY' := cut21C (fun i => tk (yn c) (88 + i) : ℕ → sProp 𝕄)
  beta_reduce at cY'
  have cYd := cut21C (fun i => any (yn c) (yS i) : ℕ → sProp 𝕄)
  beta_reduce at cYd
  have cZ := cut21D (fun i => tk c (109 + i) : ℕ → sProp 𝕄)
  beta_reduce at cZ
  have cZ' := cut21D (fun i => tk (zn c) (130 + i) : ℕ → sProp 𝕄)
  beta_reduce at cZ'
  have cZd := cut21D (fun i => any (zn c) (zS i) : ℕ → sProp 𝕄)
  beta_reduce at cZd
  have cX := cut22 (fun i => due c (45 + i) : ℕ → sProp 𝕄)
  beta_reduce at cX
  have cRy := cut21 (fun i => due c (88 + i) : ℕ → sProp 𝕄)
  beta_reduce at cRy
  have cRz := cut21 (fun i => due c (130 + i) : ℕ → sProp 𝕄)
  beta_reduce at cRz
  have cTs := cut56 (fun i => tk c (151 + i) : ℕ → sProp 𝕄)
  beta_reduce at cTs
  have cOs := cut56 (fun i => any c (oC (ko c i)) : ℕ → sProp 𝕄)
  beta_reduce at cOs
  have cPs := cut56 (fun i => ps c (151 + i) 0 : ℕ → sProp 𝕄)
  beta_reduce at cPs
  have cGs := cut56 (fun i => done m c (151 + i) : ℕ → sProp 𝕄)
  beta_reduce at cGs
  have cPy := cut21 (fun i => ps c (88 + i) 1 : ℕ → sProp 𝕄)
  beta_reduce at cPy
  have cPz := cut21 (fun i => ps c (130 + i) 1 : ℕ → sProp 𝕄)
  beta_reduce at cPz
  have cCy := cut21C (fun i => cr c (67 + i) : ℕ → sProp 𝕄)
  beta_reduce at cCy
  have cCz := cut21D (fun i => cr c (109 + i) : ℕ → sProp 𝕄)
  beta_reduce at cCz
  unfold start finish mainA
  iintro ⟨#HR, ⟨HtL, HxL, HlL, HpL, HsA, HtA, HtA', HdX, HtY, HtY', HtZ, HtZ', HdY, HdZ, HtS, HoS, HpX, HpY, HpZ, HpS, HbC, HbT, HbD⟩, Ho⟩ Hk
  iapply (runL m K c Q _ (O₀ c)) $$ [HtL HxL HlL Ho]
  · isplitr; · iexact HR
    isplitl [HtL HxL HlL]
    · iapply (Entails.of_eq (zipL m c).symm)
      isplitl [HtL]
      · iexact HtL
      isplitl [HxL]
      · iexact HxL
      iexact HlL
    iexact Ho
  iintro ⟨HcL, Ho⟩
  iapply (stepBar m K c Q _) $$ [HbC HbT HbD Ho]
  · isplitr; · iexact HR
    isplitl [HbC]; · iexact HbC
    isplitl [HbT]; · iexact HbT
    isplitl [HbD]; · iexact HbD
    iexact Ho
  iintro ⟨HpB, ⟨HdA, HyD, HzD⟩, Ho⟩
  iapply (runA m K c Q _) $$ [HcL HpL HsA HtA HtA' HdA Ho]
  · isplitr; · iexact HR
    isplitl [HcL HpL HsA HtA HtA' HdA]
    · iapply (Entails.of_eq (zipA c).symm)
      isplitl [HcL HpL]
      · isplitl [HcL]
        · iexact HcL
        iexact HpL
      isplitl [HsA]
      · iexact HsA
      isplitl [HtA]
      · iexact HtA
      isplitl [HtA']
      · iexact HtA'
      iexact HdA
    iexact Ho
  iintro ⟨HA, Ho⟩
  ihave HA := (Entails.of_eq (unA m c)) $$ HA
  icases HA with ⟨G1, Cx⟩
  ihave HtY := (Entails.of_eq cY) $$ HtY
  icases HtY with ⟨HtY0, HtY1⟩
  ihave HtY' := (Entails.of_eq cY') $$ HtY'
  icases HtY' with ⟨HtY0', HtY1'⟩
  ihave HyD := (Entails.of_eq cYd) $$ HyD
  icases HyD with ⟨HyD0, HyD1⟩
  ihave HtZ := (Entails.of_eq cZ) $$ HtZ
  icases HtZ with ⟨HtZ0, HtZ1⟩
  ihave HtZ' := (Entails.of_eq cZ') $$ HtZ'
  icases HtZ' with ⟨HtZ0', HtZ1'⟩
  ihave HzD := (Entails.of_eq cZd) $$ HzD
  icases HzD with ⟨HzD0, HzD1⟩
  ihave HdX := (Entails.of_eq cX) $$ HdX
  icases HdX with ⟨HdX0, HdX1⟩
  ihave HdY := (Entails.of_eq cRy) $$ HdY
  icases HdY with ⟨HdY0, HdY1, HdY2⟩
  ihave HdZ := (Entails.of_eq cRz) $$ HdZ
  icases HdZ with ⟨HdZ0, HdZ1, HdZ2⟩
  ihave HtS := (Entails.of_eq cTs) $$ HtS
  icases HtS with ⟨HtB, HtC, HtD, HtE, HtF, HtG, HtH⟩
  ihave HoS := (Entails.of_eq cOs) $$ HoS
  icases HoS with ⟨HoB, HoC, HoD, HoE, HoF, HoG, HoH⟩
  ihave HpS := (Entails.of_eq cPs) $$ HpS
  icases HpS with ⟨HpB, HpC, HpD, HpE, HpF, HpG, HpH⟩
  iapply (runB m K c Q _) $$ [HdX0 HtY0 HtY0' HyD0 HtZ0 HtZ0' HzD0 HtB HoB Ho]
  · isplitr; · iexact HR
    isplitl [HdX0 HtY0 HtY0' HyD0 HtZ0 HtZ0' HzD0 HtB HoB]
    · iapply (Entails.of_eq (zipB c).symm)
      isplitl [HdX0]
      · iexact HdX0
      isplitl [HtY0 HtY0' HyD0]
      · isplitl [HtY0]
        · iexact HtY0
        isplitl [HtY0']
        · iexact HtY0'
        iexact HyD0
      isplitl [HtZ0 HtZ0' HzD0]
      · isplitl [HtZ0]
        · iexact HtZ0
        isplitl [HtZ0']
        · iexact HtZ0'
        iexact HzD0
      isplitl [HtB]
      · iexact HtB
      iexact HoB
    iexact Ho
  iintro ⟨HB, Ho⟩
  ihave HB := (Entails.of_eq (unB c)) $$ HB
  icases HB with ⟨G45, Cy0, Cz0, CsB⟩
  iapply (runC m K c Q _) $$ [HdZ0 HtY1 HtY1' HyD1 HtC HoC Ho]
  · isplitr; · iexact HR
    isplitl [HdZ0 HtY1 HtY1' HyD1 HtC HoC]
    · iapply (Entails.of_eq (zipC c).symm)
      isplitl [HdZ0]
      · iexact HdZ0
      isplitl [HtY1 HtY1' HyD1]
      · isplitl [HtY1]
        · iexact HtY1
        isplitl [HtY1']
        · iexact HtY1'
        iexact HyD1
      isplitl [HtC]
      · iexact HtC
      iexact HoC
    iexact Ho
  iintro ⟨HC, Ho⟩
  ihave HC := (Entails.of_eq (unC c)) $$ HC
  icases HC with ⟨Pz0, Cy1, CsC⟩
  iapply (runD m K c Q _) $$ [HdY1 HtZ1 HtZ1' HzD1 HtD HoD Ho]
  · isplitr; · iexact HR
    isplitl [HdY1 HtZ1 HtZ1' HzD1 HtD HoD]
    · iapply (Entails.of_eq (zipD c).symm)
      isplitl [HdY1]
      · iexact HdY1
      isplitl [HtZ1 HtZ1' HzD1]
      · isplitl [HtZ1]
        · iexact HtZ1
        isplitl [HtZ1']
        · iexact HtZ1'
        iexact HzD1
      isplitl [HtD]
      · iexact HtD
      iexact HoD
    iexact Ho
  iintro ⟨HD, Ho⟩
  ihave HD := (Entails.of_eq (unD c)) $$ HD
  icases HD with ⟨Py1, Cz1, CsD⟩
  iapply (runE m K c Q _) $$ [HdY0 HtE HoE Ho]
  · isplitr; · iexact HR
    isplitl [HdY0 HtE HoE]
    · iapply (Entails.of_eq (zipE c).symm)
      isplitl [HdY0]
      · iexact HdY0
      isplitl [HtE]
      · iexact HtE
      iexact HoE
    iexact Ho
  iintro ⟨HE, Ho⟩
  ihave HE := (Entails.of_eq (unE c)) $$ HE
  icases HE with ⟨Py0, CsE⟩
  iapply (runF m K c Q _) $$ [HdZ1 HtF HoF Ho]
  · isplitr; · iexact HR
    isplitl [HdZ1 HtF HoF]
    · iapply (Entails.of_eq (zipF c).symm)
      isplitl [HdZ1]
      · iexact HdZ1
      isplitl [HtF]
      · iexact HtF
      iexact HoF
    iexact Ho
  iintro ⟨HF, Ho⟩
  ihave HF := (Entails.of_eq (unF c)) $$ HF
  icases HF with ⟨Pz1, CsF⟩
  iapply (runG m K c Q _) $$ [HdY2 HtG HoG Ho]
  · isplitr; · iexact HR
    isplitl [HdY2 HtG HoG]
    · iapply (Entails.of_eq (zipG c).symm)
      isplitl [HdY2]
      · iexact HdY2
      isplitl [HtG]
      · iexact HtG
      iexact HoG
    iexact Ho
  iintro ⟨HG, Ho⟩
  ihave HG := (Entails.of_eq (unG c)) $$ HG
  icases HG with ⟨Py2, CsG⟩
  iapply (runH m K c Q _) $$ [HdZ2 HtH HoH Ho]
  · isplitr; · iexact HR
    isplitl [HdZ2 HtH HoH]
    · iapply (Entails.of_eq (zipH c).symm)
      isplitl [HdZ2]
      · iexact HdZ2
      isplitl [HtH]
      · iexact HtH
      iexact HoH
    iexact Ho
  iintro ⟨HH, Ho⟩
  ihave HH := (Entails.of_eq (unH c)) $$ HH
  icases HH with ⟨Pz2, CsH⟩
  iapply (runI m K c Q _) $$ [HdX1 Ho]
  · isplitr; · iexact HR
    isplitl [HdX1]
    · iexact HdX1
    iexact Ho
  iintro ⟨G45', Ho⟩
  iapply (runSx m K c Q _) $$ [Cx HpX Ho]
  · isplitr; · iexact HR
    isplitl [Cx HpX]
    · iapply (Entails.of_eq (zipDue c 0 22 (fun i => 23 + i)).symm)
      isplitl [Cx]
      · iexact Cx
      iexact HpX
    iexact Ho
  iintro ⟨G23, Ho⟩
  ihave Cy := (Entails.of_eq cCy.symm) $$ [Cy0 Cy1]
  · isplitl [Cy0]
    · iexact Cy0
    iexact Cy1
  ihave Cz := (Entails.of_eq cCz.symm) $$ [Cz0 Cz1]
  · isplitl [Cz0]
    · iexact Cz0
    iexact Cz1
  iapply (runSy m K c Q _) $$ [Cy HpY Ho]
  · isplitr; · iexact HR
    isplitl [Cy HpY]
    · iapply (Entails.of_eq (zipDue c 0 21 (fun i => 67 + i)).symm)
      isplitl [Cy]
      · iexact Cy
      iexact HpY
    iexact Ho
  iintro ⟨G67, Ho⟩
  iapply (runSz m K c Q _) $$ [Cz HpZ Ho]
  · isplitr; · iexact HR
    isplitl [Cz HpZ]
    · iapply (Entails.of_eq (zipDue c 0 21 (fun i => 109 + i)).symm)
      isplitl [Cz]
      · iexact Cz
      iexact HpZ
    iexact Ho
  iintro ⟨G109, Ho⟩
  iapply (runWB m K c Q _) $$ [CsB HpB Ho]
  · isplitr; · iexact HR
    isplitl [CsB HpB]
    · iapply (Entails.of_eq (zipDue c 0 14 (fun i => 151 + i)).symm)
      isplitl [CsB]
      · iexact CsB
      iexact HpB
    iexact Ho
  iintro ⟨GsB, Ho⟩
  iapply (runWC m K c Q _) $$ [CsC HpC Ho]
  · isplitr; · iexact HR
    isplitl [CsC HpC]
    · iapply (Entails.of_eq (zipDue c 0 7 (fun i => 151 + (14 + i))).symm)
      isplitl [CsC]
      · iexact CsC
      iexact HpC
    iexact Ho
  iintro ⟨GsC, Ho⟩
  iapply (runWD m K c Q _) $$ [CsD HpD Ho]
  · isplitr; · iexact HR
    isplitl [CsD HpD]
    · iapply (Entails.of_eq (zipDue c 7 14 (fun i => 151 + (14 + i))).symm)
      isplitl [CsD]
      · iexact CsD
      iexact HpD
    iexact Ho
  iintro ⟨GsD, Ho⟩
  iapply (runWE m K c Q _) $$ [CsE HpE Ho]
  · isplitr; · iexact HR
    isplitl [CsE HpE]
    · iapply (Entails.of_eq (zipDue c 0 7 (fun i => 151 + (28 + i))).symm)
      isplitl [CsE]
      · iexact CsE
      iexact HpE
    iexact Ho
  iintro ⟨GsE, Ho⟩
  iapply (runWF m K c Q _) $$ [CsF HpF Ho]
  · isplitr; · iexact HR
    isplitl [CsF HpF]
    · iapply (Entails.of_eq (zipDue c 7 14 (fun i => 151 + (28 + i))).symm)
      isplitl [CsF]
      · iexact CsF
      iexact HpF
    iexact Ho
  iintro ⟨GsF, Ho⟩
  iapply (runWG m K c Q _) $$ [CsG HpG Ho]
  · isplitr; · iexact HR
    isplitl [CsG HpG]
    · iapply (Entails.of_eq (zipDue c 14 21 (fun i => 151 + (28 + i))).symm)
      isplitl [CsG]
      · iexact CsG
      iexact HpG
    iexact Ho
  iintro ⟨GsG, Ho⟩
  iapply (runWH m K c Q _) $$ [CsH HpH Ho]
  · isplitr; · iexact HR
    isplitl [CsH HpH]
    · iapply (Entails.of_eq (zipDue c 14 21 (fun i => 151 + (35 + i))).symm)
      isplitl [CsH]
      · iexact CsH
      iexact HpH
    iexact Ho
  iintro ⟨GsH, Ho⟩
  ihave G151 := (Entails.of_eq cGs.symm) $$ [GsB GsC GsD GsE GsF GsG GsH]
  · isplitl [GsB]
    · iexact GsB
    isplitl [GsC]
    · iexact GsC
    isplitl [GsD]
    · iexact GsD
    isplitl [GsE]
    · iexact GsE
    isplitl [GsF]
    · iexact GsF
    isplitl [GsG]
    · iexact GsG
    iexact GsH
  ihave G88 := (Entails.of_eq cPy.symm) $$ [Py0 Py1 Py2]
  · isplitl [Py0]
    · iexact Py0
    isplitl [Py1]
    · iexact Py1
    iexact Py2
  ihave G130 := (Entails.of_eq cPz.symm) $$ [Pz0 Pz1 Pz2]
  · isplitl [Pz0]
    · iexact Pz0
    isplitl [Pz1]
    · iexact Pz1
    iexact Pz2
  iapply Hk
  isplitr [Ho]
  · isplitl [HpB]
    · iexact HpB
    isplitl [G1]
    · iexact G1
    isplitl [G23]
    · iexact G23
    isplitl [G45]
    · iexact G45
    isplitl [G45']
    · iexact G45'
    isplitl [G67]
    · iexact G67
    isplitl [G88]
    · iexact G88
    isplitl [G109]
    · iexact G109
    isplitl [G130]
    · iexact G130
    iexact G151
  iexact Ho

end Cert.KernelProof

end
-- ==== Proof.K.Chunks.lean ====
/-
The buffers cut into their blocks and put back together.
-/
module

public import proofs.«01_k».proof.Proof.K.Compose

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rectangles -/

/-- Slot `i` of an `n`-slot buffer, and row block `k` of a 64-block one. -/
def slotRect (n : ℕ) (hn : 0 < n) (i : ℕ) : Rect (S3 n 64) := Rect.unit (s := S3 n 64) ![i % n, 0, 0] S1x64x2048.size (slot_inb hn i)
def rowRect (k : ℕ) : Rect (S3 1 4096) :=
  Rect.unit (s := S3 1 4096) ![0, 64 * (k % 64), 0] S1x64x2048.size (rows_inb _ (Nat.mod_lt _ (by decide)))

/-- Different slots share no element, and the slots are the whole buffer. -/
theorem slot_disj (n : ℕ) (hn : 0 < n) (b b' : Fin n) (h : b ≠ b') : Disjoint (slotRect n hn b.val).set (slotRect n hn b'.val).set :=
  Ring.lead_disjoint (s := S3 n 64) (0 : Fin 3) 1 (fun b : Fin n => ![b.val % n, 0, 0]) S1x64x2048.size (fun b => slot_inb hn b.val)
    (fun b => by show b.val % n = 1 * b.val; rw [Nat.mod_eq_of_lt b.isLt, one_mul]) rfl b b' h
/-- The slots of a scratch buffer are all of it. -/
theorem slot_cover (n : ℕ) (hn : 0 < n) : Finset.univ.biUnion (fun b : Fin n => (slotRect n hn b.val).set) = Finset.univ :=
  Ring.lead_cover (s := S3 n 64) (0 : Fin 3) 1 (fun b : Fin n => ![b.val % n, 0, 0]) S1x64x2048.size (fun b => slot_inb hn b.val)
    (fun b => by show b.val % n = 1 * b.val; rw [Nat.mod_eq_of_lt b.isLt, one_mul])
    (fun b a ha => by
      match a, ha with
      | ⟨0, _⟩, h => exact absurd rfl h
      | ⟨1, _⟩, _ => rfl
      | ⟨2, _⟩, _ => rfl)
    rfl
    (fun a ha => by
      match a, ha with
      | ⟨0, _⟩, h => exact absurd rfl h
      | ⟨1, _⟩, _ => rfl
      | ⟨2, _⟩, _ => rfl)
    (Nat.mul_one n)
/-- Different row blocks share no element, and the row blocks are the whole buffer. -/
theorem row_disj (b b' : Fin 64) (h : b ≠ b') : Disjoint (rowRect b.val).set (rowRect b'.val).set :=
  Ring.lead_disjoint (s := S3 1 4096) (1 : Fin 3) 64 (fun b : Fin 64 => ![0, 64 * (b.val % 64), 0]) S1x64x2048.size
    (fun b => rows_inb _ (Nat.mod_lt _ (by decide)))
    (fun b => by show 64 * (b.val % 64) = 64 * b.val; rw [Nat.mod_eq_of_lt b.isLt]) rfl b b' h
/-- The 64 row blocks are all the rows. -/
theorem row_cover : Finset.univ.biUnion (fun b : Fin 64 => (rowRect b.val).set) = Finset.univ :=
  Ring.lead_cover (s := S3 1 4096) (1 : Fin 3) 64 (fun b : Fin 64 => ![0, 64 * (b.val % 64), 0]) S1x64x2048.size
    (fun b => rows_inb _ (Nat.mod_lt _ (by decide)))
    (fun b => by show 64 * (b.val % 64) = 64 * b.val; rw [Nat.mod_eq_of_lt b.isLt])
    (fun b a ha => by
      match a, ha with
      | ⟨0, _⟩, _ => rfl
      | ⟨1, _⟩, h => exact absurd rfl h
      | ⟨2, _⟩, _ => rfl)
    rfl
    (fun a ha => by
      match a, ha with
      | ⟨0, _⟩, _ => rfl
      | ⟨1, _⟩, h => exact absurd rfl h
      | ⟨2, _⟩, _ => rfl)
    rfl

/-! ## Scratch buffers and their slots -/

/-- A slot of the load buffer is the elements of its rectangle. -/
theorem lS_set (i : ℕ) : (lS i).view.set = (slotRect 22 (by decide) i).set :=
  (View.set_reshape _ _).trans (View.set_slice_whole cc0_scratch0 (slotRect 22 (by decide) i))
/-- A whole buffer is its slots, each with some contents; -/
theorem lS_split (c : Dev nD) : (iprop(∃ f, (((c : Thread nD τ).loc cc0_scratch0) ↦{fullShare} f)) : sProp 𝕄) ⊢ bigSep (Finset.Ico 0 22) (fun i => any c (lS i)) := by
  iintro ⟨%f, H⟩
  ihave H := (Entails.of_eq (Ring.pointsTo_blocks (fun b : Fin 22 => (slotRect 22 (by decide) b.val).set) (slot_disj 22 (by decide)) (slot_cover 22 (by decide)) f)) $$ H
  ihave H := (sep_mono_each (B := fun b : Fin 22 => any (F := F) c (lS b.val)) fun b _ => (by
    unfold any ow owns; rw [lS_set]
    iintro H; iexists (lS b.val).view.read (Elt F) f; iexists f; isplitr
    · ipureintro; rfl
    · iexact H)) $$ H
  rw [← run_fin]; iexact H
include m in
/-- and its slots make it whole again. -/
theorem lS_join (c : Dev nD) : (bigSep (Finset.Ico 0 22) (fun i => any c (lS i)) : sProp 𝕄) ⊢ iprop(∃ f, (((c : Thread nD τ).loc cc0_scratch0) ↦{fullShare} f)) := by
  rw [← run_fin]
  refine BI.Entails.trans ?_ (Ring.pointsTo_blocks_join_exists (fun b : Fin 22 => (slotRect 22 (by decide) b.val).set) (slot_disj 22 (by decide)) (slot_cover 22 (by decide))
    (m ((c : Thread nD τ).loc cc0_scratch0)))
  refine sep_mono_each fun b _ => ?_
  unfold any ow owns; rw [lS_set]
  iintro ⟨%X, %f, -, H⟩; iexists f; iexact H

/-- A slot of the send buffer is the elements of its rectangle. -/
theorem sS_set (i : ℕ) : (sS i).view.set = (slotRect 22 (by decide) i).set :=
  (View.set_reshape _ _).trans (View.set_slice_whole cc0_scratch1 (slotRect 22 (by decide) i))
/-- A whole buffer is its slots, each with some contents; -/
theorem sS_split (c : Dev nD) : (iprop(∃ f, (((c : Thread nD τ).loc cc0_scratch1) ↦{fullShare} f)) : sProp 𝕄) ⊢ bigSep (Finset.Ico 0 22) (fun i => any c (sS i)) := by
  iintro ⟨%f, H⟩
  ihave H := (Entails.of_eq (Ring.pointsTo_blocks (fun b : Fin 22 => (slotRect 22 (by decide) b.val).set) (slot_disj 22 (by decide)) (slot_cover 22 (by decide)) f)) $$ H
  ihave H := (sep_mono_each (B := fun b : Fin 22 => any (F := F) c (sS b.val)) fun b _ => (by
    unfold any ow owns; rw [sS_set]
    iintro H; iexists (sS b.val).view.read (Elt F) f; iexists f; isplitr
    · ipureintro; rfl
    · iexact H)) $$ H
  rw [← run_fin]; iexact H
include m in
/-- and its slots make it whole again. -/
theorem sS_join (c : Dev nD) : (bigSep (Finset.Ico 0 22) (fun i => any c (sS i)) : sProp 𝕄) ⊢ iprop(∃ f, (((c : Thread nD τ).loc cc0_scratch1) ↦{fullShare} f)) := by
  rw [← run_fin]
  refine BI.Entails.trans ?_ (Ring.pointsTo_blocks_join_exists (fun b : Fin 22 => (slotRect 22 (by decide) b.val).set) (slot_disj 22 (by decide)) (slot_cover 22 (by decide))
    (m ((c : Thread nD τ).loc cc0_scratch1)))
  refine sep_mono_each fun b _ => ?_
  unfold any ow owns; rw [sS_set]
  iintro ⟨%X, %f, -, H⟩; iexists f; iexact H

/-- A slot of the x link's receive buffer is the elements of its rectangle. -/
theorem aS_set (i : ℕ) : (aS i).view.set = (slotRect 14 (by decide) i).set :=
  (View.set_reshape _ _).trans (View.set_slice_whole cc0_scratch2 (slotRect 14 (by decide) i))
/-- A whole buffer is its slots, each with some contents; -/
theorem aS_split (c : Dev nD) : (iprop(∃ f, (((c : Thread nD τ).loc cc0_scratch2) ↦{fullShare} f)) : sProp 𝕄) ⊢ bigSep (Finset.Ico 0 14) (fun i => any c (aS i)) := by
  iintro ⟨%f, H⟩
  ihave H := (Entails.of_eq (Ring.pointsTo_blocks (fun b : Fin 14 => (slotRect 14 (by decide) b.val).set) (slot_disj 14 (by decide)) (slot_cover 14 (by decide)) f)) $$ H
  ihave H := (sep_mono_each (B := fun b : Fin 14 => any (F := F) c (aS b.val)) fun b _ => (by
    unfold any ow owns; rw [aS_set]
    iintro H; iexists (aS b.val).view.read (Elt F) f; iexists f; isplitr
    · ipureintro; rfl
    · iexact H)) $$ H
  rw [← run_fin]; iexact H
include m in
/-- and its slots make it whole again. -/
theorem aS_join (c : Dev nD) : (bigSep (Finset.Ico 0 14) (fun i => any c (aS i)) : sProp 𝕄) ⊢ iprop(∃ f, (((c : Thread nD τ).loc cc0_scratch2) ↦{fullShare} f)) := by
  rw [← run_fin]
  refine BI.Entails.trans ?_ (Ring.pointsTo_blocks_join_exists (fun b : Fin 14 => (slotRect 14 (by decide) b.val).set) (slot_disj 14 (by decide)) (slot_cover 14 (by decide))
    (m ((c : Thread nD τ).loc cc0_scratch2)))
  refine sep_mono_each fun b _ => ?_
  unfold any ow owns; rw [aS_set]
  iintro ⟨%X, %f, -, H⟩; iexists f; iexact H

/-- A slot of the y link's receive buffer is the elements of its rectangle. -/
theorem yS_set (i : ℕ) : (yS i).view.set = (slotRect 21 (by decide) i).set :=
  (View.set_reshape _ _).trans (View.set_slice_whole cc0_scratch3 (slotRect 21 (by decide) i))
/-- A whole buffer is its slots, each with some contents; -/
theorem yS_split (c : Dev nD) : (iprop(∃ f, (((c : Thread nD τ).loc cc0_scratch3) ↦{fullShare} f)) : sProp 𝕄) ⊢ bigSep (Finset.Ico 0 21) (fun i => any c (yS i)) := by
  iintro ⟨%f, H⟩
  ihave H := (Entails.of_eq (Ring.pointsTo_blocks (fun b : Fin 21 => (slotRect 21 (by decide) b.val).set) (slot_disj 21 (by decide)) (slot_cover 21 (by decide)) f)) $$ H
  ihave H := (sep_mono_each (B := fun b : Fin 21 => any (F := F) c (yS b.val)) fun b _ => (by
    unfold any ow owns; rw [yS_set]
    iintro H; iexists (yS b.val).view.read (Elt F) f; iexists f; isplitr
    · ipureintro; rfl
    · iexact H)) $$ H
  rw [← run_fin]; iexact H
include m in
/-- and its slots make it whole again. -/
theorem yS_join (c : Dev nD) : (bigSep (Finset.Ico 0 21) (fun i => any c (yS i)) : sProp 𝕄) ⊢ iprop(∃ f, (((c : Thread nD τ).loc cc0_scratch3) ↦{fullShare} f)) := by
  rw [← run_fin]
  refine BI.Entails.trans ?_ (Ring.pointsTo_blocks_join_exists (fun b : Fin 21 => (slotRect 21 (by decide) b.val).set) (slot_disj 21 (by decide)) (slot_cover 21 (by decide))
    (m ((c : Thread nD τ).loc cc0_scratch3)))
  refine sep_mono_each fun b _ => ?_
  unfold any ow owns; rw [yS_set]
  iintro ⟨%X, %f, -, H⟩; iexists f; iexact H

/-- A slot of the z link's receive buffer is the elements of its rectangle. -/
theorem zS_set (i : ℕ) : (zS i).view.set = (slotRect 21 (by decide) i).set :=
  (View.set_reshape _ _).trans (View.set_slice_whole cc0_scratch4 (slotRect 21 (by decide) i))
/-- A whole buffer is its slots, each with some contents; -/
theorem zS_split (c : Dev nD) : (iprop(∃ f, (((c : Thread nD τ).loc cc0_scratch4) ↦{fullShare} f)) : sProp 𝕄) ⊢ bigSep (Finset.Ico 0 21) (fun i => any c (zS i)) := by
  iintro ⟨%f, H⟩
  ihave H := (Entails.of_eq (Ring.pointsTo_blocks (fun b : Fin 21 => (slotRect 21 (by decide) b.val).set) (slot_disj 21 (by decide)) (slot_cover 21 (by decide)) f)) $$ H
  ihave H := (sep_mono_each (B := fun b : Fin 21 => any (F := F) c (zS b.val)) fun b _ => (by
    unfold any ow owns; rw [zS_set]
    iintro H; iexists (zS b.val).view.read (Elt F) f; iexists f; isplitr
    · ipureintro; rfl
    · iexact H)) $$ H
  rw [← run_fin]; iexact H
include m in
/-- and its slots make it whole again. -/
theorem zS_join (c : Dev nD) : (bigSep (Finset.Ico 0 21) (fun i => any c (zS i)) : sProp 𝕄) ⊢ iprop(∃ f, (((c : Thread nD τ).loc cc0_scratch4) ↦{fullShare} f)) := by
  rw [← run_fin]
  refine BI.Entails.trans ?_ (Ring.pointsTo_blocks_join_exists (fun b : Fin 21 => (slotRect 21 (by decide) b.val).set) (slot_disj 21 (by decide)) (slot_cover 21 (by decide))
    (m ((c : Thread nD τ).loc cc0_scratch4)))
  refine sep_mono_each fun b _ => ?_
  unfold any ow owns; rw [zS_set]
  iintro ⟨%X, %f, -, H⟩; iexists f; iexact H

/-! ## `x` and its row blocks -/

/-- A row block of the input is the elements of its rectangle. -/
theorem xC_set (k : ℕ) : (xC k).view.set = (rowRect k).set := (View.set_reshape _ _).trans (View.set_slice_whole main_arg0 (rowRect k))
/-- A row block of the output is the elements of its rectangle. -/
theorem oC_set (k : ℕ) : (oC k).view.set = (rowRect k).set := (View.set_reshape _ _).trans (View.set_slice_whole main_v1 (rowRect k))

/-- A block held with what a buffer's contents read there is that part of the buffer. -/
theorem ow_read {sp : Space} {e : EltTy} (c : Dev nD) (M : Memref sig .tc sp S64x2048 e) (q : PosShare TreeShare)
    (g : Buf (Elt F) (M.view.loc (c : Thread nD τ))) :
    (ow c M q (M.view.read (Elt F) g) : sProp 𝕄) = (M.view.loc (c : Thread nD τ) ↦[M.view.set]{q} g) := by
  have key : ∀ f : M.view.ty.Contents (Elt F), M.view.read (Elt F) f = M.view.read (Elt F) g → ∀ i ∈ M.view.set, f i = g i := by
    intro f hf i hi
    obtain ⟨x, -, rfl⟩ := Finset.mem_map.mp hi
    have h := congrFun hf x
    rw [View.read_apply, View.read_apply] at h
    exact eq_of_heq ((cast_heq _ _).symm.trans ((heq_of_eq h).trans (cast_heq _ _)))
  have h₁ : (ow c M q (M.view.read (Elt F) g) : sProp 𝕄) ⊢ (M.view.loc (c : Thread nD τ) ↦[M.view.set]{q} g) := by
    unfold ow owns
    iintro ⟨%f, %hf, H⟩
    ihave H' := (Entails.of_eq (pointsTo_congr (key f hf))) $$ H
    iexact H'
  exact BI.equiv_iff.mp ⟨h₁, owns_intro (c : Thread nD τ) M q g⟩

/-- The row blocks a device sends, among all sixty-four. -/
def kxE (c : Dev nD) : Fin 22 ↪ Fin 64 := ⟨fun i => ⟨kx c i.val, kx_lt c i⟩, fun i j h => kx_inj c i j (Fin.ext_iff.mp h)⟩
/-- The row blocks it keeps, at their own contents. -/
def xRest (c : Dev nD) : sProp 𝕄 :=
  bigSep (Finset.univ \ Finset.univ.map (kxE c)) (fun k : Fin 64 => ow c (xC k.val) fullShare (xv m c k.val))

/-- The whole of `x` is the row blocks sent and the rest. -/
theorem x_cut (c : Dev nD) : ((((c : Thread nD τ).loc main_arg0) ↦{fullShare} m ((c : Thread nD τ).loc main_arg0)) : sProp 𝕄)
    = iprop(bigSep (Finset.Ico 0 22) (fun i => ow c (xC (kx c i)) fullShare (xv m c (kx c i))) ∗ xRest m c) := by
  have e1 : bigSep (Finset.univ.map (kxE c)) (fun k : Fin 64 => (ow c (xC k.val) fullShare (xv m c k.val) : sProp 𝕄))
      = bigSep (Finset.Ico 0 22) (fun i => ow c (xC (kx c i)) fullShare (xv m c (kx c i))) := by
    rw [bigSep_map, ← run_fin]; rfl
  rw [Ring.pointsTo_blocks (fun b : Fin 64 => (rowRect b.val).set) row_disj row_cover, ← e1]
  unfold xRest
  refine Eq.trans ?_ (bigSep_union (Finset.disjoint_sdiff) )
  rw [Finset.union_sdiff_of_subset (Finset.subset_univ _)]
  refine bigSep_congr fun k _ => ?_
  have h := ow_read c (xC k.val) fullShare (m ((c : Thread nD τ).loc main_arg0))
  rw [xC_set] at h
  exact h.symm

/-! ## The output and its row blocks -/

/-- The row blocks in the order they are filled. -/
def koEq (c : Dev nD) : Fin 64 ≃ Fin 64 :=
  Equiv.ofBijective (fun k => ⟨ko c k.val, ko_lt c k⟩)
    (Finite.injective_iff_bijective.mp fun i j h => ko_inj c i j (Fin.ext_iff.mp h))
/-- The rearrangement of the 64 row blocks sends `k` to the block that `ko` names. -/
theorem koEq_val (c : Dev nD) (k : Fin 64) : (koEq c k).val = ko c k.val := rfl
/-- In the order of the stores, too, two row blocks do not meet. -/
theorem ko_disj (c : Dev nD) (b b' : Fin 64) (h : b ≠ b') : Disjoint (rowRect (ko c b.val)).set (rowRect (ko c b'.val)).set :=
  row_disj (koEq c b) (koEq c b') fun e => h ((koEq c).injective e)
/-- In the order of the stores, too, the row blocks are all the rows. -/
theorem ko_cover (c : Dev nD) : Finset.univ.biUnion (fun b : Fin 64 => (rowRect (ko c b.val)).set) = Finset.univ := by
  ext i
  simp only [Finset.mem_biUnion, Finset.mem_univ, true_and, iff_true]
  have h := Finset.mem_univ i
  rw [← row_cover, Finset.mem_biUnion] at h
  obtain ⟨b, -, hb⟩ := h
  refine ⟨(koEq c).symm b, ?_⟩
  rw [← koEq_val, Equiv.apply_symm_apply]; exact hb

/-- The whole output is the blocks the stores fill and the tail's, each with some contents. -/
theorem o_split (c : Dev nD) : (iprop(∃ f, (((c : Thread nD τ).loc main_v1) ↦{fullShare} f)) : sProp 𝕄)
    ⊢ iprop(bigSep (Finset.Ico 0 56) (fun k => any c (oC (ko c k))) ∗ bigSep (Finset.Ico 14 22) (fun i => any c (oC (42 + i)))) := by
  have e : bigSep (Finset.Ico 14 22) (fun i => any (F := F) c (oC (42 + i))) = bigSep (Finset.Ico 56 64) (fun k => any c (oC (ko c k))) := by
    rw [run_shift 42 14 22 (fun k => any (F := F) c (oC k))]
    refine run_congr fun k h h' => ?_
    unfold ko; rw [if_neg (by omega), if_neg (by omega), if_neg (by omega), if_neg (by omega), if_neg (by omega), if_neg (by omega), if_neg (by omega)]
  rw [e, ← run_cut 56 (by omega) (by omega) (fun k => any (F := F) c (oC (ko c k))), ← run_fin]
  iintro ⟨%f, H⟩
  ihave H := (Entails.of_eq (Ring.pointsTo_blocks (fun b : Fin 64 => (rowRect (ko c b.val)).set) (ko_disj c) (ko_cover c) f)) $$ H
  ihave H := (sep_mono_each (B := fun b : Fin 64 => any (F := F) c (oC (ko c b.val))) fun b _ => (by
    unfold any ow owns; rw [oC_set]
    iintro H; iexists (oC (ko c b.val)).view.read (Elt F) f; iexists f; isplitr
    · ipureintro; rfl
    · iexact H)) $$ H
  iexact H

/-- Contents of the output that hold, in every row block, the right device's rounded rows. -/
def filled (c : Dev nD) (g : Buf (Elt F) ((c : Thread nD τ).loc main_v1)) : Prop :=
  ∀ k : Fin 64, (oC (ko c k.val)).view.read (Elt F) g = bv m (go c k.val) (ko c k.val)

/-- The blocks filled make the output whole, with those contents. -/
theorem o_join (c : Dev nD) : (iprop(bigSep (Finset.Ico 0 56) (fun k => ow c (oC (ko c k)) fullShare (bv m (go c k) (ko c k)))
      ∗ bigSep (Finset.Ico 14 22) (fun i => ow c (oC (42 + i)) fullShare (vX m c i))) : sProp 𝕄)
    ⊢ iprop(∃ g, ⌜filled m c g⌝ ∗ (((c : Thread nD τ).loc main_v1) ↦{fullShare} g)) := by
  have e : bigSep (Finset.Ico 14 22) (fun i => ow c (oC (42 + i)) fullShare (vX m c i))
      = bigSep (Finset.Ico 56 64) (fun k => ow c (oC (ko c k)) fullShare (bv m (go c k) (ko c k))) := by
    have e' : ∀ i, 14 ≤ i → i < 22 → ow c (oC (42 + i)) fullShare (vX m c i) = ow c (oC (42 + i)) fullShare (bv m (xn c) (42 + i)) := fun i h h' => by
      unfold vX kx; rw [if_neg (by omega)]
    rw [run_congr e', run_shift 42 14 22 (fun k => ow c (oC k) fullShare (bv m (xn c) k))]
    refine run_congr fun k h h' => ?_
    unfold ko go
    rw [if_neg (by omega), if_neg (by omega), if_neg (by omega), if_neg (by omega), if_neg (by omega), if_neg (by omega), if_neg (by omega),
      if_neg (by omega), if_neg (by omega), if_neg (by omega), if_neg (by omega), if_neg (by omega), if_neg (by omega), if_neg (by omega)]
  rw [e, ← run_cut 56 (by omega) (by omega) (fun k => ow c (oC (ko c k)) fullShare (bv m (go c k) (ko c k))), ← run_fin]
  have : Nonempty (Buf (Elt F) ((c : Thread nD τ).loc main_v1)) := ⟨m _⟩
  have h1 : bigSep (Finset.univ : Finset (Fin 64)) (fun k => ow c (oC (ko c k.val)) fullShare (bv m (go c k.val) (ko c k.val)))
      ⊢ (iprop(∃ fs : Fin 64 → Buf (Elt F) ((c : Thread nD τ).loc main_v1), bigSep Finset.univ (fun k : Fin 64 =>
          iprop(⌜(oC (ko c k.val)).view.read (Elt F) (fs k) = bv m (go c k.val) (ko c k.val)⌝
            ∗ (((c : Thread nD τ).loc main_v1) ↦[(rowRect (ko c k.val)).set]{fullShare} fs k)))) : sProp 𝕄) := by
    refine (sep_mono_each fun k _ => ?_).trans (BI.bigSep_exists_pi Finset.univ (fun (k : Fin 64) (f : Buf (Elt F) ((c : Thread nD τ).loc main_v1)) =>
      (iprop(⌜(oC (ko c k.val)).view.read (Elt F) f = bv m (go c k.val) (ko c k.val)⌝
            ∗ (((c : Thread nD τ).loc main_v1) ↦[(rowRect (ko c k.val)).set]{fullShare} f)) : sProp 𝕄)))
    unfold ow owns; rw [oC_set]
    iintro ⟨%f, Hf, H⟩; iexists f; isplitl [Hf]
    · iexact Hf
    · iexact H
  refine h1.trans ?_
  iintro ⟨%fs, H⟩
  ihave H := (BI.bigSep_pure_sep Finset.univ (fun k : Fin 64 => (oC (ko c k.val)).view.read (Elt F) (fs k) = bv m (go c k.val) (ko c k.val))
    (fun k : Fin 64 => (((c : Thread nD τ).loc main_v1) ↦[(rowRect (ko c k.val)).set]{fullShare} fs k))) $$ H
  icases H with ⟨%hp, H⟩
  ihave H := (pointsTo_biUnion_join Finset.univ (fun k : Fin 64 => (rowRect (ko c k.val)).set) fs (m _) (fun b _ b' _ h => ko_disj c b b' h)) $$ H
  icases H with ⟨%g, %hg, H⟩
  iexists g; isplitr
  · ipureintro
    intro k
    rw [← hp k (Finset.mem_univ k)]
    exact View.read_congr fun i hi => hg k (Finset.mem_univ k) i (by rw [← oC_set]; exact hi)
  · rw [ko_cover c]; iexact H

end Cert.KernelProof

end
-- ==== Proof.K.Finish.lean ====
/-
What the swap branch ends with, put together: the scratch buffers whole, `x` as it was, the output filled.
-/
module

public import proofs.«01_k».proof.Proof.K.Chunks

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Deliveries, run by run -/

/-- A run of waits is its positions and its deliveries. -/
theorem done_run (c : Dev nD) (n a b : ℕ) : (bigSep (Finset.Ico a b) (fun i => done m c (n + i)) : sProp 𝕄)
    = iprop(bigSep (Finset.Ico a b) (fun i => ps c (n + i) 1) ∗ bigSep (Finset.Ico a b) (fun i => pay m c (n + i) 0)) := by
  rw [run_zip]; rfl

/-- The reads of `x` deliver the load slots and the row blocks; -/
theorem pays_l (c : Dev nD) : (bigSep (Finset.Ico 0 22) (fun i => pay m c (1 + i) 0) : sProp 𝕄)
    ⊢ iprop(bigSep (Finset.Ico 0 22) (fun i => any c (lS i)) ∗ bigSep (Finset.Ico 0 22) (fun i => ow c (xC (kx c i)) fullShare (xv m c (kx c i)))) := by
  rw [run_zip]
  refine sep_mono_each fun i hi => ?_
  rw [pay_l m c i (Finset.mem_Ico.mp hi).2]
  iintro ⟨H, Hx⟩
  isplitl [H]
  · iapply any_of; iexact H
  · iexact Hx
/-- the sends across `x`, the send slots; -/
theorem pays_s (c : Dev nD) : (bigSep (Finset.Ico 0 22) (fun i => pay m c (23 + i) 0) : sProp 𝕄) ⊢ bigSep (Finset.Ico 0 22) (fun i => any c (sS i)) := by
  refine sep_mono_each fun i hi => ?_
  rw [pay_sx m c i (Finset.mem_Ico.mp hi).2]
  exact any_of c _ _
/-- the tail's arrivals, its blocks of the output; -/
theorem pays_t (c : Dev nD) : (bigSep (Finset.Ico 14 22) (fun i => pay m c (45 + i) 0) : sProp 𝕄)
    = bigSep (Finset.Ico 14 22) (fun i => ow c (oC (42 + i)) fullShare (vX m c i)) := by
  refine run_congr fun i h h' => ?_
  rw [pay_rx m c i h']; unfold gotX; rw [if_neg (by omega)]
/-- the sends across `y`, shares of the `x` slots and of the first `z` slots; -/
theorem pays_y (c : Dev nD) : (bigSep (Finset.Ico 0 21) (fun i => pay m c (67 + i) 0) : sProp 𝕄)
    = iprop(bigSep (Finset.Ico 0 14) (fun i => ow c (aS i) qY (vX m c i)) ∗ bigSep (Finset.Ico 0 7) (fun i => ow c (zS i) qY (vZ m c i))) := by
  rw [run_cut 14 (by omega) (by omega), ← run_shift 14 0 7 (fun i => pay m c (67 + i) 0)]
  refine congrArg₂ _ (run_congr fun i h h' => ?_) (run_congr fun i h h' => ?_)
  · exact (frYb m c i h').symm
  · exact (frYc m c i h').symm
/-- the sends across `z`, shares of the `x` slots and of the second `y` slots; -/
theorem pays_z (c : Dev nD) : (bigSep (Finset.Ico 0 21) (fun i => pay m c (109 + i) 0) : sProp 𝕄)
    = iprop(bigSep (Finset.Ico 0 14) (fun i => ow c (aS i) qZ (vX m c i)) ∗ bigSep (Finset.Ico 7 14) (fun i => ow c (yS i) qY (vY m c i))) := by
  rw [run_cut 14 (by omega) (by omega), ← run_shift 7 7 14 (fun i => pay m c (109 + i) 0)]
  refine congrArg₂ _ (run_congr fun i h h' => ?_) (run_congr fun i h h' => ?_)
  · exact (frZb m c i h').symm
  · exact (frZd m c i h h').symm
/-- the stores, their blocks of the output and the shares they read. -/
theorem pays_o (c : Dev nD) : (bigSep (Finset.Ico 0 56) (fun i => pay m c (151 + i) 0) : sProp 𝕄)
    = iprop(bigSep (Finset.Ico 0 56) (fun k => ow c (oC (ko c k)) fullShare (bv m (go c k) (ko c k))) ∗ bigSep (Finset.Ico 0 56) (fun k => backS m c k)) := by
  rw [run_zip]
  exact run_congr fun i _ _ => pay_st m c i
/-- The shares the stores read, by buffer. -/
theorem backS_cut (c : Dev nD) : (bigSep (Finset.Ico 0 56) (fun k => backS m c k) : sProp 𝕄)
    = iprop(bigSep (Finset.Ico 0 14) (fun i => ow c (aS i) qS (vX m c i))
      ∗ bigSep (Finset.Ico 0 7) (fun i => ow c (zS i) qR (vZ m c i))
      ∗ bigSep (Finset.Ico 7 14) (fun i => ow c (yS i) qR (vY m c i))
      ∗ bigSep (Finset.Ico 0 7) (fun i => ow c (yS i) fullShare (vY m c i))
      ∗ bigSep (Finset.Ico 7 14) (fun i => ow c (zS i) fullShare (vZ m c i))
      ∗ bigSep (Finset.Ico 14 21) (fun i => ow c (yS i) fullShare (vY m c i))
      ∗ bigSep (Finset.Ico 14 21) (fun i => ow c (zS i) fullShare (vZ m c i))) := by
  rw [run_cut 14 (by omega) (by omega), run_cut 21 (show 14 ≤ 21 by omega) (by omega), run_cut 28 (show 21 ≤ 28 by omega) (by omega),
    run_cut 35 (show 28 ≤ 35 by omega) (by omega), run_cut 42 (show 35 ≤ 42 by omega) (by omega), run_cut 49 (show 42 ≤ 49 by omega) (by omega),
    ← run_shift 14 0 7 (fun k => backS m c k), ← run_shift 14 7 14 (fun k => backS m c k), ← run_shift 28 0 7 (fun k => backS m c k),
    ← run_shift 28 7 14 (fun k => backS m c k), ← run_shift 28 14 21 (fun k => backS m c k), ← run_shift 35 14 21 (fun k => backS m c k)]
  refine congrArg₂ _ (run_congr fun i h h' => ?_) (congrArg₂ _ (run_congr fun i h h' => ?_) (congrArg₂ _ (run_congr fun i h h' => ?_)
    (congrArg₂ _ (run_congr fun i h h' => ?_) (congrArg₂ _ (run_congr fun i h h' => ?_) (congrArg₂ _ (run_congr fun i h h' => ?_)
      (run_congr fun i h h' => ?_))))))
  · unfold backS; rw [if_pos h']
  · unfold backS; rw [if_neg (by omega), if_pos (by omega), show 14 + i - 14 = i by omega]
  · unfold backS; rw [if_neg (by omega), if_neg (by omega), if_pos (by omega), show 14 + i - 14 = i by omega]
  · unfold backS; rw [if_neg (by omega), if_neg (by omega), if_neg (by omega), if_pos (by omega), show 28 + i - 28 = i by omega]
  · unfold backS; rw [if_neg (by omega), if_neg (by omega), if_neg (by omega), if_neg (by omega), if_pos (by omega), show 28 + i - 28 = i by omega]
  · unfold backS
    rw [if_neg (by omega), if_neg (by omega), if_neg (by omega), if_neg (by omega), if_neg (by omega), if_pos (by omega), show 28 + i - 28 = i by omega]
  · unfold backS
    rw [if_neg (by omega), if_neg (by omega), if_neg (by omega), if_neg (by omega), if_neg (by omega), if_neg (by omega), show 35 + i - 35 = i by omega]

/-! ## Shares put together -/

section Shares
variable {sp : Space} {e : EltTy}

/-- The first half and the second of a block's ownership, -/
theorem two_back (c : Dev nD) (M : Memref sig .tc sp S64x2048 e) (X : S64x2048.Idx → Elt F e) :
    (iprop(ow c M qY X ∗ ow c M qR X) : sProp 𝕄) ⊢ any c M := by
  have h : (iprop(ow c M qY X ∗ ow c M qR X) : sProp 𝕄) ⊢ ow c M fullShare X := (owns_halves (c : Thread nD τ) M fullShare X).2
  exact h.trans (any_of c M X)
/-- and the three shares of one. -/
theorem three_back (c : Dev nD) (M : Memref sig .tc sp S64x2048 e) (X : S64x2048.Idx → Elt F e) :
    (iprop(ow c M qY X ∗ ow c M qZ X ∗ ow c M qS X) : sProp 𝕄) ⊢ any c M := by
  have h : (iprop(ow c M qZ X ∗ ow c M qS X) : sProp 𝕄) ⊢ ow c M qR X := (owns_halves (c : Thread nD τ) M qR X).2
  exact (show (iprop(ow c M qY X ∗ ow c M qZ X ∗ ow c M qS X) : sProp 𝕄) ⊢ iprop(ow c M qY X ∗ ow c M qR X) by
    iintro ⟨A, B⟩
    isplitl [A]; · iexact A
    iapply h; iexact B).trans (two_back c M X)
end Shares

/-- The three shares of the x link's receive slots, come back from their copies, make the slots whole again. -/
theorem a_back (c : Dev nD) : (iprop(bigSep (Finset.Ico 0 14) (fun i => ow c (aS i) qY (vX m c i))
      ∗ bigSep (Finset.Ico 0 14) (fun i => ow c (aS i) qZ (vX m c i)) ∗ bigSep (Finset.Ico 0 14) (fun i => ow c (aS i) qS (vX m c i))) : sProp 𝕄)
    ⊢ bigSep (Finset.Ico 0 14) (fun i => any c (aS i)) := by
  rw [run_zip, run_zip]
  exact sep_mono_each fun i _ => three_back c _ _

/-- The `y` slots: the first seven and the last whole, the second seven from their shares. -/
theorem y_back (c : Dev nD) : (iprop(bigSep (Finset.Ico 0 7) (fun i => ow c (yS i) fullShare (vY m c i))
      ∗ (bigSep (Finset.Ico 7 14) (fun i => ow c (yS i) qY (vY m c i)) ∗ bigSep (Finset.Ico 7 14) (fun i => ow c (yS i) qR (vY m c i)))
      ∗ bigSep (Finset.Ico 14 21) (fun i => ow c (yS i) fullShare (vY m c i))) : sProp 𝕄)
    ⊢ bigSep (Finset.Ico 0 21) (fun i => any c (yS i)) := by
  rw [run_zip, run_cut 7 (show 0 ≤ 7 by omega) (by omega) (fun i => any (F := F) c (yS i)), run_cut 14 (show 7 ≤ 14 by omega) (by omega) (fun i => any (F := F) c (yS i))]
  iintro ⟨A, B, C⟩
  isplitl [A]
  · iapply (sep_mono_each fun i _ => any_of c (yS i) (vY m c i)); iexact A
  isplitl [B]
  · iapply (sep_mono_each fun i _ => two_back c (yS i) (vY m c i)); iexact B
  · iapply (sep_mono_each fun i _ => any_of c (yS i) (vY m c i)); iexact C

/-- The `z` slots: the first seven from their shares, the others whole. -/
theorem z_back (c : Dev nD) : (iprop((bigSep (Finset.Ico 0 7) (fun i => ow c (zS i) qY (vZ m c i)) ∗ bigSep (Finset.Ico 0 7) (fun i => ow c (zS i) qR (vZ m c i)))
      ∗ bigSep (Finset.Ico 7 14) (fun i => ow c (zS i) fullShare (vZ m c i))
      ∗ bigSep (Finset.Ico 14 21) (fun i => ow c (zS i) fullShare (vZ m c i))) : sProp 𝕄)
    ⊢ bigSep (Finset.Ico 0 21) (fun i => any c (zS i)) := by
  rw [run_zip, run_cut 7 (show 0 ≤ 7 by omega) (by omega) (fun i => any (F := F) c (zS i)), run_cut 14 (show 7 ≤ 14 by omega) (by omega) (fun i => any (F := F) c (zS i))]
  iintro ⟨A, B, C⟩
  isplitl [A]
  · iapply (sep_mono_each fun i _ => two_back c (zS i) (vZ m c i)); iexact A
  isplitl [B]
  · iapply (sep_mono_each fun i _ => any_of c (zS i) (vZ m c i)); iexact B
  · iapply (sep_mono_each fun i _ => any_of c (zS i) (vZ m c i)); iexact C

/-! ## The end -/

/-- All of a device's positions, each past its semaphore's one round. -/
def ended (c : Dev nD) : sProp 𝕄 := bigSep (Finset.Ico 0 207) (fun n => ps c n 1)

/-- The positions at the end of the program, one summand for each run of counters. -/
theorem ended_eq (c : Dev nD) : (ended (F := F) c : sProp 𝕄) = iprop(ps c 0 1
    ∗ bigSep (Finset.Ico 0 22) (fun i => ps c (1 + i) 1)
    ∗ bigSep (Finset.Ico 0 22) (fun i => ps c (23 + i) 1)
    ∗ bigSep (Finset.Ico 0 14) (fun i => ps c (45 + i) 1)
    ∗ bigSep (Finset.Ico 14 22) (fun i => ps c (45 + i) 1)
    ∗ bigSep (Finset.Ico 0 21) (fun i => ps c (67 + i) 1)
    ∗ bigSep (Finset.Ico 0 21) (fun i => ps c (88 + i) 1)
    ∗ bigSep (Finset.Ico 0 21) (fun i => ps c (109 + i) 1)
    ∗ bigSep (Finset.Ico 0 21) (fun i => ps c (130 + i) 1)
    ∗ bigSep (Finset.Ico 0 56) (fun i => ps c (151 + i) 1)) := by
  unfold ended
  rw [run_cut 1 (show 0 ≤ 1 by omega) (by omega), run_cut 23 (show 1 ≤ 23 by omega) (by omega), run_cut 45 (show 23 ≤ 45 by omega) (by omega),
    run_cut 59 (show 45 ≤ 59 by omega) (by omega), run_cut 67 (show 59 ≤ 67 by omega) (by omega), run_cut 88 (show 67 ≤ 88 by omega) (by omega),
    run_cut 109 (show 88 ≤ 109 by omega) (by omega), run_cut 130 (show 109 ≤ 130 by omega) (by omega), run_cut 151 (show 130 ≤ 151 by omega) (by omega),
    run_shift 1 0 22 (fun n => ps c n 1), run_shift 23 0 22 (fun n => ps c n 1), run_shift 45 0 14 (fun n => ps c n 1), run_shift 45 14 22 (fun n => ps c n 1),
    run_shift 67 0 21 (fun n => ps c n 1), run_shift 88 0 21 (fun n => ps c n 1), run_shift 109 0 21 (fun n => ps c n 1),
    run_shift 130 0 21 (fun n => ps c n 1), run_shift 151 0 56 (fun n => ps c n 1),
    show Finset.Ico 0 1 = {0} from rfl, bigSep_singleton]

/-- What a device ends with, put together. -/
theorem finish_out (c : Dev nD) : (iprop(finish m c ∗ xRest m c) : sProp 𝕄)
    ⊢ iprop(ended c
      ∗ (((c : Thread nD τ).loc main_arg0) ↦{fullShare} m ((c : Thread nD τ).loc main_arg0))
      ∗ (∃ g, ⌜filled m c g⌝ ∗ (((c : Thread nD τ).loc main_v1) ↦{fullShare} g))
      ∗ (∃ f, (((c : Thread nD τ).loc cc0_scratch0) ↦{fullShare} f))
      ∗ (∃ f, (((c : Thread nD τ).loc cc0_scratch1) ↦{fullShare} f))
      ∗ (∃ f, (((c : Thread nD τ).loc cc0_scratch2) ↦{fullShare} f))
      ∗ (∃ f, (((c : Thread nD τ).loc cc0_scratch3) ↦{fullShare} f))
      ∗ (∃ f, (((c : Thread nD τ).loc cc0_scratch4) ↦{fullShare} f))) := by
  rw [ended_eq, x_cut]
  unfold finish
  rw [done_run m c 1, done_run m c 23, done_run m c 45, done_run m c 67, done_run m c 109, done_run m c 151,
    pays_t, pays_y, pays_z, pays_o, backS_cut]
  iintro ⟨⟨P0, ⟨P1, D1⟩, ⟨P2, D2⟩, P3, ⟨P4, D4⟩, ⟨P5, D5a, D5z⟩, P6, ⟨P7, D7a, D7y⟩, P8, ⟨P9, D9, Ba, Bz, By, By1, Bz1, By2, Bz2⟩⟩, HxR⟩
  ihave D1 := (pays_l m c) $$ D1
  icases D1 with ⟨D1, Dx⟩
  ihave D2 := (pays_s m c) $$ D2
  ihave Ha := (a_back m c) $$ [D5a D7a Ba]
  · isplitl [D5a]; · iexact D5a
    isplitl [D7a]; · iexact D7a
    iexact Ba
  ihave Hy := (y_back m c) $$ [By1 D7y By By2]
  · isplitl [By1]; · iexact By1
    isplitl [D7y By]
    · isplitl [D7y]; · iexact D7y
      iexact By
    iexact By2
  ihave Hz := (z_back m c) $$ [D5z Bz Bz1 Bz2]
  · isplitl [D5z Bz]
    · isplitl [D5z]; · iexact D5z
      iexact Bz
    isplitl [Bz1]; · iexact Bz1
    iexact Bz2
  ihave Ho := (o_join m c) $$ [D9 D4]
  · isplitl [D9]; · iexact D9
    iexact D4
  isplitl [P0 P1 P2 P3 P4 P5 P6 P7 P8 P9]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    iexact P9
  isplitl [Dx HxR]
  · isplitl [Dx]; · iexact Dx
    iexact HxR
  isplitl [Ho]; · iexact Ho
  isplitl [D1]; · iapply (lS_join m c); iexact D1
  isplitl [D2]; · iapply (sS_join m c); iexact D2
  isplitl [Ha]; · iapply (aS_join m c); iexact Ha
  isplitl [Hy]; · iapply (yS_join m c); iexact Hy
  iapply (zS_join m c); iexact Hz

end Cert.KernelProof

end
-- ==== Proof.K.Equal.lean ====
/- The printed body, run to its swap branch, is the looped program. -/
module

public import proofs.«01_k».proof.Proof.K.Body

@[expose] public section

noncomputable section

namespace Cert.KernelProof

open Cert.Kernel Cert.Kernel.Gen
open Idealize.ShloMosaic Idealize.ShloMosaic.TcCoe Idealize.SL Idealize.SL.Sem

variable {F : FTy → Type} [FloatOps F]

/-- The printed body on the launch's operands. -/
abbrev body0 : Pr F :=
  cc0_body (Memref.whole main_arg0) (Memref.isWhole_whole _) (Memref.whole cc0_stg0_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 cc0_scratch12

/-- The one element of the permutation a device reads: the one its own block's number names. -/
abbrev piR (c : Dev nD) : Rect S2 := Rect.unit (s := S2) (k0_off1 c) S1.size (k0_off1_inb c)
abbrev piX (c : Dev nD) : (piR c).shape.Idx := Shape.Idx.first (show 0 < S1.numel by decide)

/-- Sequencing after a returned value is the rest at that value. -/
theorem bind_ret' {E : Type → Type} {α β : Type} (a : α) (k : α → Prog E β) : (Prog.ret a).bind k = k a := rfl

/-- The printed body reads its device's number and its element of the permutation; when that element is not the number of its
    own block, what follows is the swap branch. -/
theorem body_split : ∃ rest : Dev nD → BitVec 1 → Pr F, (body0 = (.op .deviceId fun d =>
    .op (.load (Memref.whole cc0_stg0_0) (piR d).toLoadRect (View.loadsAt_rect (View.loads_smem_one rfl rfl))) fun f =>
    rest d (Scalar.cmpi .ne (f (piX d)) (Scalar.remsi (Scalar.divsi (Dev.word d) 8#32) 2#32)))) ∧ ∀ d, rest d 1#1 = swapA d := by
  apply Exists.intro
  refine ⟨?a, ?b⟩
  case a =>
    conv_lhs => whnf
    refine (congrArg (Prog.op _) (funext fun d => ?_) : _ = Prog.op _ _)
    conv_lhs => whnf
    refine (congrArg (Prog.op _) (funext fun f => ?_) : _ = Prog.op _ _)
    beta_reduce
    rw [bind_ret']
    generalize Scalar.cmpi .ne (f (piX d)) (Scalar.remsi (Scalar.divsi (Dev.word d) 8#32) 2#32) = b
    clear f
    exact rfl
  case b =>
    intro d
    chain_rfl

end Cert.KernelProof

end
-- ==== Proof.K.Whole.lean ====
/-
The body's whole run on a device: from its buffers, tokens and positions, through the swap branch, to its semaphores closed.
-/
module

public import proofs.«01_k».proof.Proof.K.Finish
public import proofs.«01_k».proof.Proof.K.Equal

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Closing the semaphores -/

/-- Beside something persistent, summand by summand. -/
theorem each_with {M : Type} [URA M] {I : Type} [DecidableEq I] {S : Finset I} {R : sProp M} [BI.Persistent R] {A B : I → sProp M}
    (h : ∀ i ∈ S, iprop(R ∗ A i) ⊢ B i) : iprop(R ∗ bigSep S A) ⊢ bigSep S B :=
  (sep_mono_left (BI.bigSep_of_persistent S R)).trans (by rw [← bigSep_sep']; exact bigSep_mono h)

/-- Device `c`'s semaphore number `n` at zero. -/
abbrev zero (c : Dev nD) (n : ℕ) : sProp 𝕄 := semVal (kc c n) 0

/-- At the end of the run every semaphore of the device is closed: those with a round past it, the eight without at their start. -/
theorem close_all (K : Dev nD × Fin 215 → ℕ) (c : Dev nD) :
    (iprop(recs m K ∗ (ended c ∗ bigSep (Finset.Ico 207 215) (fun n => ps c n 0))) : sProp 𝕄)
      ⊢ |={Set.univ}=> bigSep (Finset.Ico 0 215) (fun n => zero (F := F) c n) := by
  have e : (bigSep (Finset.Ico 0 215) (fun n => ps c n (if n < 207 then 1 else 0)) : sProp 𝕄)
      = iprop(ended c ∗ bigSep (Finset.Ico 207 215) (fun n => ps c n 0)) := by
    unfold ended
    rw [run_cut 207 (by omega) (by omega)]
    refine congrArg₂ _ (run_congr fun i h h' => ?_) (run_congr fun i h h' => ?_)
    · rw [if_pos h']
    · rw [if_neg (by omega)]
  rw [← e]
  refine (each_with (B := fun n => iprop(|={Set.univ}=> zero (F := F) c n)) fun n hn => ?_).trans (bigSep_fupd _ _)
  have hn' := (Finset.mem_Ico.mp hn).2
  iintro ⟨#HR, H⟩
  ihave HI := (recs_get m K c n hn') $$ HR
  icases HI with ⟨#HI, -⟩
  unfold ps
  iapply (Rounds.cell_close ER (Rd m) (Set.mem_univ (K (c, ⟨n, hn'⟩))) (fun h => h) (R := if n < 207 then 1 else 0) (by
    split
    · exact duties_later m (kc c n)
    · exact duties_none m c n (by omega) hn'))
  isplitr; · iexact HI
  iexact H

/-! ## What a device is dealt -/

/-- The tokens of the duties device `c` pays. -/
def payT (c : Dev nD) : sProp 𝕄 :=
  iprop(bigSep (Finset.Ico 0 22) (fun i => tk c (1 + i))
    ∗ bigSep (Finset.Ico 0 22) (fun i => tk c (23 + i))
    ∗ bigSep (Finset.Ico 0 22) (fun i => tk (xn c) (45 + i))
    ∗ bigSep (Finset.Ico 0 21) (fun i => tk c (67 + i))
    ∗ bigSep (Finset.Ico 0 21) (fun i => tk (yn c) (88 + i))
    ∗ bigSep (Finset.Ico 0 21) (fun i => tk c (109 + i))
    ∗ bigSep (Finset.Ico 0 21) (fun i => tk (zn c) (130 + i))
    ∗ bigSep (Finset.Ico 0 56) (fun i => tk c (151 + i))
    ∗ dutyTok ER (kc (xn c) 0) 0 0 ∗ dutyTok ER (kc (yn c) 0) 0 1 ∗ dutyTok ER (kc (zn c) 0) 0 2)
/-- Its positions, all at the start. -/
def posT (c : Dev nD) : sProp 𝕄 := bigSep (Finset.Ico 0 215) (fun n => ps c n 0)
/-- What it may wait for without having asked for it itself. -/
def crdT (c : Dev nD) : sProp 𝕄 :=
  iprop(cred (tl c 0 3)
    ∗ bigSep (Finset.Ico 0 22) (fun i => cr c (45 + i))
    ∗ bigSep (Finset.Ico 0 21) (fun i => cr c (88 + i))
    ∗ bigSep (Finset.Ico 0 21) (fun i => cr c (130 + i)))

/-- The positions at the start, one summand for each run of counters. -/
theorem posT_eq (c : Dev nD) : (posT (F := F) c : sProp 𝕄) = iprop(ps c 0 0
    ∗ bigSep (Finset.Ico 0 22) (fun i => ps c (1 + i) 0)
    ∗ bigSep (Finset.Ico 0 22) (fun i => ps c (23 + i) 0)
    ∗ bigSep (Finset.Ico 0 22) (fun i => ps c (45 + i) 0)
    ∗ bigSep (Finset.Ico 0 21) (fun i => ps c (67 + i) 0)
    ∗ bigSep (Finset.Ico 0 21) (fun i => ps c (88 + i) 0)
    ∗ bigSep (Finset.Ico 0 21) (fun i => ps c (109 + i) 0)
    ∗ bigSep (Finset.Ico 0 21) (fun i => ps c (130 + i) 0)
    ∗ bigSep (Finset.Ico 0 56) (fun i => ps c (151 + i) 0)
    ∗ bigSep (Finset.Ico 207 215) (fun n => ps c n 0)) := by
  unfold posT
  rw [run_cut 1 (show 0 ≤ 1 by omega) (by omega), run_cut 23 (show 1 ≤ 23 by omega) (by omega), run_cut 45 (show 23 ≤ 45 by omega) (by omega),
    run_cut 67 (show 45 ≤ 67 by omega) (by omega), run_cut 88 (show 67 ≤ 88 by omega) (by omega),
    run_cut 109 (show 88 ≤ 109 by omega) (by omega), run_cut 130 (show 109 ≤ 130 by omega) (by omega), run_cut 151 (show 130 ≤ 151 by omega) (by omega),
    run_cut 207 (show 151 ≤ 207 by omega) (by omega),
    run_shift 1 0 22 (fun n => ps c n 0), run_shift 23 0 22 (fun n => ps c n 0), run_shift 45 0 22 (fun n => ps c n 0),
    run_shift 67 0 21 (fun n => ps c n 0), run_shift 88 0 21 (fun n => ps c n 0), run_shift 109 0 21 (fun n => ps c n 0),
    run_shift 130 0 21 (fun n => ps c n 0), run_shift 151 0 56 (fun n => ps c n 0),
    show Finset.Ico 0 1 = {0} from rfl, bigSep_singleton]

/-- The two argument and result arrays the body reaches by itself, and the five scratch buffers. -/
def bufs₀ (c : Dev nD) : sProp 𝕄 :=
  iprop((((c : Thread nD τ).loc main_arg0) ↦{fullShare} m ((c : Thread nD τ).loc main_arg0))
    ∗ (∃ f, (((c : Thread nD τ).loc main_v1) ↦{fullShare} f))
    ∗ (∃ f, (((c : Thread nD τ).loc cc0_scratch0) ↦{fullShare} f))
    ∗ (∃ f, (((c : Thread nD τ).loc cc0_scratch1) ↦{fullShare} f))
    ∗ (∃ f, (((c : Thread nD τ).loc cc0_scratch2) ↦{fullShare} f))
    ∗ (∃ f, (((c : Thread nD τ).loc cc0_scratch3) ↦{fullShare} f))
    ∗ (∃ f, (((c : Thread nD τ).loc cc0_scratch4) ↦{fullShare} f)))

/-- From all that, what the swap branch starts with, the rows of `x` it keeps, and the positions it never moves. -/
theorem start_in (c : Dev nD) : (iprop(payT c ∗ posT c ∗ crdT c ∗ bufs₀ m c) : sProp 𝕄)
    ⊢ iprop(start m c ∗ xRest m c ∗ bigSep (Finset.Ico 207 215) (fun n => ps c n 0)) := by
  have d1 : (iprop(bigSep (Finset.Ico 0 22) (fun i => cr c (45 + i)) ∗ bigSep (Finset.Ico 0 22) (fun i => ps c (45 + i) 0)) : sProp 𝕄)
      = bigSep (Finset.Ico 0 22) (fun i => due c (45 + i)) := by rw [run_zip]; rfl
  have d2 : (iprop(bigSep (Finset.Ico 0 21) (fun i => cr c (88 + i)) ∗ bigSep (Finset.Ico 0 21) (fun i => ps c (88 + i) 0)) : sProp 𝕄)
      = bigSep (Finset.Ico 0 21) (fun i => due c (88 + i)) := by rw [run_zip]; rfl
  have d3 : (iprop(bigSep (Finset.Ico 0 21) (fun i => cr c (130 + i)) ∗ bigSep (Finset.Ico 0 21) (fun i => ps c (130 + i) 0)) : sProp 𝕄)
      = bigSep (Finset.Ico 0 21) (fun i => due c (130 + i)) := by rw [run_zip]; rfl
  have dx : (iprop(bigSep (Finset.Ico 0 14) (fun i => any c (aS i)) ∗ bigSep (Finset.Ico 14 22) (fun i => any c (oC (42 + i)))) : sProp 𝕄)
      = bigSep (Finset.Ico 0 22) (fun i => dstX c i) := by
    rw [run_cut 14 (show 0 ≤ 14 by omega) (show 14 ≤ 22 by omega)]
    refine congrArg₂ _ (run_congr fun i h h' => ?_) (run_congr fun i h h' => ?_)
    · unfold dstX; rw [if_pos h']
    · unfold dstX; rw [if_neg (by omega)]
  rw [posT_eq]
  unfold payT crdT bufs₀ start
  rw [x_cut, ← d1, ← d2, ← d3, ← dx]
  iintro ⟨⟨T1, T2, T3, T4, T5, T6, T7, T8, TB⟩, ⟨P0, P1, P2, P3, P4, P5, P6, P7, P8, P9⟩, ⟨C0, C1, C2, C3⟩, ⟨Bx, BxR⟩, Bo, B0, B1, B2, B3, B4⟩
  ihave Bo := (o_split c) $$ Bo
  icases Bo with ⟨Bo, BoT⟩
  ihave B0 := (lS_split c) $$ B0
  ihave B1 := (sS_split c) $$ B1
  ihave B2 := (aS_split c) $$ B2
  ihave B3 := (yS_split c) $$ B3
  ihave B4 := (zS_split c) $$ B4
  isplitr [BxR P9]
  · isplitl [T1]; · iexact T1
    isplitl [Bx]; · iexact Bx
    isplitl [B0]; · iexact B0
    isplitl [P1]; · iexact P1
    isplitl [B1]; · iexact B1
    isplitl [T2]; · iexact T2
    isplitl [T3]; · iexact T3
    isplitl [C1 P3]
    · isplitl [C1]; · iexact C1
      iexact P3
    isplitl [T4]; · iexact T4
    isplitl [T5]; · iexact T5
    isplitl [T6]; · iexact T6
    isplitl [T7]; · iexact T7
    isplitl [C2 P5]
    · isplitl [C2]; · iexact C2
      iexact P5
    isplitl [C3 P7]
    · isplitl [C3]; · iexact C3
      iexact P7
    isplitl [T8]; · iexact T8
    isplitl [Bo]; · iexact Bo
    isplitl [P2]; · iexact P2
    isplitl [P4]; · iexact P4
    isplitl [P6]; · iexact P6
    isplitl [P8]; · iexact P8
    isplitl [C0 P0]
    · isplitl [C0]; · iexact C0
      iexact P0
    isplitl [TB]; · iexact TB
    isplitl [B2 BoT]
    · isplitl [B2]; · iexact B2
      iexact BoT
    isplitl [B3]; · iexact B3
    iexact B4
  isplitl [BxR]; · iexact BxR
  iexact P9

/-! ## The permutation as staged -/

/-- The permutation's contents in the device's staging buffer. -/
def piStg (c : Dev nD) : (cc0_stg0_0 : Ref sig .tc).ty.Contents (Elt F) :=
  (win0_0.blk (0 : Fin 1)).view.read (Elt F) (m ((c : Thread nD τ).loc main_arg1))

/-- The element of the permutation device `c` reads is not the number of its own block: the kernel exchanges. -/
def swaps : Prop := ∀ c : Dev nD,
  Scalar.cmpi .ne ((Memref.whole cc0_stg0_0 : Memref sig .tc .smem S2 .i32).view.readAt (Elt F) (piR c).toLoadRect (piStg m c) (piX c))
    (Scalar.remsi (Scalar.divsi (Dev.word c) 8#32) 2#32) = 1#1

/-! ## The run of the body -/

/-- All a device has at the body's end, its buffers whole and its semaphores at zero. -/
def bufs₁ (c : Dev nD) : sProp 𝕄 :=
  iprop((((c : Thread nD τ).loc main_arg0) ↦{fullShare} m ((c : Thread nD τ).loc main_arg0))
    ∗ (∃ g, ⌜filled m c g⌝ ∗ (((c : Thread nD τ).loc main_v1) ↦{fullShare} g))
    ∗ (∃ f, (((c : Thread nD τ).loc cc0_scratch0) ↦{fullShare} f))
    ∗ (∃ f, (((c : Thread nD τ).loc cc0_scratch1) ↦{fullShare} f))
    ∗ (∃ f, (((c : Thread nD τ).loc cc0_scratch2) ↦{fullShare} f))
    ∗ (∃ f, (((c : Thread nD τ).loc cc0_scratch3) ↦{fullShare} f))
    ∗ (∃ f, (((c : Thread nD τ).loc cc0_scratch4) ↦{fullShare} f)))

/-- The staged permutation as the device holds it. -/
abbrev piPt (c : Dev nD) : sProp 𝕄 := (((c : Thread nD τ).loc cc0_stg0_0) ↦{fullShare} piStg m c)

/-- The body on device `c`, from what it is dealt to its buffers filled and its semaphores closed. -/
theorem body_run (hsw : swaps m) (K : Dev nD × Fin 215 → ℕ) (c : Dev nD) (Q : PUnit.{1} → sProp 𝕄) :
    iprop(recs m K ∗ (payT c ∗ posT c ∗ crdT c ∗ bufs₀ m c) ∗ piPt m c ∗ oo c (O₀ c))
      ⊢ iprop((bigSep (Finset.Ico 0 215) (fun n => zero (F := F) c n) ∗ bufs₁ m c ∗ piPt m c ∗ oo c 0 -∗ Q ⟨⟩) -∗ W c body0 Q) := by
  obtain ⟨rest, he, hr⟩ := body_split (F := F)
  rw [he]
  unfold W
  simp only [wp_deviceId]
  iintro ⟨#HR, Hs, Hpi, Ho⟩ Hk
  iapply (wp_load 𝒱₀ (c : Thread nD τ) none Set.univ (m := (Memref.whole cc0_stg0_0 : Memref sig .tc .smem S2 .i32)) (Finset.subset_univ _)) $$ Hpi
  iintro Hpi
  rw [hsw c, hr c]
  unfold swapA
  ihave Hs := (start_in m c) $$ Hs
  icases Hs with ⟨Hs, HxR, HpN⟩
  iapply (swap_run m K c Q _) $$ [Hs Ho]
  · isplitr; · iexact HR
    isplitl [Hs]; · iexact Hs
    iexact Ho
  iintro ⟨Hf, Ho⟩
  ihave Hf := (finish_out m c) $$ [Hf HxR]
  · isplitl [Hf]; · iexact Hf
    iexact HxR
  icases Hf with ⟨He, Hb⟩
  unfold bufs₁
  imod (close_all m K c) $$ [He HpN] with Hz
  · isplitr; · iexact HR
    isplitl [He]; · iexact He
    iexact HpN
  rw [wp_ret]; imodintro
  iapply Hk
  isplitl [Hz]; · iexact Hz
  isplitl [Hb]; · iexact Hb
  isplitl [Hpi]; · iexact Hpi
  iexact Ho

end Cert.KernelProof

end
-- ==== Proof.K.Deal.lean ====
/-
What the launch deals: every cell's ghost state made and shared, the duties' tokens to the devices that pay them, the credits.
-/
module

public import proofs.«01_k».proof.Proof.K.Whole

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- Every semaphore's cell is another one. -/
theorem kc_inj {c c' : Dev nD} {n n' : ℕ} (h : n < 215) (h' : n' < 215) (e : kc c n = kc c' n') : c = c' ∧ n = n' := by
  refine ⟨congrArg (fun g : GSem nD τ sig => g.1.1) e, ?_⟩
  have h2 := congrArg (fun g : GSem nD τ sig => num g.2) e
  have h3 : num (sn n) = num (sn n') := h2
  rwa [num_sn n h, num_sn n' h'] at h3

abbrev kcell (p : Dev nD × Fin 215) : GSem nD τ sig := kc p.1 p.2.val
/-- Two of the counters that carry a schedule are different semaphores. -/
theorem kcell_inj : Function.Injective kcell := by
  rintro ⟨c, k⟩ ⟨c', k'⟩ h
  obtain ⟨h1, h2⟩ := kc_inj k.isLt k'.isLt h
  exact Prod.ext h1 (Fin.ext h2)
def allCells : Finset (GSem nD τ sig) := Finset.univ.map ⟨kcell, kcell_inj⟩

/-- A device's own duties: the barrier's three, then one of each other semaphore. -/
abbrev tokOf (p : Dev nD × Fin 209) : GSem nD τ sig × ℕ × Fin 3 :=
  (kc p.1 (if p.2.val < 3 then 0 else p.2.val - 2), 0, if p.2.val = 1 then 1 else if p.2.val = 2 then 2 else 0)
/-- Two of the tokens that a device gets name different duties. -/
theorem tokOf_inj : Function.Injective tokOf := by
  rintro ⟨c, j⟩ ⟨c', j'⟩ h
  have h1 := congrArg (fun x : GSem nD τ sig × ℕ × Fin 3 => x.1) h
  have h3 : (if j.val = 1 then 1 else if j.val = 2 then 2 else 0 : Fin 3) = if j'.val = 1 then 1 else if j'.val = 2 then 2 else 0 :=
    congrArg (fun x : GSem nD τ sig × ℕ × Fin 3 => x.2.2) h
  have hj := j.isLt
  have hj' := j'.isLt
  obtain ⟨ec, en⟩ := kc_inj (by split <;> omega) (by split <;> omega) h1
  refine Prod.ext ec (Fin.ext ?_)
  show j.val = j'.val
  have h4 := congrArg Fin.val h3
  change (if j.val < 3 then 0 else j.val - 2) = (if j'.val < 3 then 0 else j'.val - 2) at en
  have e1 : (if j.val = 1 then 1 else if j.val = 2 then 2 else 0 : Fin 3).val = if j.val = 1 then 1 else if j.val = 2 then 2 else 0 := by
    (repeat' split) <;> rfl
  have e2 : (if j'.val = 1 then 1 else if j'.val = 2 then 2 else 0 : Fin 3).val = if j'.val = 1 then 1 else if j'.val = 2 then 2 else 0 := by
    (repeat' split) <;> rfl
  rw [e1, e2] at h4
  split at en <;> split at en <;> (try split at h4) <;> (try split at h4) <;> (try split at h4) <;> (try split at h4) <;> omega
def allToks : Finset (GSem nD τ sig × ℕ × Fin 3) := Finset.univ.map ⟨tokOf, tokOf_inj⟩

/-- What the launch's ghost state starts as. -/
def u₀ : UU :=
  (initOf (Pipeline.cells cfgs cellOf_inj) (Pipeline.launchToks cfgs cellOf_inj), initOf allCells allToks)

/-- The tokens of device `c`'s own cells, in the order the devices that pay take them. -/
def toks (c : Dev nD) : sProp 𝕄 :=
  iprop(bigSep (Finset.Ico 0 22) (fun i => tk c (1 + i))
    ∗ bigSep (Finset.Ico 0 22) (fun i => tk c (23 + i))
    ∗ bigSep (Finset.Ico 0 22) (fun i => tk c (45 + i))
    ∗ bigSep (Finset.Ico 0 21) (fun i => tk c (67 + i))
    ∗ bigSep (Finset.Ico 0 21) (fun i => tk c (88 + i))
    ∗ bigSep (Finset.Ico 0 21) (fun i => tk c (109 + i))
    ∗ bigSep (Finset.Ico 0 21) (fun i => tk c (130 + i))
    ∗ bigSep (Finset.Ico 0 56) (fun i => tk c (151 + i))
    ∗ dutyTok ER (kc c 0) 0 0 ∗ dutyTok ER (kc c 0) 0 1 ∗ dutyTok ER (kc c 0) 0 2)

/-- The tokens dealt by number are the tokens a device's program uses. -/
theorem toks_of (c : Dev nD) : (bigSep (Finset.univ : Finset (Fin 209)) (fun j => dutyTok ER (tokOf (c, j)).1 (tokOf (c, j)).2.1 (tokOf (c, j)).2.2) : sProp 𝕄)
    ⊢ toks c := by
  have hb : (bigSep (Finset.Ico 0 3) (fun j => dutyTok ER (kc c (if j < 3 then 0 else j - 2)) 0 (if j = 1 then 1 else if j = 2 then 2 else 0)) : sProp 𝕄)
      = iprop(dutyTok ER (kc c 0) 0 0 ∗ dutyTok ER (kc c 0) 0 1 ∗ dutyTok ER (kc c 0) 0 2) := by
    rw [run_cut 1 (show 0 ≤ 1 by omega) (by omega), run_cut 2 (show 1 ≤ 2 by omega) (by omega), show Finset.Ico 0 1 = {0} from rfl,
      show Finset.Ico 1 2 = {1} from rfl, show Finset.Ico 2 3 = {2} from rfl, bigSep_singleton, bigSep_singleton, bigSep_singleton,
      if_pos (show (0 : ℕ) < 3 by omega), if_pos (show (1 : ℕ) < 3 by omega), if_pos (show (2 : ℕ) < 3 by omega),
      if_neg (show ¬ (0 : ℕ) = 1 by omega), if_neg (show ¬ (0 : ℕ) = 2 by omega), if_pos (rfl : (1 : ℕ) = 1), if_neg (show ¬ (2 : ℕ) = 1 by omega),
      if_pos (rfl : (2 : ℕ) = 2)]
  have hr : (bigSep (Finset.Ico 3 209) (fun j => dutyTok ER (kc c (if j < 3 then 0 else j - 2)) 0 (if j = 1 then 1 else if j = 2 then 2 else 0)) : sProp 𝕄)
      = bigSep (Finset.Ico 1 207) (fun n => tk c n) := by
    rw [← run_shift 2 1 207 (fun j => (dutyTok ER (kc c (if j < 3 then 0 else j - 2)) 0 (if j = 1 then 1 else if j = 2 then 2 else 0) : sProp 𝕄))]
    refine run_congr fun i h h' => ?_
    rw [if_neg (by omega), if_neg (by omega), if_neg (by omega), show 2 + i - 2 = i by omega]; rfl
  have e := run_fin 209 (fun j => (dutyTok ER (kc c (if j < 3 then 0 else j - 2)) 0 (if j = 1 then 1 else if j = 2 then 2 else 0) : sProp 𝕄))
  rw [run_cut 3 (show 0 ≤ 3 by omega) (show 3 ≤ 209 by omega), hb, hr] at e
  unfold toks
  iintro H
  ihave H := (Entails.of_eq e) $$ H
  rw [run_cut 23 (show 1 ≤ 23 by omega) (by omega), run_cut 45 (show 23 ≤ 45 by omega) (by omega),
    run_cut 67 (show 45 ≤ 67 by omega) (by omega), run_cut 88 (show 67 ≤ 88 by omega) (by omega),
    run_cut 109 (show 88 ≤ 109 by omega) (by omega), run_cut 130 (show 109 ≤ 130 by omega) (by omega), run_cut 151 (show 130 ≤ 151 by omega) (by omega),
    run_shift 1 0 22 (fun n => tk c n), run_shift 23 0 22 (fun n => tk c n), run_shift 45 0 22 (fun n => tk c n),
    run_shift 67 0 21 (fun n => tk c n), run_shift 88 0 21 (fun n => tk c n), run_shift 109 0 21 (fun n => tk c n),
    run_shift 130 0 21 (fun n => tk c n), run_shift 151 0 56 (fun n => tk c n)]
  icases H with ⟨⟨B0, B1, B2⟩, H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [B0]; · iexact B0
  isplitl [B1]; · iexact B1
  iexact B2

/-- Every device's tokens go to the devices that pay with them: those of what comes across an axis to the neighbour there. -/
theorem toks_dealt : (bigSep Finset.univ fun c : Dev nD => (toks c : sProp 𝕄)) ⊢ bigSep Finset.univ fun c : Dev nD => payT c := by
  unfold toks payT
  simp only [bigSep_sep']
  rw [bigSep_univ_equiv xE (fun c : Dev nD => (bigSep (Finset.Ico 0 22) (fun i => tk c (45 + i)) : sProp 𝕄)),
    bigSep_univ_equiv yE (fun c : Dev nD => (bigSep (Finset.Ico 0 21) (fun i => tk c (88 + i)) : sProp 𝕄)),
    bigSep_univ_equiv zE (fun c : Dev nD => (bigSep (Finset.Ico 0 21) (fun i => tk c (130 + i)) : sProp 𝕄)),
    bigSep_univ_equiv xE (fun c : Dev nD => (dutyTok ER (kc c 0) 0 0 : sProp 𝕄)),
    bigSep_univ_equiv yE (fun c : Dev nD => (dutyTok ER (kc c 0) 0 1 : sProp 𝕄)),
    bigSep_univ_equiv zE (fun c : Dev nD => (dutyTok ER (kc c 0) 0 2 : sProp 𝕄))]
  exact BI.Entails.refl _

/-! ## The ghost state -/

/-- What the launch's element deals device `c`. -/
def G (c : Dev nD) : sProp 𝕄 :=
  iprop((bigSep Finset.univ fun k : Fin 215 => roundState ER (Rd m) (kcell (c, k)) 0)
    ∗ ((bigSep Finset.univ fun k : Fin 215 => atPos ER (kcell (c, k)) 0 ∅ 0) ∗ (bigSep Finset.univ fun k : Fin 215 => reached ER (kcell (c, k)) 0)) ∗ toks c)

/-- The invariants and marks, beside the levels. -/
def recs' (K : Dev nD × Fin 215 → ℕ) : sProp 𝕄 :=
  bigSep Finset.univ fun p : Dev nD × Fin 215 => iprop(cellInv ER (Rd m) (K p) (kc p.1 p.2.val) ∗ reached ER (kc p.1 p.2.val) 0)
instance recs'_persistent (K : Dev nD × Fin 215 → ℕ) : BI.Persistent (recs' m K) := by unfold recs'; infer_instance

/-- What the devices' common step makes of it. -/
def G' (c : Dev nD) : sProp 𝕄 := iprop(∃ K, recs' m K ∗ payT c ∗ posT c)

/-- The launch's element is every cell's state, position and mark, and every duty's token. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 215 => Φ (kcell (c, k)) := by
    unfold allCells; rw [bigSep_map, bigSep_univ_prod]; rfl
  have hT : (bigSep allToks (fun x => dutyTok ER x.1 x.2.1 x.2.2) : sProp 𝕄) ⊢ bigSep Finset.univ fun c : Dev nD => toks c := by
    unfold allToks; rw [bigSep_map, bigSep_univ_prod]
    exact sep_mono_each fun c _ => toks_of c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The kernel's own semaphores: all but the barrier and the one the pipeline stages through. -/
abbrev osem : Fin 214 → SemLoc sig := fun k => sn (1 + k.val)
/-- The counters the kernel owns are the ones its scratch names. -/
theorem ownSemFacts : Pipeline.OwnSemFacts cfg0.spec osem where
  isScoped := by decide +kernel
  inj k k' h := by
    have h' : num (sn (1 + k.val)) = num (sn (1 + k'.val)) := congrArg num h
    have hk := k.isLt
    have hk' := k'.isLt
    rw [num_sn _ (by omega), num_sn _ (by omega)] at h'
    exact Fin.ext (by omega)
  disj := by decide +kernel

/-- The kernel's own counters at zero, written out counter by counter. -/
theorem ownSems_eq (c : Dev nD) : (Pipeline.ownSems0 (Ix := Unit) (Name := ℕ) (U := UU) (Lvl := ℕ) (Val := Elt F) (τ := τ) osem c : sProp 𝕄)
    = bigSep (Finset.Ico 1 215) (fun n => zero (F := F) c n) := by
  unfold Pipeline.ownSems0
  rw [← run_shift 1 0 214 (fun n => zero (F := F) c n), ← run_fin]; rfl
/-- the barrier semaphore is the one that lives outside the kernel. -/
theorem unscopedSems_eq (c : Dev nD) : (unscopedSems0 c : sProp 𝕄) = zero (F := F) c 0 := by
  unfold unscopedSems0; rw [bigSep_eq_bigSepL_of_eq [SemLoc.reg barS] (by decide +kernel) (by decide +kernel)]; rfl
/-- Counters 0 to 214 at zero are the barrier and the kernel's own counters at zero. -/
theorem sems_eq (c : Dev nD) : (bigSep (Finset.Ico 0 215) (fun n => zero (F := F) c n) : sProp 𝕄)
    = iprop(unscopedSems0 c ∗ Pipeline.ownSems0 (Ix := Unit) (Name := ℕ) (U := UU) (Lvl := ℕ) (Val := Elt F) (τ := τ) osem c) := by
  rw [ownSems_eq, unscopedSems_eq, run_cut 1 (show 0 ≤ 1 by omega) (by omega), show Finset.Ico 0 1 = {0} from rfl, bigSep_singleton]

/-- On each device the semaphores at zero and their states become invariants. -/
theorem core_alloc (c : Dev nD) :
    (iprop(Pipeline.ownSems0 (Ix := Unit) (Name := ℕ) (U := UU) (Lvl := ℕ) (Val := Elt F) (τ := τ) osem c ∗ unscopedSems0 c ∗ G m c) : sProp 𝕄)
      ⊢ |={Set.univ}=> iprop((bigSep Finset.univ fun k : Fin 215 => iprop(∃ κ : ℕ, cellInv ER (Rd m) κ (kcell (c, k))))
          ∗ ((bigSep Finset.univ fun k : Fin 215 => atPos ER (kcell (c, k)) 0 ∅ 0) ∗ (bigSep Finset.univ fun k : Fin 215 => reached ER (kcell (c, k)) 0)) ∗ toks c) := by
  have ha : (iprop((bigSep Finset.univ fun k : Fin 215 => zero (F := F) c k.val) ∗ bigSep Finset.univ fun k : Fin 215 => roundState ER (Rd m) (kcell (c, k)) 0) : sProp 𝕄)
      ⊢ |={Set.univ}=> bigSep Finset.univ fun k : Fin 215 => iprop(∃ κ : ℕ, cellInv ER (Rd m) κ (kcell (c, k))) := by
    rw [← bigSep_sep']
    exact (bigSep_mono fun k _ => (Rounds.body_intro ER (Rd m) (kcell (c, k))).trans inv_alloc).trans (bigSep_fupd _ _)
  have hs := sems_eq (F := F) c
  rw [← run_fin] at hs
  unfold G
  iintro ⟨Hos, Hus, Hst, Hat, Htok⟩
  ihave Hv := (Entails.of_eq hs.symm) $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-- All devices' shares put together: the invariants and marks to every device, its own positions, the tokens it pays with. -/
theorem regroup :
    (bigSep Finset.univ fun c : Dev nD => iprop((bigSep Finset.univ fun k : Fin 215 => iprop(∃ κ : ℕ, cellInv ER (Rd m) κ (kcell (c, k))))
          ∗ ((bigSep Finset.univ fun k : Fin 215 => atPos ER (kcell (c, k)) 0 ∅ 0) ∗ (bigSep Finset.univ fun k : Fin 215 => reached ER (kcell (c, k)) 0)) ∗ toks c) : sProp 𝕄)
      ⊢ bigSep Finset.univ (G' m) := by
  rw [bigSep_sep', bigSep_sep', bigSep_sep', ← bigSep_univ_prod (fun p : Dev nD × Fin 215 => iprop(∃ κ : ℕ, cellInv ER (Rd m) κ (kcell p))),
    ← bigSep_univ_prod (fun p : Dev nD × Fin 215 => (reached ER (kcell p) 0 : sProp 𝕄))]
  have hp : (bigSep Finset.univ fun c : Dev nD => bigSep Finset.univ fun k : Fin 215 => (atPos ER (kcell (c, k)) 0 ∅ 0 : sProp 𝕄))
      = bigSep Finset.univ fun c : Dev nD => posT c := bigSep_congr fun c _ => by
    unfold posT; rw [← run_fin]; rfl
  iintro ⟨HI, ⟨Hat, #HR⟩, Htok⟩
  ihave HK := (BI.bigSep_exists_pi Finset.univ (fun (p : Dev nD × Fin 215) (κ : ℕ) => (cellInv ER (Rd m) κ (kcell p) : sProp 𝕄))) $$ HI
  icases HK with ⟨%K, #HI⟩
  ihave Htk := (toks_dealt (F := F)) $$ Htok
  ihave Hat := (Entails.of_eq hp) $$ Hat
  iapply (each_with (R := recs' m K) (A := fun c => iprop(payT c ∗ posT c)) (B := G' m) fun c _ => (by
    unfold G'
    iintro ⟨HR, HA⟩
    iexists K
    isplitl [HR]; · iexact HR
    iexact HA))
  isplitr
  · unfold recs'; rw [bigSep_sep']; isplitl; · iexact HI
    iexact HR
  · rw [bigSep_sep']
    isplitl [Htk]; · iexact Htk
    iexact Hat

/-- The devices' common step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- A tally on one counter reads its amount there and zero at every other counter. -/
theorem tl_at (d c : Dev nD) (k n a : ℕ) (hk : k < 215) (hn : n < 215) : tl d k a (kc c n) () = if d = c ∧ k = n then a else 0 := by
  rw [tallyAt_apply]
  by_cases h : d = c ∧ k = n
  · rw [if_pos h, h.1, h.2, if_pos ⟨rfl, rfl⟩]
  · rw [if_neg h, if_neg fun h' => h ⟨(kc_inj hn hk h'.1).1.symm, (kc_inj hn hk h'.1).2.symm⟩]

/-- A run of debts, read at one cell. -/
theorem run_at (d c : Dev nD) (b w n a : ℕ) (hb : b + w ≤ 215) (hn : n < 215) :
    (∑ i ∈ Finset.Ico 0 w, tl d (b + i) a) (kc c n) () = if d = c then (if b ≤ n ∧ n < b + w then a else 0) else 0 := by
  rw [Finset.sum_apply, Finsupp.finset_sum_apply, Finset.sum_congr rfl fun i hi => tl_at d c (b + i) n a (by have := Finset.mem_Ico.mp hi; omega) hn]
  by_cases hd : d = c
  · rw [if_pos hd]
    by_cases hr : b ≤ n ∧ n < b + w
    · rw [if_pos hr, Finset.sum_eq_single (n - b)]
      · rw [if_pos ⟨hd, by omega⟩]
      · intro i _ hne; rw [if_neg fun h => hne (by omega)]
      · intro h; exact absurd (Finset.mem_Ico.mpr ⟨by omega, by omega⟩) h
    · rw [if_neg hr]
      refine Finset.sum_eq_zero fun i hi => if_neg fun h => hr ?_
      have := Finset.mem_Ico.mp hi; omega
  · rw [if_neg hd]
    exact Finset.sum_eq_zero fun i _ => if_neg fun h => hd h.1

/-- Summed over the devices, what goes to a neighbour comes from one. -/
theorem sum_to (σ : Dev nD ≃ Dev nD) (c : Dev nD) (a : ℕ) : ∑ d : Dev nD, (if σ d = c then a else 0) = a := by
  rw [Fintype.sum_eq_single (σ.symm c) fun d hd => if_neg fun h => hd (by rw [← h, Equiv.symm_apply_apply]), if_pos (Equiv.apply_symm_apply σ c)]

/-- All that is owed to device `c`'s cell `n`: a unit from each neighbour to its barrier, one block's credit to each receiving cell. -/
theorem owed_all (c : Dev nD) (n : ℕ) (hn : n < 215) : ∑ d : Dev nD, O₀ d (kc c n) ()
    = (if 45 ≤ n ∧ n < 67 then NB else 0) + (if 88 ≤ n ∧ n < 109 then NB else 0) + (if 130 ≤ n ∧ n < 151 then NB else 0)
      + (if n = 0 then 1 else 0) + (if n = 0 then 1 else 0) + (if n = 0 then 1 else 0) := by
  have hd : ∀ d : Dev nD, O₀ d (kc c n) () = (if xE d = c then (if 45 ≤ n ∧ n < 67 then NB else 0) else 0) + (if yE d = c then (if 88 ≤ n ∧ n < 109 then NB else 0) else 0)
      + (if zE d = c then (if 130 ≤ n ∧ n < 151 then NB else 0) else 0) + (if zE d = c then (if n = 0 then 1 else 0) else 0)
      + (if yE d = c then (if n = 0 then 1 else 0) else 0) + (if xE d = c then (if n = 0 then 1 else 0) else 0) := by
    intro d
    have hb : ∀ e : Dev nD, tl e 0 1 (kc c n) () = if e = c then (if n = 0 then 1 else 0) else 0 := fun e => by
      rw [tl_at e c 0 n 1 (by omega) hn]
      by_cases he : e = c
      · by_cases h0 : n = 0
        · rw [if_pos ⟨he, h0.symm⟩, if_pos he, if_pos h0]
        · rw [if_neg fun h => h0 h.2.symm, if_pos he, if_neg h0]
      · rw [if_neg fun h => he h.1, if_neg he]
    unfold O₀ oB1 oB2 oM0 oX oYs oZs
    simp only [Pi.add_apply, Finsupp.add_apply]
    rw [run_at (xn d) c 45 22 n NB (by omega) hn, run_at (yn d) c 88 21 n NB (by omega) hn, run_at (zn d) c 130 21 n NB (by omega) hn, hb, hb, hb]
    rfl
  rw [Finset.sum_congr rfl fun d _ => hd d, Finset.sum_add_distrib, Finset.sum_add_distrib, Finset.sum_add_distrib, Finset.sum_add_distrib,
    Finset.sum_add_distrib, sum_to, sum_to, sum_to, sum_to, sum_to, sum_to]

/-- What the launch lends at a cell is what is owed there. -/
theorem lent (c : Dev nD) (n k : ℕ) (h : ∑ d : Dev nD, O₀ d (kc c n) () = k) :
    tallyOn (kc c n) (launchCredit (Pipeline.owing O₀) 0 (kc c n)) = (tallyAt (kc c n) () k : CellTallies nD τ sig Unit) := by
  unfold tallyAt; refine congrArg _ (Finsupp.ext fun u => ?_); cases u
  rw [Pipeline.launchCredit_owing, Finsupp.single_eq_same, h]

/-- The 215 counters of a device are different. -/
theorem sn_inj : Function.Injective (fun k : Fin 215 => sn k.val) := fun k k' h => by
  have h' : num (sn k.val) = num (sn k'.val) := congrArg num h
  rw [num_sn _ k.isLt, num_sn _ k'.isLt] at h'
  exact Fin.ext h'

/-- The launch's credit on device `c` is what it waits for from its neighbours. -/
theorem creds (c : Dev nD) : (Pipeline.launchCred O₀ c : sProp 𝕄) ⊢ crdT c := by
  have e : (bigSep (Finset.univ.map ⟨fun k : Fin 215 => sn k.val, sn_inj⟩)
      (fun sm : SemLoc sig => cred (tallyOn ((c.tc : Thread nD τ), sm) (launchCredit (Pipeline.owing O₀) 0 ((c.tc : Thread nD τ), sm)))) : sProp 𝕄)
      = bigSep (Finset.Ico 0 215) (fun n => cred (tallyOn (kc c n) (launchCredit (Pipeline.owing O₀) 0 (kc c n)))) := by
    rw [bigSep_map, ← run_fin]; rfl
  have e0 : (cred (tallyOn (kc c 0) (launchCredit (Pipeline.owing O₀) 0 (kc c 0))) : sProp 𝕄) = cred (tl c 0 3) := by
    rw [lent c 0 3 (owed_all c 0 (by omega))]
  have eb : ∀ n, (45 ≤ n ∧ n < 67) ∨ (88 ≤ n ∧ n < 109) ∨ (130 ≤ n ∧ n < 151) →
      (cred (tallyOn (kc c n) (launchCredit (Pipeline.owing O₀) 0 (kc c n))) : sProp 𝕄) = cr c n := fun n h => by
    rw [lent c n NB]
    · unfold cr; rw [amt_b n (by omega)]
    · rw [owed_all c n (by omega), if_neg (show ¬ n = 0 by omega)]
      rcases h with h | h | h
      · rw [if_pos h, if_neg (by omega), if_neg (by omega)]; rfl
      · rw [if_neg (by omega), if_pos h, if_neg (by omega), Nat.zero_add]; rfl
      · rw [if_neg (by omega), if_neg (by omega), if_pos h, Nat.zero_add]; rfl
  have e1 : (bigSep (Finset.Ico 45 67) (fun n => cred (tallyOn (kc c n) (launchCredit (Pipeline.owing O₀) 0 (kc c n)))) : sProp 𝕄)
      = bigSep (Finset.Ico 0 22) (fun i => cr c (45 + i)) := by
    rw [run_shift 45 0 22 (fun n => cr c n)]; exact run_congr fun n h h' => eb n (Or.inl ⟨h, h'⟩)
  have e2 : (bigSep (Finset.Ico 88 109) (fun n => cred (tallyOn (kc c n) (launchCredit (Pipeline.owing O₀) 0 (kc c n)))) : sProp 𝕄)
      = bigSep (Finset.Ico 0 21) (fun i => cr c (88 + i)) := by
    rw [run_shift 88 0 21 (fun n => cr c n)]; exact run_congr fun n h h' => eb n (Or.inr (Or.inl ⟨h, h'⟩))
  have e3 : (bigSep (Finset.Ico 130 151) (fun n => cred (tallyOn (kc c n) (launchCredit (Pipeline.owing O₀) 0 (kc c n)))) : sProp 𝕄)
      = bigSep (Finset.Ico 0 21) (fun i => cr c (130 + i)) := by
    rw [run_shift 130 0 21 (fun n => cr c n)]; exact run_congr fun n h h' => eb n (Or.inr (Or.inr ⟨h, h'⟩))
  have hs : (Pipeline.launchCred O₀ c : sProp 𝕄)
      ⊢ bigSep (Finset.Ico 0 215) (fun n => cred (tallyOn (kc c n) (launchCredit (Pipeline.owing O₀) 0 (kc c n)))) := by
    rw [← e]; unfold Pipeline.launchCred
    exact bigSep_subset (Finset.subset_univ _)
  refine hs.trans ?_
  rw [run_cut 1 (show 0 ≤ 1 by omega) (by omega), run_cut 45 (show 1 ≤ 45 by omega) (by omega), run_cut 67 (show 45 ≤ 67 by omega) (by omega),
    run_cut 88 (show 67 ≤ 88 by omega) (by omega), run_cut 109 (show 88 ≤ 109 by omega) (by omega), run_cut 130 (show 109 ≤ 130 by omega) (by omega),
    run_cut 151 (show 130 ≤ 151 by omega) (by omega), show Finset.Ico 0 1 = {0} from rfl, bigSep_singleton, e0, e1, e2, e3]
  unfold crdT
  iintro ⟨H0, -, H1, -, H2, -, H3, -⟩
  isplitl [H0]; · iexact H0
  isplitl [H1]; · iexact H1
  isplitl [H2]; · iexact H2
  iexact H3

end Cert.KernelProof

end
-- ==== Proof.K.Launch.lean ====
/-
The kernel launched: on every device the body run from what the launch deals it, to the state every execution ends in.
-/
module

public import proofs.«01_k».proof.Proof.K.Deal
public import Idealize.ShloMosaic.Lib.Pipeline.CollectiveSegs

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's data -/

/-- What a device has before the body: its share of the ghost state, its credits, its buffers; -/
def Φ₀ (c : Dev nD) : sProp 𝕄 := iprop((∃ K, recs m K ∗ payT c ∗ posT c) ∗ crdT c ∗ bufs₀ m c)
/-- after it: its semaphores at zero, its buffers with the result filled. -/
def Φ₁ (c : Dev nD) : sProp 𝕄 := iprop((bigSep (Finset.Ico 0 215) fun n => zero (F := F) c n) ∗ bufs₁ m c)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => piStg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The launch runs one step. -/
theorem one_step : cfg0.N = 1 := by decide
def t₀ : Fin cfg0.N := ⟨0, by rw [one_step]; decide⟩
/-- Every step of the launch is the first. -/
theorem only_step (t : Fin cfg0.N) : t = t₀ := by
  obtain ⟨t, ht⟩ := t; have := one_step; exact Fin.ext (by simp only [t₀]; omega)

/-- A staging buffer holding `X`. -/
def staged (c : Dev nD) (b : Ref sig .tc) (X : b.ty.Contents (Elt F)) : sProp 𝕄 :=
  iprop(∃ f : Buf (Elt F) ((c : Thread nD τ).loc b), ⌜(f : b.ty.Contents (Elt F)) = X⌝ ∗ (((c : Thread nD τ).loc b) ↦{fullShare} f))
/-- To own a whole staged buffer is to hold its points. -/
theorem owns_staged (c : Dev nD) (b : Ref sig .tc) (X : b.ty.Contents (Elt F)) :
    (owns (c : Thread nD τ) (Memref.whole b) fullShare X : sProp 𝕄) = staged c b X := by
  unfold owns; simp only [Memref.view_whole, View.read_whole, View.set_whole]; rfl

/-- The staged permutation is fetched at every step. -/
theorem fetches (t : Fin cfg0.N) : (cfg0.win (0 : Fin 1)).fetch t = true := by rw [only_step t]; rfl

def bodyPre (c : Dev nD) : sProp 𝕄 :=
  iprop(Φ₀ m c ∗ (dats m ρ 0 c).owesAt () t₀.castSucc ∗ (∃ d, staged c cc0_stg0_0 ((dats m ρ 0 c).before (0 : Fin 1) t₀ d)))
def bodyPost (c : Dev nD) : sProp 𝕄 :=
  iprop(Φ₁ m c ∗ (dats m ρ 0 c).owesAt () t₀.succ ∗ staged c cc0_stg0_0 (piStg m c))

/-- The body on device `c` from what the pipeline hands it to what the pipeline takes back. -/
theorem body_launched (hsw : swaps m) (c : Dev nD) : bodyPre m ρ c ⊢ W c body0 (fun _ => bodyPost m ρ c) := by
  unfold bodyPre Φ₀ Dat.owesAt Pipeline.owesWithin staged
  rw [show (dats m ρ 0 c).owed t₀.castSucc = O₀ c from rfl]
  iintro ⟨⟨⟨%K, #HR, Hp, Hq⟩, Hc, Hb⟩, ⟨%V, %hV, Ho⟩, %d, %f, %hf, Hpi⟩
  have hf' : (f : (cc0_stg0_0 : Ref sig .tc).ty.Contents (Elt F)) = piStg m c := by
    rw [hf]; unfold Dat.before; rw [if_pos (fetches t₀)]; rfl
  subst hf'
  iapply (body_run m hsw K c (fun _ => bodyPost m ρ c)) $$ [Hp Hq Hc Hb Ho Hpi]
  · isplitr; · iexact HR
    isplitl [Hp Hq Hc Hb]
    · isplitl [Hp]; · iexact Hp
      isplitl [Hq]; · iexact Hq
      isplitl [Hc]; · iexact Hc
      iexact Hb
    isplitl [Hpi]; · iexact Hpi
    unfold oo
    iexists V; iexact Ho
  iintro ⟨Hz, Hb, Hpi, Ho⟩
  unfold bodyPost Φ₁ Dat.owesAt Pipeline.owesWithin staged oo
  rw [show (dats m ρ 0 c).owed t₀.succ = 0 from rfl]
  icases Ho with ⟨%V', Ho⟩
  isplitl [Hz Hb]
  · isplitl [Hz]; · iexact Hz
    iexact Hb
  isplitl [Ho]
  · iexists V'
    isplitr; · ipureintro; exact fun _ _ => Or.inl trivial
    iexact Ho
  iexists _; isplitr; · (ipureintro; rfl)
  iexact Hpi

set_option maxRecDepth 4000 in
/-- The library's obligation on the body. -/
theorem body_obligation (hsw : swaps m) (c : Dev nD) : BodyObligation (dats (F := F) m ρ 0 c) (defs₀ (F := F)) 𝒱₀ () Set.univ := fun t => by
  rw [only_step t, bigSep_W0, bigSep_W0]
  simp only [owns_staged]
  exact body_launched m ρ hsw c

/-! ## The launch's side conditions -/

/-- The window holds its array whole. -/
theorem share_eq (c : Dev nD) (w : Fin cfg0.W) : (dats m ρ 0 c).share w = fullShare := by unfold Dat.share; split <;> rfl

/-- What the launch makes ready on device `c`, all but the scratch buffers. -/
def ready (c : Dev nD) : sProp 𝕄 :=
  iprop((∃ K, recs m K ∗ payT c ∗ posT c) ∗ crdT c ∗ (((c : Thread nD τ).loc main_arg0) ↦{fullShare} m ((c : Thread nD τ).loc main_arg0))
    ∗ (∃ f, (((c : Thread nD τ).loc main_v1) ↦{fullShare} f)))
/-- What the body leaves that the launch's end reads. -/
def left (c : Dev nD) : sProp 𝕄 :=
  iprop(unscopedSems0 c ∗ (((c : Thread nD τ).loc main_arg0) ↦{fullShare} m ((c : Thread nD τ).loc main_arg0))
    ∗ (∃ g, ⌜filled m c g⌝ ∗ (((c : Thread nD τ).loc main_v1) ↦{fullShare} g)))

/-- What the launch hands a device at the start is what its program needs. -/
theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ready m c ∗ emp) := by
  rw [Pipeline.unscopedRestP_none, unscopedRest0_eq]
  iintro ⟨⟨Hx, Ho⟩, Hlev, Hcr, -, HG⟩
  ihave Hc := (creds (F := F) c) $$ Hcr
  unfold G'
  icases HG with ⟨%K, HR, Hp, Hq⟩
  imodintro
  unfold ready
  isplitl
  · isplitl [Hlev HR Hp Hq]
    · iexists K
      unfold recs recs'
      isplitl [Hlev HR]
      · isplitl [HR]; · iexact HR
        iexact Hlev
      isplitl [Hp]; · iexact Hp
      iexact Hq
    isplitl [Hc]; · iexact Hc
    isplitl [Hx]; · iexact Hx
    iexists _; iexact Ho
  · iempintro

/-- What a device is ready with, and its scratch, is what the step begins with. -/
theorem phi_in (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ ready bufs₀
  iintro ⟨⟨HK, Hc, Hx, Ho⟩, -, Hs⟩
  isplitl [HK]; · iexact HK
  isplitl [Hc]; · iexact Hc
  isplitl [Hx]; · iexact Hx
  isplitl [Ho]; · iexact Ho
  iexact Hs

/-- What the step ends with is what is left to the device, its counters at zero and its scratch. -/
theorem phi_out (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ bufs₁ left
  rw [sems_eq]
  iintro ⟨⟨Hu, Hz⟩, Hx, Ho, Hs⟩
  isplitl [Hu Hx Ho]
  · isplitl [Hu]; · iexact Hu
    isplitl [Hx]; · iexact Hx
    iexact Ho
  isplitl [Hz]; · iexact Hz
  iexact Hs

/-- The waits on the pipeline's own staging are below everything owed. -/
theorem waits (c : Dev nD) : (levAts L lv : sProp 𝕄) ⊢ Pipeline.cellsWaits cfgs (dats m ρ) () 0 c :=
  Pipeline.cellsWaits_intro cfgs (dats m ρ) () 0 c fun w s t => by
    refine mayWait_of c _ _ ?_
    have h0 : lvN (num (SemLoc.dma ((cfg0.win w).sem s))) = 0 := by fin_cases w; fin_cases s; decide
    have ht : Ab 0 ((dats m ρ 0 c).owed t) := by
      rcases t with ⟨_ | _, ht⟩
      · exact Ab_O₀ c
      · exact Ab_zero 0
    have hle : ∀ {b : ℕ} {O : Tly}, b = 0 → Ab 0 O → Ab b O := fun h h' => by rw [h]; exact h'
    exact hle h0 ht

/-! ## The run -/

/-- What holds of device `c` when the run is over: the result filled, both arguments as they were, no counter of the launch's left up. -/
def QY (c : Dev nD) (s : MemSt nD τ sig (Elt F)) : Prop :=
  (filled m c (s.mem ((c : Thread nD τ).loc main_v1)) ∧ s.mem ((c : Thread nD τ).loc main_arg0) = m ((c : Thread nD τ).loc main_arg0))
    ∧ ∀ sm : SemLoc sig, sm.isScoped .tc = false → s.sem ((c.tc : Thread nD τ), sm) = 0

/-- What is left to a device at the end says what its memory and its counters hold. -/
theorem read_out (c : Dev nD) (s' : Phys nD τ sig (Elt F)) :
    (iprop(left m c ∗ emp ∗ SI s') : sProp 𝕄) ⊢ |={Set.univ}=> iprop(⌜QY m c s'.mem⌝ ∗ SI s') := by
  unfold left
  iintro ⟨⟨Hu, Hx, ⟨%g, %hg, Ho⟩⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    refine ⟨⟨?_, Buf.eq_of_forall_mem_univ hx⟩, hs⟩
    rw [show s'.mem.mem ((c : Thread nD τ).loc main_v1) = g from Buf.eq_of_forall_mem_univ ho]; exact hg
  iexact HSI

set_option maxRecDepth 8000 in
/-- From any memory whose permutation exchanges the blocks, with every counter at zero: every weakly fair execution on the mesh's
    sixteen devices terminates, and ends with each device's result filled, its arguments as they were and every counter at zero. -/
theorem run_main (hsw : swaps m) : θ_run defs (onTc (τ := τ) (main (F := F))) (s₀ m ρ)
    (fun r => (∀ c : Dev nD, filled m c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hsw) (hne := fun w => by fin_cases w; exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := ready m) (Y := left m) (Z := fun _ => iprop(emp))
    (hX := ready_intro m ρ) (hin := phi_in m ρ) (hout := phi_out m ρ)
    (QY := QY m) (hY := read_out m)
    (hQ := fun _ h hs => ⟨fun c => ⟨(h c).2.2.1.1, (h c).2.2.1.2, ((h c).1 (0 : Fin 1)).trans ((dats (F := F) m ρ 0 c).arrAt_in (0 : Fin 1) rfl _)⟩,
      sem_eq_zero hs fun c => (h c).2.2.2⟩)

end Cert.KernelProof

end
-- ==== Proof.K.Value.lean ====
/-
What the filled output holds: the other half's block of the whole array, rounded.
-/
module

public import proofs.«01_k».proof.Proof.K.Chunks

@[expose] public section

set_option backward.proofsInPublic true

noncomputable section

namespace Cert.KernelProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Two contents of the output that read alike through every row block are the same. -/
theorem rows_ext (c : Dev nD) (g h : (main_v1 : Ref sig .tc).ty.Contents (Elt F))
    (e : ∀ k : Fin 64, (oC k.val).view.read (Elt F) g = (oC k.val).view.read (Elt F) h) : g = h := by
  funext i
  have hi := Finset.mem_univ i
  rw [← row_cover, Finset.mem_biUnion] at hi
  obtain ⟨b, -, hb⟩ := hi
  rw [← oC_set] at hb
  obtain ⟨y, -, rfl⟩ := Finset.mem_map.mp hb
  exact congrFun (e b) y

/-- Rounding and taking a row block commute. -/
theorem round_rows (k : ℕ) (X : FVec F S1x4096x2048 .f32) :
    (oC k).view.read (Elt F) (truncf .bf16 X bitsLt_bf16_f32 : FVec F S1x4096x2048 .bf16)
      = (truncf .bf16 ((xC k).view.read (Elt F) X : FVec F S64x2048 .f32) bitsLt_bf16_f32 : FVec F S64x2048 .bf16) := rfl

/-- Where every device of the mesh's half `h` holds the block `X h`, a filled output is the other half's block, rounded. -/
theorem filled_value (X : ℕ → FVec F S1x4096x2048 .f32) (hX : ∀ d : Dev nD, m ((d : Thread nD τ).loc main_arg0) = X (d.val / 8))
    (c : Dev nD) (g : Buf (Elt F) ((c : Thread nD τ).loc main_v1)) (hg : filled m c g) :
    g = (truncf .bf16 (X (1 - c.val / 8)) bitsLt_bf16_f32 : FVec F S1x4096x2048 .bf16) := by
  refine rows_ext c g _ fun k => ?_
  obtain ⟨j, hj⟩ := (koEq c).surjective k
  have hj' : ko c j.val = k.val := congrArg Fin.val hj
  have h := hg j
  rw [hj'] at h
  rw [h, round_rows]
  unfold bv xv
  rw [← go_half c j, ← hX]

end Cert.KernelProof

end
-- ==== Proof.K.RefValue.lean ====
/-
What the reference computes of the permutation that exchanges the two blocks.
-/
module

public import proofs.«01_k».proof.Proof.Gen.ReferenceIdeal.Run

@[expose] public section

noncomputable section

namespace Cert.RefProof

open Cert.ReferenceIdeal Cert.ReferenceIdeal.Gen
open Idealize.ShloMosaic Idealize.ShloMosaic.TcCoe Idealize.SL.Sem

variable {F : FTy → Type} [FloatOps F]

/-- The permutation's positions in ascending order of its elements, a negative one counted from the end. -/
abbrev order (pi : IVec S2 32) : IVec S2x1 32 :=
  broadcastInDim S2x1 ![0] bcast_S2_S2x1_0 (select (cmpi .slt ((Host.sort2 S2 0 comparator_i32_i32_d0 pi (iotaInDim S2 32 0)).2) (broadcastInDim S2 ![] bcast_S_S2 (constantI S_ 32 0#32))) (addi ((Host.sort2 S2 0 comparator_i32_i32_d0 pi (iotaInDim S2 32 0)).2) (broadcastInDim S2 ![] bcast_S_S2 (constantI S_ 32 2#32))) ((Host.sort2 S2 0 comparator_i32_i32_d0 pi (iotaInDim S2 32 0)).2))

/-- The permutation that exchanges the two blocks. -/
abbrev swapAt (n : ℕ) : BitVec 32 := if n = 0 then 1#32 else 0#32
abbrev piSwap : IVec S2 32 := fun i => swapAt (i 0).val

/-- The positions that put the exchange in ascending order are the exchange. -/
theorem order_swap : order piSwap = fun i => swapAt (i 0).val := by decide

/-- The gather takes, for each block of the result, the block its index names. -/
theorem gather_blocks {α : Type} (x : S2x4096x2048.Idx → α) (p : ℕ → BitVec 32) (y z : S2x4096x2048.Idx)
    (h0 : (z 0).val = min (p (y 0).val).toInt.toNat 1) (h1 : (z 1).val = (y 1).val) (h2 : (z 2).val = (y 2).val) :
    Host.gather gather_S2x4096x2048_S2x1_S2x4096x2048_12_0_n_n_0_1_140962048 x (fun i => p (i 0).val : IVec S2x1 32) y = x z := by
  unfold Host.gather
  congr 1
  funext a
  refine Fin.ext ?_
  show GatherDims.start _ y _ a + GatherDims.batchCoord _ y a + GatherDims.offCoord _ y a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S2x4096x2048_S2x1_S2x4096x2048_12_0_n_n_0_1_140962048.startIndexMap from List.mem_singleton.mpr rfl)]
    exact h0.symm
  · unfold GatherDims.start
    rw [dif_neg (show ¬ (1 : Fin 3) ∈ gather_S2x4096x2048_S2x1_S2x4096x2048_12_0_n_n_0_1_140962048.startIndexMap from by
      show ¬ (1 : Fin 3) ∈ [(0 : Fin 3)]; decide), Nat.zero_add]
    exact h1.symm
  · unfold GatherDims.start
    rw [dif_neg (show ¬ (2 : Fin 3) ∈ gather_S2x4096x2048_S2x1_S2x4096x2048_12_0_n_n_0_1_140962048.startIndexMap from by
      show ¬ (2 : Fin 3) ∈ [(0 : Fin 3)]; decide), Nat.zero_add]
    exact h2.symm

end Cert.RefProof

end
-- ==== Proof.K.Claims.lean ====
/-
The precondition read as a fact of the permutation's buffer, and what it makes of the kernel's and the reference's values.
-/
module

public import proofs.«01_k».proof.Proof.K.Launch
public import proofs.«01_k».proof.Proof.K.Value
public import proofs.«01_k».proof.Proof.K.RefValue
public import proofs.«01_k».proof.Proof.Gen.Pre_exchange_Kernel
public import Idealize.ShloMosaic.Lib.Layout

@[expose] public section

noncomputable section

namespace Cert.KernelProof

open Cert.Kernel Cert.Kernel.Gen Cert.RefProof
open Idealize.ShloMosaic Idealize.ShloMosaic.TcCoe Idealize.SL.Sem

variable {F : FTy → Type} [FloatOps F]

/-- The permutation's two positions. -/
def ix0 : S2.Idx := fun a => ⟨0, by revert a; decide⟩
def ix1 : S2.Idx := fun a => ⟨1, by revert a; decide⟩

/-- The precondition of a device's buffers says that its permutation is the exchange. -/
theorem exchange_pi (a : FVec F S1x4096x2048 .f32) (pi : IVec S2 32)
    (h : Cert.Pre_exchange_Kernel.fn (F := F) a pi = fun _ => 1#1) : pi = piSwap := by
  have h0 := congrFun h (fun a => a.elim0)
  have e : ∃ i j : S2.Idx, Cert.Pre_exchange_Kernel.fn (F := F) a pi (fun a => a.elim0)
      = Scalar.cmpi .eq (pi i) 1#32 &&& Scalar.cmpi .eq (pi j) 0#32 ∧ (i 0).val = 0 ∧ (j 0).val = 1 :=
    ⟨_, _, rfl, by decide +kernel, by decide +kernel⟩
  obtain ⟨i, j, e, hi, hj⟩ := e
  rw [show i = ix0 from funext fun a => by rw [Fin.eq_zero a]; exact Fin.ext hi,
    show j = ix1 from funext fun a => by rw [Fin.eq_zero a]; exact Fin.ext hj] at e
  rw [e] at h0
  have both : ∀ a b : BitVec 32, Scalar.cmpi .eq a 1#32 &&& Scalar.cmpi .eq b 0#32 = 1#1 → a = 1#32 ∧ b = 0#32 := by
    intro a b hab
    have hab' : BitVec.ofBool (a == 1#32) &&& BitVec.ofBool (b == 0#32) = 1#1 := hab
    have hb : ∀ p q : Bool, BitVec.ofBool p &&& BitVec.ofBool q = 1#1 → p = true ∧ q = true := by decide
    exact ⟨eq_of_beq (hb _ _ hab').1, eq_of_beq (hb _ _ hab').2⟩
  obtain ⟨h1, h2⟩ := both _ _ h0
  funext i
  have hi : i = ix0 ∨ i = ix1 := by
    have : ∀ j : S2.Idx, j = ix0 ∨ j = ix1 := by decide
    exact this i
  rcases hi with rfl | rfl
  · exact h1
  · exact h2

/-- Of the exchange, every device reads that the other half's block is to come to it. -/
theorem swaps_of (m : (ℓ : Loc nD τ sig) → Buf (Elt F) ℓ)
    (h : ∀ c : Dev nD, m ((c : Thread nD τ).loc main_arg1) = (piSwap : IVec S2 32)) : swaps m := by
  intro c
  unfold piStg
  rw [h c]
  revert c
  exact of_decide_eq_true rfl

/-- Block `n` of the whole array along its first axis (the devices `8 n`, …, `8 n + 7` hold it). -/
def blockOf {α : Type} (x : Cert.ReferenceIdeal.S2x4096x2048.Idx → α) (n : ℕ) : S1x4096x2048.Idx → α :=
  Layout.blockN ⟨3, ![1, 4096, 2048]⟩ ⟨3, ![2, 4096, 2048]⟩ (Layout.meshBlock [2, 2, 4] ![[0], [], []] (⟨8 * (n % 2), by omega⟩ : Fin 16)) x

/-- A device holds the block that the first device of its half of the mesh holds. -/
theorem mesh_block (c : Fin 16) : (Layout.meshBlock [2, 2, 4] ![[0], [], []] c : (b : Fin 3) → _)
    = Layout.meshBlock [2, 2, 4] ![[0], [], []] (⟨8 * (c.val / 8 % 2), by omega⟩ : Fin 16) := by
  have h : ∀ (c : Fin 16) (b : Fin 3), Layout.meshLin [2, 2, 4] c.val ((![[0], [], []] : Fin 3 → List ℕ) b)
      = Layout.meshLin [2, 2, 4] (8 * (c.val / 8 % 2)) ((![[0], [], []] : Fin 3 → List ℕ) b) := by decide
  funext b
  exact Fin.ext (h c b)

/-- What a device holds of the whole array depends on its half of the mesh only. -/
theorem block_half {α : Type} (x : Cert.ReferenceIdeal.S2x4096x2048.Idx → α) (c : Fin 16) :
    Layout.blockN ⟨3, ![1, 4096, 2048]⟩ ⟨3, ![2, 4096, 2048]⟩ (Layout.meshBlock [2, 2, 4] ![[0], [], []] c) x = blockOf x (c.val / 8) := by
  unfold blockOf
  rw [mesh_block c]

/-- The reference's result under the exchange: a device's block of it is the other half's block, rounded. -/
theorem reference_block (x : FVec F Cert.ReferenceIdeal.S2x4096x2048 .f32) (c : Fin 16) :
    Layout.blockN ⟨3, ![1, 4096, 2048]⟩ ⟨3, ![2, 4096, 2048]⟩ (Layout.meshBlock [2, 2, 4] ![[0], [], []] c)
      (truncf .bf16 (Host.gather Cert.ReferenceIdeal.gather_S2x4096x2048_S2x1_S2x4096x2048_12_0_n_n_0_1_140962048 x (order piSwap))
        Cert.ReferenceIdeal.Gen.bitsLt_bf16_f32 : FVec F Cert.ReferenceIdeal.S2x4096x2048 .bf16)
      = (truncf .bf16 (blockOf x (1 - c.val / 8)) bitsLt_bf16_f32 : FVec F S1x4096x2048 .bf16) := by
  have h : ∀ c : Fin 16, Layout.meshLin [2, 2, 4] (8 * ((1 - c.val / 8) % 2)) [0]
      = min (swapAt (Layout.meshLin [2, 2, 4] c.val [0])).toInt.toNat 1 := by decide
  funext i
  have hi : (i 0).val = 0 := Nat.lt_one_iff.mp (i 0).isLt
  have e := gather_blocks x swapAt
    ((by decide : Layout.TilesN ⟨3, ![1, 4096, 2048]⟩ ⟨3, ![2, 4096, 2048]⟩ _).idx (Layout.meshBlock [2, 2, 4] ![[0], [], []] c) i)
    ((by decide : Layout.TilesN ⟨3, ![1, 4096, 2048]⟩ ⟨3, ![2, 4096, 2048]⟩ _).idx
      (Layout.meshBlock [2, 2, 4] ![[0], [], []] (⟨8 * ((1 - c.val / 8) % 2), by omega⟩ : Fin 16)) i)
    (by
      rw [Layout.TilesN.idx_val, Layout.TilesN.idx_val]
      show Layout.meshLin [2, 2, 4] (8 * ((1 - c.val / 8) % 2)) [0] * 1 + (i 0).val
        = min (swapAt (Layout.meshLin [2, 2, 4] c.val [0] * 1 + (i 0).val)).toInt.toNat 1
      rw [hi, Nat.mul_one, Nat.mul_one, Nat.add_zero, Nat.add_zero]
      exact h c)
    rfl rfl
  rw [order_swap]
  exact congrArg (fun v : F .f32 => FloatOps.truncf (F := F) .bf16 bitsLt_bf16_f32 v) e

end Cert.KernelProof

end
-- ==== Proof.K.Frames.lean ====
/-
Every claim of the certificate but the assembly: the kernel's run and its idealization's, the reference's, and the two values alike.
-/
module

public import proofs.«01_k».proof.Defs
public import proofs.«01_k».proof.Proof.K.Two
public import proofs.«01_k».proof.Proof.K.Claims
public import proofs.«01_k».proof.Proof.Gen.ReferenceIdeal.Run
public import proofs.«01_k».proof.Proof.Gen.Pre_exchange_ReferenceIdeal
public import Idealize.ShloMosaic.Lib.Quiescent

@[expose] public section

noncomputable section

namespace Cert.KernelProof

open Cert.RefProof
open Idealize.ShloMosaic Idealize.ShloMosaic.TcCoe Idealize.SL.Sem

variable {F : FTy → Type} [FloatOps F]

/-- Under the precondition the kernel ends with every device's output filled, its arguments as they were, all counters at zero. -/
theorem kernel_run (m : (ℓ : Loc Cert.Kernel.nD Cert.Kernel.τ Cert.Kernel.sig) → Buf (Elt F) ℓ) (g : Dev Cert.Kernel.nD → PrngReg)
    (h : ∀ c : Dev Cert.Kernel.nD, Cert.Pre_exchange_Kernel.fn (F := F) (m ((c : Thread Cert.Kernel.nD Cert.Kernel.τ).loc Cert.Kernel.main_arg0))
      (m ((c : Thread Cert.Kernel.nD Cert.Kernel.τ).loc Cert.Kernel.main_arg1)) = fun _ => 1#1) :
    θ_run (Cert.Kernel.defs (F := F)) (onTc (τ := Cert.Kernel.τ) (Cert.Kernel.main (F := F))) ⟨m, fun _ => 0, g⟩ (fun r =>
      (∀ c : Dev Cert.Kernel.nD, filled m c (r.2.mem ((c : Thread Cert.Kernel.nD Cert.Kernel.τ).loc Cert.Kernel.main_v1))
        ∧ r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
      ∧ r.2.sem = fun _ => 0) :=
  run_main m g (swaps_of m fun c => exchange_pi _ _ (h c))

/-- `frame(P)`: the kernel, as compiled, runs, keeps its arguments and ends quiescent. -/
theorem frame_kernel : Cert.quiescent_Kernel := fun m g h =>
  (θ_run _ _ _).mono (fun _ H => ⟨fun c => (H.1 c).2, H.2⟩) (kernel_run m g h)

/-- The idealization is the same program, so it runs the same. -/
theorem ideal_run (m : (ℓ : Loc Cert.KernelIdeal.nD Cert.KernelIdeal.τ Cert.KernelIdeal.sig) → Buf (Elt F) ℓ) (g : Dev Cert.KernelIdeal.nD → PrngReg)
    (h : ∀ c : Dev Cert.Kernel.nD, Cert.Pre_exchange_Kernel.fn (F := F) (m ((c : Thread Cert.Kernel.nD Cert.Kernel.τ).loc Cert.Kernel.main_arg0))
      (m ((c : Thread Cert.Kernel.nD Cert.Kernel.τ).loc Cert.Kernel.main_arg1)) = fun _ => 1#1) :
    θ_run (Cert.KernelIdeal.defs (F := F)) (onTc (τ := Cert.KernelIdeal.τ) (Cert.KernelIdeal.main (F := F))) ⟨m, fun _ => 0, g⟩ (fun r =>
      (∀ c : Dev Cert.Kernel.nD, filled (F := F) m c (r.2.mem ((c : Thread Cert.Kernel.nD Cert.Kernel.τ).loc Cert.Kernel.main_v1))
        ∧ r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
      ∧ r.2.sem = fun _ => 0) := by
  rw [main_eq, defs_eq]
  exact kernel_run m g h

/-- `frame(PI)`: so does its idealization. -/
theorem frame_ideal : Cert.quiescent_KernelIdeal := fun m g h =>
  (θ_run _ _ _).mono (fun _ H => ⟨fun c => (H.1 c).2, H.2⟩) (ideal_run m g h)

/-- `frame(RI)`: the reference runs from every memory, keeps its arguments and has no counter to leave up. -/
theorem frame_ref : Cert.quiescent_ReferenceIdeal := fun m g _ =>
  (θ_run _ _ _).mono (fun r H => ⟨fun c => (H c).2, sem_eq_zero_of_no_sems rfl r.2⟩) (Cert.ReferenceIdeal.Value.run m g)

/-- The same where its permutation is the exchange. -/
theorem frame_ref_pre : Cert.quiescent_ReferenceIdeal_pre_exchange_ReferenceIdeal := fun m g _ =>
  (θ_run _ _ _).mono (fun r H => ⟨fun c => (H c).2, sem_eq_zero_of_no_sems rfl r.2⟩) (Cert.ReferenceIdeal.Value.run m g)

/-- `algebraic(PI, RI)`: each device's result is its block of the reference's. -/
theorem algebraic : Cert.algebraic_KernelIdeal_ReferenceIdeal := by
  intro m g m' g' h hm
  have hpi : m' (((0 : Dev Cert.ReferenceIdeal.nD).tc : Thread Cert.ReferenceIdeal.nD Cert.ReferenceIdeal.τ).loc Cert.ReferenceIdeal.main_arg1) = (piSwap : IVec Cert.ReferenceIdeal.S2 32) :=
    (hm (0 : Fin 16)).2.symm.trans (exchange_pi _ _ (h (0 : Fin 16)))
  refine ⟨_, (θ_run _ _ _).mono (fun r H c => ⟨?_, (H.1 c).2⟩) (ideal_run m g h),
    (θ_run _ _ _).mono (fun r H => H 0) (Cert.ReferenceIdeal.Value.run m' g')⟩
  have e := filled_value (F := Ideal) m (blockOf (m' (((0 : Dev Cert.ReferenceIdeal.nD).tc : Thread Cert.ReferenceIdeal.nD Cert.ReferenceIdeal.τ).loc Cert.ReferenceIdeal.main_arg0)))
    (fun d => ((hm d).1).trans (block_half _ d)) c _ (H.1 c).1
  refine e.trans ((reference_block _ c).symm.trans ?_)
  rw [hpi]

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_exchange_Kernel
public import proofs.«01_k».proof.Proof.Gen.Pre_exchange_ReferenceIdeal
public import proofs.«01_k».proof.Proof.K.Frames

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_exchange_Kernel.Gen.facts, Cert.Pre_exchange_ReferenceIdeal.Gen.facts,
  Cert.KernelProof.frame_kernel, Cert.KernelProof.frame_ideal, Cert.KernelProof.frame_ref, Cert.KernelProof.frame_ref_pre, trivial, Cert.KernelProof.algebraic⟩

end Cert.Proof

end
